-- ==== Defs.lean ====
def Pre_Kernel [hPre_pos_in_range : Cert.Pre_pos_in_range.Facts] (m : (ℓ : Loc Cert.Kernel.nD Cert.Kernel.τ Cert.Kernel.sig) → Buf (Elt Bits) ℓ) : Prop :=
  ∀ c : Dev Cert.Kernel.nD,
    (Cert.Pre_pos_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_pos_in_range : Cert.Pre_pos_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_pos_in_range_w_finite [hPre_pos_in_range_w_finite : Cert.Pre_pos_in_range_w_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_range_w_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_in_range_w_finite [hPre_pos_in_range_w_finite : Cert.Pre_pos_in_range_w_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_range_w_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_pos_in_range : Cert.Pre_pos_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_pos_in_range : Cert.Pre_pos_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pos_in_range_w_finite [hKernelIdeal : Cert.KernelIdeal.Facts] [hPre_pos_in_range_w_finite : Cert.Pre_pos_in_range_w_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pos_in_range_w_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pos_in_range_w_finite [hReferenceIdeal : Cert.ReferenceIdeal.Facts] [hPre_pos_in_range_w_finite : Cert.Pre_pos_in_range_w_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_in_range_w_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_pos_in_range_w_finite [hKernelIdeal : Cert.KernelIdeal.Facts] [hReferenceIdeal : Cert.ReferenceIdeal.Facts] [hPre_pos_in_range_w_finite : Cert.Pre_pos_in_range_w_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pos_in_range_w_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v80)) (v2 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_v82) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_pos_in_range : Cert.Pre_pos_in_range.Facts) (hPre_pos_in_range_w_finite : Cert.Pre_pos_in_range_w_finite.Facts),
    quiescent_Kernel (hKernel := hKernel) (hPre_pos_in_range := hPre_pos_in_range)
    ∧ quiescent_KernelIdeal (hKernelIdeal := hKernelIdeal) (hPre_pos_in_range := hPre_pos_in_range)
    ∧ quiescent_KernelIdeal_pre_pos_in_range_w_finite (hKernelIdeal := hKernelIdeal) (hPre_pos_in_range_w_finite := hPre_pos_in_range_w_finite)
    ∧ quiescent_ReferenceIdeal (hReferenceIdeal := hReferenceIdeal)
    ∧ quiescent_ReferenceIdeal_pre_pos_in_range_w_finite (hReferenceIdeal := hReferenceIdeal) (hPre_pos_in_range_w_finite := hPre_pos_in_range_w_finite)
    ∧ preserves_Kernel_KernelIdeal
    ∧ algebraic_KernelIdeal_ReferenceIdeal_pre_pos_in_range_w_finite (hKernelIdeal := hKernelIdeal) (hReferenceIdeal := hReferenceIdeal) (hPre_pos_in_range_w_finite := hPre_pos_in_range_w_finite)
-- ==== Pre_pos_in_range.lean ====
abbrev S8192x8192 : Shape := ⟨2, ![8192, 8192]⟩
abbrev S8192 : Shape := ⟨1, ![8192]⟩
abbrev S1024 : Shape := ⟨1, ![1024]⟩
abbrev S1024x8192 : Shape := ⟨2, ![1024, 8192]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S8192x8192 .f32) (main_arg1 : FVec F S8192 .f32) (main_arg2 : FVec F S8192 .f32) (main_arg3 : IVec S1024 32) (main_arg4 : FVec F S1024 .f32) (main_arg5 : IVec S1024 32) (main_arg6 : FVec F S1024x8192 .f32) : IVec S1024 1 :=
  let main_c : IVec S_ 32 := constantI S_ 32 0#32
  let main_v0 : IVec S1024 32 := broadcastInDim S1024 ![] bcast_S_S1024 main_c
  let main_v1 : IVec S1024 1 := cmpi .sge main_arg3 main_v0
  let main_c_0 : IVec S_ 32 := constantI S_ 32 8192#32
  let main_v2 : IVec S1024 32 := broadcastInDim S1024 ![] bcast_S_S1024 main_c_0
  let main_v3 : IVec S1024 1 := cmpi .slt main_arg3 main_v2
  let main_v4 : IVec S1024 1 := andi main_v1 main_v3
  main_v4
-- ==== Pre_pos_in_range_w_finite.lean ====
abbrev S8192x8192 : Shape := ⟨2, ![8192, 8192]⟩
abbrev S8192 : Shape := ⟨1, ![8192]⟩
abbrev S1024 : Shape := ⟨1, ![1024]⟩
abbrev S1024x8192 : Shape := ⟨2, ![1024, 8192]⟩
abbrev S_ : Shape := ⟨0, ![]⟩
abbrev S8x1024x8192 : Shape := ⟨3, ![8, 1024, 8192]⟩
abbrev S1x1024x1 : Shape := ⟨3, ![1, 1024, 1]⟩

class Facts : Prop where
  bcast_S_S1024 : S_.BroadcastsInDim S1024 (![] : Fin 0 → Fin S1024.rank)
  bcast_S_S8192x8192 : S_.BroadcastsInDim S8192x8192 (![] : Fin 0 → Fin S8192x8192.rank)
  shapeCasts_S8192x8192_S8x1024x8192 : S8192x8192.ShapeCasts S8x1024x8192
  bcast_S1024_S1x1024x1_1 : S1024.BroadcastsInDim S1x1024x1 (![1] : Fin 1 → Fin S1x1024x1.rank)
  bcast_S1x1024x1_S8x1024x8192_0_1_2 : S1x1024x1.BroadcastsInDim S8x1024x8192 (![0, 1, 2] : Fin 3 → Fin S8x1024x8192.rank)

variable [Facts]

def fn {F : FTy → Type} [FloatOps F] (main_arg0 : FVec F S8192x8192 .f32) (main_arg1 : FVec F S8192 .f32) (main_arg2 : FVec F S8192 .f32) (main_arg3 : IVec S1024 32) (main_arg4 : FVec F S1024 .f32) (main_arg5 : IVec S1024 32) (main_arg6 : FVec F S1024x8192 .f32) : IVec S8x1024x8192 1 :=
  let main_c : IVec S_ 32 := constantI S_ 32 0#32
  let main_v0 : IVec S1024 32 := broadcastInDim S1024 ![] bcast_S_S1024 main_c
  let main_v1 : IVec S1024 1 := cmpi .sge main_arg3 main_v0
  let main_c_0 : IVec S_ 32 := constantI S_ 32 8192#32
  let main_v2 : IVec S1024 32 := broadcastInDim S1024 ![] bcast_S_S1024 main_c_0
  let main_v3 : IVec S1024 1 := cmpi .slt main_arg3 main_v2
  let main_v4 : IVec S1024 1 := andi main_v1 main_v3
  let main_v5 : FVec F S8192x8192 .f32 := Host.absf main_arg0
  let main_cst : FVec F S_ .f32 := constant S_ .f32 0x7F800000#32
  let main_v6 : FVec F S8192x8192 .f32 := broadcastInDim S8192x8192 ![] bcast_S_S8192x8192 main_cst
  let main_v7 : IVec S8192x8192 1 := cmpf .olt main_v5 main_v6
  let main_v8 : IVec S8x1024x8192 1 := shapeCast S8x1024x8192 main_v7 shapeCasts_S8192x8192_S8x1024x8192
  let main_v9 : IVec S1x1024x1 1 := broadcastInDim S1x1024x1 ![1] bcast_S1024_S1x1024x1_1 main_v4
  let main_v10 : IVec S8x1024x8192 1 := broadcastInDim S8x1024x8192 ![0, 1, 2] bcast_S1x1024x1_S8x1024x8192_0_1_2 main_v9
  let main_v11 : IVec S8x1024x8192 1 := andi main_v8 main_v10
  main_v11
-- ==== Kernel.lean ====
abbrev S8192x8192 : Shape := ⟨2, ![8192, 8192]⟩
abbrev S8192 : Shape := ⟨1, ![8192]⟩
abbrev S1024 : Shape := ⟨1, ![1024]⟩
abbrev S1024x8192 : Shape := ⟨2, ![1024, 8192]⟩
abbrev S_ : Shape := ⟨0, ![]⟩
abbrev S1024x1 : Shape := ⟨2, ![1024, 1]⟩
abbrev S1023 : Shape := ⟨1, ![1023]⟩
abbrev S1 : Shape := ⟨1, ![1]⟩
abbrev S16 : Shape := ⟨1, ![16]⟩
abbrev S1040 : Shape := ⟨1, ![1040]⟩
abbrev S1x8192 : Shape := ⟨2, ![1, 8192]⟩
abbrev S32x1x256 : Shape := ⟨3, ![32, 1, 256]⟩
abbrev S1x1x256 : Shape := ⟨3, ![1, 1, 256]⟩
abbrev S256x8192 : Shape := ⟨2, ![256, 8192]⟩
abbrev S1x256 : Shape := ⟨2, ![1, 256]⟩
abbrev S48 : Shape := ⟨1, ![48]⟩
abbrev S32 : Shape := ⟨1, ![32]⟩

abbrev nBuf : Table → Nat
  | .hbm => 124
  | .local .tc .vmem => 11
  | .local .scVector .vmem => 9
  | _ => 0

abbrev bufTy : (tb : Table) → Fin (nBuf tb) → BufTy
  | .hbm, ⟨0, _⟩ => ⟨S8192x8192, .f32⟩
  | .hbm, ⟨1, _⟩ => ⟨S8192, .f32⟩
  | .hbm, ⟨2, _⟩ => ⟨S8192, .f32⟩
  | .hbm, ⟨3, _⟩ => ⟨S1024, .i32⟩
  | .hbm, ⟨4, _⟩ => ⟨S1024, .f32⟩
  | .hbm, ⟨5, _⟩ => ⟨S1024, .i32⟩
  | .hbm, ⟨6, _⟩ => ⟨S1024x8192, .f32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024, .i32⟩
  | .hbm, ⟨19, _⟩ => ⟨S1023, .i32⟩
  | .hbm, ⟨20, _⟩ => ⟨S1023, .i32⟩
  | .hbm, ⟨21, _⟩ => ⟨S1023, .i1⟩
  | .hbm, ⟨22, _⟩ => ⟨S1023, .i32⟩
  | .hbm, ⟨23, _⟩ => ⟨S_, .i32⟩
  | .hbm, ⟨24, _⟩ => ⟨S1, .i32⟩
  | .hbm, ⟨25, _⟩ => ⟨S1024, .i32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S1024x1, .i32⟩
  | .hbm, ⟨37, _⟩ => ⟨S1024, .f32⟩
  | .hbm, ⟨38, _⟩ => ⟨S_, .i32⟩
  | .hbm, ⟨39, _⟩ => ⟨S_, .i32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i32⟩
  | .hbm, ⟨44, _⟩ => ⟨S1024, .i32⟩
  | .hbm, ⟨45, _⟩ => ⟨S_, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S_, .i32⟩
  | .hbm, ⟨56, _⟩ => ⟨S1024, .i32⟩
  | .hbm, ⟨57, _⟩ => ⟨S1024, .i32⟩
  | .hbm, ⟨58, _⟩ => ⟨S_, .i32⟩
  | .hbm, ⟨59, _⟩ => ⟨S1024, .i32⟩
  | .hbm, ⟨60, _⟩ => ⟨S_, .i32⟩
  | .hbm, ⟨61, _⟩ => ⟨S1024, .i32⟩
  | .hbm, ⟨62, _⟩ => ⟨S1024, .i1⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S1024, .i32⟩
  | .hbm, ⟨67, _⟩ => ⟨S1024x1, .i32⟩
  | .hbm, ⟨68, _⟩ => ⟨S1024, .i32⟩
  | .hbm, ⟨69, _⟩ => ⟨S_, .i32⟩
  | .hbm, ⟨70, _⟩ => ⟨S1024, .i32⟩
  | .hbm, ⟨71, _⟩ => ⟨S1024, .i1⟩
  | .hbm, ⟨72, _⟩ => ⟨S_, .i32⟩
  | .hbm, ⟨73, _⟩ => ⟨S_, .i32⟩
  | .hbm, ⟨74, _⟩ => ⟨S1024, .i32⟩
  | .hbm, ⟨75, _⟩ => ⟨S1024, .i32⟩
  | .hbm, ⟨76, _⟩ => ⟨S_, .i32⟩
  | .hbm, ⟨77, _⟩ => ⟨S1024, .i32⟩
  | .hbm, ⟨78, _⟩ => ⟨S_, .i32⟩
  | .hbm, ⟨79, _⟩ => ⟨S1024, .i32⟩
  | .hbm, ⟨80, _⟩ => ⟨S1024, .i1⟩
  | .hbm, ⟨81, _⟩ => ⟨S_, .i32⟩
  | .hbm, ⟨82, _⟩ => ⟨S1024, .i32⟩
  | .hbm, ⟨83, _⟩ => ⟨S1024, .i32⟩
  | .hbm, ⟨84, _⟩ => ⟨S1024, .i32⟩
  | .hbm, ⟨85, _⟩ => ⟨S1024x1, .i32⟩
  | .hbm, ⟨86, _⟩ => ⟨S1024, .i32⟩
  | .hbm, ⟨87, _⟩ => ⟨S_, .i32⟩
  | .hbm, ⟨88, _⟩ => ⟨S16, .i32⟩
  | .hbm, ⟨89, _⟩ => ⟨S1040, .i32⟩
  | .hbm, ⟨90, _⟩ => ⟨S1040, .i32⟩
  | .hbm, ⟨91, _⟩ => ⟨S1040, .i32⟩
  | .hbm, ⟨92, _⟩ => ⟨S1040, .i32⟩
  | .hbm, ⟨93, _⟩ => ⟨S_, .f32⟩
  | .hbm, ⟨94, _⟩ => ⟨S16, .f32⟩
  | .hbm, ⟨95, _⟩ => ⟨S1040, .f32⟩
  | .hbm, ⟨96, _⟩ => ⟨S_, .i32⟩
  | .hbm, ⟨97, _⟩ => ⟨S1024, .i32⟩
  | .hbm, ⟨98, _⟩ => ⟨S1024, .i1⟩
  | .hbm, ⟨99, _⟩ => ⟨S_, .f32⟩
  | .hbm, ⟨100, _⟩ => ⟨S8192, .f32⟩
  | .hbm, ⟨101, _⟩ => ⟨S1024, .f32⟩
  | .hbm, ⟨102, _⟩ => ⟨S_, .i32⟩
  | .hbm, ⟨103, _⟩ => ⟨S1024, .i32⟩
  | .hbm, ⟨104, _⟩ => ⟨S1024, .i1⟩
  | .hbm, ⟨105, _⟩ => ⟨S_, .i32⟩
  | .hbm, ⟨106, _⟩ => ⟨S1024, .i32⟩
  | .hbm, ⟨107, _⟩ => ⟨S1024, .i32⟩
  | .hbm, ⟨108, _⟩ => ⟨S1024, .i32⟩
  | .hbm, ⟨109, _⟩ => ⟨S1024x1, .i32⟩
  | .hbm, ⟨110, _⟩ => ⟨S8192, .f32⟩
  | .hbm, ⟨111, _⟩ => ⟨S_, .f32⟩
  | .hbm, ⟨112, _⟩ => ⟨S8192, .f32⟩
  | .hbm, ⟨113, _⟩ => ⟨S8192, .f32⟩
  | .hbm, ⟨114, _⟩ => ⟨S1x8192, .f32⟩
  | .hbm, ⟨115, _⟩ => ⟨S32x1x256, .f32⟩
  | .hbm, ⟨116, _⟩ => ⟨S32x1x256, .f32⟩
  | .hbm, ⟨117, _⟩ => ⟨S8192x8192, .f32⟩
  | .hbm, ⟨118, _⟩ => ⟨S32x1x256, .f32⟩
  | .hbm, ⟨119, _⟩ => ⟨S8192x8192, .f32⟩
  | .hbm, ⟨120, _⟩ => ⟨S8192, .f32⟩
  | .hbm, ⟨121, _⟩ => ⟨S_, .f32⟩
  | .hbm, ⟨122, _⟩ => ⟨S1024, .f32⟩
  | .hbm, ⟨123, _⟩ => ⟨S1024, .f32⟩
  | .local .tc .vmem, ⟨0, _⟩ => ⟨S1x8192, .f32⟩
  | .local .tc .vmem, ⟨1, _⟩ => ⟨S1x1x256, .f32⟩
  | .local .tc .vmem, ⟨2, _⟩ => ⟨S1x1x256, .f32⟩
  | .local .tc .vmem, ⟨3, _⟩ => ⟨S1x1x256, .f32⟩
  | .local .tc .vmem, ⟨4, _⟩ => ⟨S1x1x256, .f32⟩
  | .local .tc .vmem, ⟨5, _⟩ => ⟨S256x8192, .f32⟩
  | .local .tc .vmem, ⟨6, _⟩ => ⟨S256x8192, .f32⟩
  | .local .tc .vmem, ⟨7, _⟩ => ⟨S256x8192, .f32⟩
  | .local .tc .vmem, ⟨8, _⟩ => ⟨S256x8192, .f32⟩
  | .local .tc .vmem, ⟨9, _⟩ => ⟨S1x1x256, .f32⟩
  | .local .tc .vmem, ⟨10, _⟩ => ⟨S1x1x256, .f32⟩
  | .local .scVector .vmem, ⟨0, _⟩ => ⟨S8192, .f32⟩
  | .local .scVector .vmem, ⟨1, _⟩ => ⟨S8192, .f32⟩
  | .local .scVector .vmem, ⟨2, _⟩ => ⟨S8192, .f32⟩
  | .local .scVector .vmem, ⟨3, _⟩ => ⟨S8192, .f32⟩
  | .local .scVector .vmem, ⟨4, _⟩ => ⟨S48, .i32⟩
  | .local .scVector .vmem, ⟨5, _⟩ => ⟨S48, .i32⟩
  | .local .scVector .vmem, ⟨6, _⟩ => ⟨S48, .i32⟩
  | .local .scVector .vmem, ⟨7, _⟩ => ⟨S1040, .i32⟩
  | .local .scVector .vmem, ⟨8, _⟩ => ⟨S1040, .f32⟩
  | _, _ => ⟨S8192x8192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1_0 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_call0_c : Ref sig .tc := ⟨.hbm, 38, rfl⟩
abbrev main_call1_call0_v0 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_c_13 : Ref sig .tc := ⟨.hbm, 72, rfl⟩
abbrev main_call2_v0 : Ref sig .tc := ⟨.hbm, 73, rfl⟩
abbrev main_call2_v1 : Ref sig .tc := ⟨.hbm, 74, rfl⟩
abbrev main_v46 : Ref sig .tc := ⟨.hbm, 75, rfl⟩
abbrev main_c_14 : Ref sig .tc := ⟨.hbm, 76, rfl⟩
abbrev main_v47 : Ref sig .tc := ⟨.hbm, 77, rfl⟩
abbrev main_c_15 : Ref sig .tc := ⟨.hbm, 78, rfl⟩
abbrev main_v48 : Ref sig .tc := ⟨.hbm, 79, rfl⟩
abbrev main_v49 : Ref sig .tc := ⟨.hbm, 80, rfl⟩
abbrev main_c_16 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_17 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_18 : Ref sig .tc := ⟨.hbm, 93, rfl⟩
abbrev main_v60 : Ref sig .tc := ⟨.hbm, 94, rfl⟩
abbrev main_v61 : Ref sig .tc := ⟨.hbm, 95, rfl⟩
abbrev main_c_19 : Ref sig .tc := ⟨.hbm, 96, rfl⟩
abbrev main_v62 : Ref sig .tc := ⟨.hbm, 97, rfl⟩
abbrev main_v63 : Ref sig .tc := ⟨.hbm, 98, rfl⟩
abbrev main_cst_20 : Ref sig .tc := ⟨.hbm, 99, rfl⟩
abbrev main_v64 : Ref sig .tc := ⟨.hbm, 100, rfl⟩
abbrev main_v65 : Ref sig .tc := ⟨.hbm, 101, rfl⟩
abbrev main_c_21 : Ref sig .tc := ⟨.hbm, 102, rfl⟩
abbrev main_v66 : Ref sig .tc := ⟨.hbm, 103, rfl⟩
abbrev main_v67 : Ref sig .tc := ⟨.hbm, 104, rfl⟩
abbrev main_c_22 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_23 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78_0 : Ref sig .tc := ⟨.hbm, 117, rfl⟩
abbrev main_v78_1 : Ref sig .tc := ⟨.hbm, 118, rfl⟩
abbrev main_v79 : Ref sig .tc := ⟨.hbm, 119, rfl⟩
abbrev main_v80 : Ref sig .tc := ⟨.hbm, 120, rfl⟩
abbrev main_cst_24 : Ref sig .tc := ⟨.hbm, 121, rfl⟩
abbrev main_v81 : Ref sig .tc := ⟨.hbm, 122, rfl⟩
abbrev main_v82 : Ref sig .tc := ⟨.hbm, 123, rfl⟩
abbrev main_arg0_scv : Ref sig .scVector := ⟨.hbm, 0, rfl⟩
abbrev main_arg6_scv : Ref sig .scVector := ⟨.hbm, 6, rfl⟩
abbrev main_v56_scv : Ref sig .scVector := ⟨.hbm, 89, rfl⟩
abbrev main_v57_scv : Ref sig .scVector := ⟨.hbm, 90, rfl⟩
abbrev main_v58_scv : Ref sig .scVector := ⟨.hbm, 91, rfl⟩
abbrev main_v59_scv : Ref sig .scVector := ⟨.hbm, 92, rfl⟩
abbrev main_v61_scv : Ref sig .scVector := ⟨.hbm, 95, rfl⟩
abbrev main_v79_scv : Ref sig .scVector := ⟨.hbm, 119, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c32_i32 : BitVec 32 := 32#32
  let v3 : BitVec 32 := Scalar.muli v2 c32_i32
  ![v3.toNat]
@[reducible] def k1_t1_loop : Scf.Loop 32 :=
  let c0_i32_0 : BitVec 32 := 0#32
  let c64_i32 : BitVec 32 := 64#32
  let v5 : BitVec 32 := Scalar.addi c0_i32_0 c64_i32
  let c1_i32 : BitVec 32 := 1#32
  ⟨c0_i32_0, v5, c1_i32⟩
def k1_off2 (k1_t1 : Fin k1_t1_loop.trips) (c0_i32_7 : BitVec 32) : Fin 1 → Nat :=
  let c0_i32_0 : BitVec 32 := 0#32
  let c1_i32 : BitVec 32 := 1#32
  let arg20 : BitVec 32 := Scf.iv c0_i32_0 c1_i32 k1_t1
  let c8_i32 : BitVec 32 := 8#32
  let v9 : BitVec 32 := Scalar.muli arg20 c8_i32
  let v10 : BitVec 32 := Scalar.addi v9 c0_i32_7
  let c16_i32 : BitVec 32 := 16#32
  let v11 : BitVec 32 := Scalar.muli v10 c16_i32
  let v12 : Index := Scalar.indexCast v11
  ![v12.toNat]
@[reducible] def k1_t2_loop : Scf.Loop 32 :=
  let c0_i32_3 : BitVec 32 := 0#32
  let c32_i32_4 : BitVec 32 := 32#32
  let v7 : BitVec 32 := Scalar.addi c0_i32_3 c32_i32_4
  let c1_i32_5 : BitVec 32 := 1#32
  ⟨c0_i32_3, v7, c1_i32_5⟩
def k1_off3 (k1_t2 : Fin k1_t2_loop.trips) : Fin 1 → Nat :=
  let c0_i32_3 : BitVec 32 := 0#32
  let c1_i32_5 : BitVec 32 := 1#32
  let arg20 : BitVec 32 := Scf.iv c0_i32_3 c1_i32_5 k1_t2
  let v9 : Index := Scalar.indexCast arg20
  ![v9.toNat]
def k1_off4 (v13 : BitVec 32) : Fin 2 → Nat :=
  let c0_i32_26_r5 : BitVec 32 := 0#32
  ![v13.toNat, 0]
def k1_cond1 (v23 : BitVec 32) : BitVec 1 :=
  let c0_i32_7 : BitVec 32 := 0#32
  let v24 : BitVec 1 := Scalar.cmpi .sgt v23 c0_i32_7
  let v25 : BitVec 32 := Scalar.extui v24
  let c0_i32_8 : BitVec 32 := 0#32
  let v26 : BitVec 1 := Scalar.cmpi .ne v25 c0_i32_8
  v26

@[reducible] def k1_t3_loop : Scf.Loop 32 :=
  let c0_i32_12 : BitVec 32 := 0#32
  let c64_i32_13 : BitVec 32 := 64#32
  let v29 : BitVec 32 := Scalar.addi c0_i32_12 c64_i32_13
  let c1_i32_14 : BitVec 32 := 1#32
  ⟨c0_i32_12, v29, c1_i32_14⟩
def k1_off5 (k1_t3 : Fin k1_t3_loop.trips) (c0_i32_26 : BitVec 32) : Fin 1 → Nat :=
  let c0_i32_12 : BitVec 32 := 0#32
  let c1_i32_14 : BitVec 32 := 1#32
  let arg22 : BitVec 32 := Scf.iv c0_i32_12 c1_i32_14 k1_t3
  let c8_i32 : BitVec 32 := 8#32
  let v209 : BitVec 32 := Scalar.muli arg22 c8_i32
  let v210 : BitVec 32 := Scalar.addi v209 c0_i32_26
  let c16_i32 : BitVec 32 := 16#32
  let v211 : BitVec 32 := Scalar.muli v210 c16_i32
  let v212 : Index := Scalar.indexCast v211
  ![v212.toNat]
@[reducible] def k1_t4_loop (v23 : BitVec 32) : Scf.Loop 32 :=
  let c0_i32_16 : BitVec 32 := 0#32
  let v200 : BitVec 32 := Scalar.subi v23 c0_i32_16
  let c1_i32_18 : BitVec 32 := 1#32
  let v202 : BitVec 32 := Scalar.divsi v200 c1_i32_18
  let v203 : BitVec 32 := Scalar.muli v202 c1_i32_18
  let v204 : BitVec 32 := Scalar.addi c0_i32_16 v203
  let c1_i32_19 : BitVec 32 := 1#32
  ⟨c0_i32_16, v204, c1_i32_19⟩
def k1_off6 (v18 : BitVec 32) (v23 : BitVec 32) (k1_t4 : Fin (k1_t4_loop v23).trips) : Fin 1 → Nat :=
  let c0_i32_16 : BitVec 32 := 0#32
  let c1_i32_19 : BitVec 32 := 1#32
  let arg22 : BitVec 32 := Scf.iv c0_i32_16 c1_i32_19 k1_t4
  let v209 : BitVec 32 := Scalar.addi v18 arg22
  let v210 : Index := Scalar.indexCast v209
  ![v210.toNat]
def k1_off7 (v214 : BitVec 32) : Fin 2 → Nat :=
  let c0_i32_31_r6 : BitVec 32 := 0#32
  ![v214.toNat, 0]

def k1_chk2 (v23 : BitVec 32) (v214 : BitVec 32) : Prop :=
  (∀ (k1_h1 : k1_cond1 v23 = 1#1), ∀ a, (k1_off7 v214) a + S1x8192.size a ≤ S1024x8192.size a)
theorem k1_off7_inb : ∀ (v23 : BitVec 32) (v214 : BitVec 32) (k1_hw2 : k1_chk2 v23 v214), ∀ (k1_h1 : k1_cond1 v23 = 1#1), ∀ a, (k1_off7 v214) a + S1x8192.size a ≤ S1024x8192.size a := fun v23 v214 k1_hw2 k1_h1 => k1_hw2 k1_h1

@[reducible] def k1_t5_loop : Scf.Loop 32 :=
  let c0_i32_27 : BitVec 32 := 0#32
  let c64_i32_28 : BitVec 32 := 64#32
  let v220 : BitVec 32 := Scalar.addi c0_i32_27 c64_i32_28
  let c1_i32_29 : BitVec 32 := 1#32
  ⟨c0_i32_27, v220, c1_i32_29⟩
def k1_off8 (k1_t5 : Fin k1_t5_loop.trips) (c0_i32_31 : BitVec 32) : Fin 1 → Nat :=
  let c0_i32_27 : BitVec 32 := 0#32
  let c1_i32_29 : BitVec 32 := 1#32
  let arg24 : BitVec 32 := Scf.iv c0_i32_27 c1_i32_29 k1_t5
  let c8_i32 : BitVec 32 := 8#32
  let v223 : BitVec 32 := Scalar.muli arg24 c8_i32
  let v224 : BitVec 32 := Scalar.addi v223 c0_i32_31
  let c16_i32 : BitVec 32 := 16#32
  let v225 : BitVec 32 := Scalar.muli v224 c16_i32
  let v226 : Index := Scalar.indexCast v225
  ![v226.toNat]
@[reducible] def k1_t6_loop (v23 : BitVec 32) : Scf.Loop 32 :=
  let c0_i32_16 : BitVec 32 := 0#32
  let v200 : BitVec 32 := Scalar.subi v23 c0_i32_16
  let c1_i32_18 : BitVec 32 := 1#32
  let v202 : BitVec 32 := Scalar.divsi v200 c1_i32_18
  let v203 : BitVec 32 := Scalar.muli v202 c1_i32_18
  let v204 : BitVec 32 := Scalar.addi c0_i32_16 v203
  let v201 : BitVec 32 := Scalar.addi c0_i32_16 v200
  let c1_i32_20 : BitVec 32 := 1#32
  ⟨v204, v201, c1_i32_20⟩
def k1_off9 (v18 : BitVec 32) (v23 : BitVec 32) (k1_t6 : Fin (k1_t6_loop v23).trips) : Fin 1 → Nat :=
  let c0_i32_16 : BitVec 32 := 0#32
  let v200 : BitVec 32 := Scalar.subi v23 c0_i32_16
  let c1_i32_18 : BitVec 32 := 1#32
  let v202 : BitVec 32 := Scalar.divsi v200 c1_i32_18
  let v203 : BitVec 32 := Scalar.muli v202 c1_i32_18
  let v204 : BitVec 32 := Scalar.addi c0_i32_16 v203
  let c1_i32_20 : BitVec 32 := 1#32
  let arg22 : BitVec 32 := Scf.iv v204 c1_i32_20 k1_t6
  let v209 : BitVec 32 := Scalar.addi v18 arg22
  let v210 : Index := Scalar.indexCast v209
  ![v210.toNat]
def k1_off10 (v214 : BitVec 32) : Fin 2 → Nat :=
  let c0_i32_31_r7 : BitVec 32 := 0#32
  ![v214.toNat, 0]

def k1_chk3 (v23 : BitVec 32) (v214 : BitVec 32) : Prop :=
  (∀ (k1_h1 : k1_cond1 v23 = 1#1), ∀ a, (k1_off10 v214) a + S1x8192.size a ≤ S1024x8192.size a)
theorem k1_off10_inb : ∀ (v23 : BitVec 32) (v214 : BitVec 32) (k1_hw3 : k1_chk3 v23 v214), ∀ (k1_h1 : k1_cond1 v23 = 1#1), ∀ a, (k1_off10 v214) a + S1x8192.size a ≤ S1024x8192.size a := fun v23 v214 k1_hw3 k1_h1 => k1_hw3 k1_h1

@[reducible] def k1_t7_loop : Scf.Loop 32 :=
  let c0_i32_27 : BitVec 32 := 0#32
  let c64_i32_28 : BitVec 32 := 64#32
  let v220 : BitVec 32 := Scalar.addi c0_i32_27 c64_i32_28
  let c1_i32_29 : BitVec 32 := 1#32
  ⟨c0_i32_27, v220, c1_i32_29⟩
def k1_off11 (k1_t7 : Fin k1_t7_loop.trips) (c0_i32_31 : BitVec 32) : Fin 1 → Nat :=
  let c0_i32_27 : BitVec 32 := 0#32
  let c1_i32_29 : BitVec 32 := 1#32
  let arg24 : BitVec 32 := Scf.iv c0_i32_27 c1_i32_29 k1_t7
  let c8_i32 : BitVec 32 := 8#32
  let v223 : BitVec 32 := Scalar.muli arg24 c8_i32
  let v224 : BitVec 32 := Scalar.addi v223 c0_i32_31
  let c16_i32 : BitVec 32 := 16#32
  let v225 : BitVec 32 := Scalar.muli v224 c16_i32
  let v226 : Index := Scalar.indexCast v225
  ![v226.toNat]
@[reducible] def k1_t8_loop : Scf.Loop 32 :=
  let c0_i32_22 : BitVec 32 := 0#32
  let c64_i32_23 : BitVec 32 := 64#32
  let v207 : BitVec 32 := Scalar.addi c0_i32_22 c64_i32_23
  let c1_i32_24 : BitVec 32 := 1#32
  ⟨c0_i32_22, v207, c1_i32_24⟩
def k1_off12 (k1_t8 : Fin k1_t8_loop.trips) (c0_i32_26 : BitVec 32) : Fin 1 → Nat :=
  let c0_i32_22 : BitVec 32 := 0#32
  let c1_i32_24 : BitVec 32 := 1#32
  let arg22 : BitVec 32 := Scf.iv c0_i32_22 c1_i32_24 k1_t8
  let c8_i32 : BitVec 32 := 8#32
  let v209 : BitVec 32 := Scalar.muli arg22 c8_i32
  let v210 : BitVec 32 := Scalar.addi v209 c0_i32_26
  let c16_i32 : BitVec 32 := 16#32
  let v211 : BitVec 32 := Scalar.muli v210 c16_i32
  let v212 : Index := Scalar.indexCast v211
  ![v212.toNat]
def k1_off13 (v13 : BitVec 32) : Fin 2 → Nat :=
  let c0_i32_26_r8 : BitVec 32 := 0#32
  ![v13.toNat, 0]

def k1_chk1 (v13 : BitVec 32) (v18 : BitVec 32) (v23 : BitVec 32) : Prop :=
  (∀ (k1_h1 : k1_cond1 v23 = 1#1), ∀ a, (k1_off4 v13) a + S1x8192.size a ≤ S8192x8192.size a) ∧
  (∀ (k1_h1 : k1_cond1 v23 = 1#1), (k1_t4_loop v23).OK) ∧
  (∀ k1_t4 : Fin (k1_t4_loop v23).trips, ∀ (k1_h1 : k1_cond1 v23 = 1#1), ∀ a, (k1_off6 v18 v23 k1_t4) a + S16.size a ≤ S1040.size a) ∧
  (∀ (k1_h1 : k1_cond1 v23 = 1#1), (k1_t6_loop v23).OK) ∧
  (∀ k1_t6 : Fin (k1_t6_loop v23).trips, ∀ (k1_h1 : k1_cond1 v23 = 1#1), ∀ a, (k1_off9 v18 v23 k1_t6) a + S16.size a ≤ S1040.size a) ∧
  (∀ (k1_h1 : k1_cond1 v23 = 1#1), ∀ a, (k1_off13 v13) a + S1x8192.size a ≤ S8192x8192.size a)
theorem k1_off4_inb : ∀ (v13 : BitVec 32) (v18 : BitVec 32) (v23 : BitVec 32) (k1_hw1 : k1_chk1 v13 v18 v23), ∀ (k1_h1 : k1_cond1 v23 = 1#1), ∀ a, (k1_off4 v13) a + S1x8192.size a ≤ S8192x8192.size a := fun v13 v18 v23 k1_hw1 k1_h1 => k1_hw1.1 k1_h1
theorem k1_t4_ok : ∀ (v13 : BitVec 32) (v18 : BitVec 32) (v23 : BitVec 32) (k1_hw1 : k1_chk1 v13 v18 v23), ∀ (k1_h1 : k1_cond1 v23 = 1#1), (k1_t4_loop v23).OK := fun v13 v18 v23 k1_hw1 k1_h1 => k1_hw1.2.1 k1_h1
theorem k1_off6_inb : ∀ (v13 : BitVec 32) (v18 : BitVec 32) (v23 : BitVec 32) (k1_hw1 : k1_chk1 v13 v18 v23) (k1_t4 : Fin (k1_t4_loop v23).trips), ∀ (k1_h1 : k1_cond1 v23 = 1#1), ∀ a, (k1_off6 v18 v23 k1_t4) a + S16.size a ≤ S1040.size a := fun v13 v18 v23 k1_hw1 k1_t4 k1_h1 => k1_hw1.2.2.1 k1_t4 k1_h1
theorem k1_t6_ok : ∀ (v13 : BitVec 32) (v18 : BitVec 32) (v23 : BitVec 32) (k1_hw1 : k1_chk1 v13 v18 v23), ∀ (k1_h1 : k1_cond1 v23 = 1#1), (k1_t6_loop v23).OK := fun v13 v18 v23 k1_hw1 k1_h1 => k1_hw1.2.2.2.1 k1_h1
theorem k1_off9_inb : ∀ (v13 : BitVec 32) (v18 : BitVec 32) (v23 : BitVec 32) (k1_hw1 : k1_chk1 v13 v18 v23) (k1_t6 : Fin (k1_t6_loop v23).trips), ∀ (k1_h1 : k1_cond1 v23 = 1#1), ∀ a, (k1_off9 v18 v23 k1_t6) a + S16.size a ≤ S1040.size a := fun v13 v18 v23 k1_hw1 k1_t6 k1_h1 => k1_hw1.2.2.2.2.1 k1_t6 k1_h1
theorem k1_off13_inb : ∀ (v13 : BitVec 32) (v18 : BitVec 32) (v23 : BitVec 32) (k1_hw1 : k1_chk1 v13 v18 v23), ∀ (k1_h1 : k1_cond1 v23 = 1#1), ∀ a, (k1_off13 v13) a + S1x8192.size a ≤ S8192x8192.size a := fun v13 v18 v23 k1_hw1 k1_h1 => k1_hw1.2.2.2.2.2 k1_h1

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x8192 : Shape := ⟨2, ![8192, 8192]⟩
abbrev S8192 : Shape := ⟨1, ![8192]⟩
abbrev S1024 : Shape := ⟨1, ![1024]⟩
abbrev S1024x8192 : Shape := ⟨2, ![1024, 8192]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x2 : Shape := ⟨2, ![1024, 2]⟩

abbrev nBuf : Space → Nat
  | .hbm => 195
  | .vmem => 0
  | .smem => 0
  | _ => 0

abbrev hbmTy0_0 (i : Nat) : BufTy := match i % 128 with
  | 0 => ⟨S8192x8192, .f32⟩
  | 1 => ⟨S8192, .f32⟩
  | 2 => ⟨S8192, .f32⟩
  | 3 => ⟨S1024, .i32⟩
  | 4 => ⟨S1024, .f32⟩
  | 5 => ⟨S1024, .i32⟩
  | 6 => ⟨S1024x8192, .f32⟩
  | 7 => ⟨S_, .f32⟩
  | 8 => ⟨S8192, .f32⟩
  | 9 => ⟨S8192, .f32⟩
  | 10 => ⟨S8192, .f32⟩
  | 11 => ⟨S_, .f32⟩
  | 12 => ⟨S8192, .f32⟩
  | 13 => ⟨S8192, .f32⟩
  | 14 => ⟨S8192, .f32⟩
  | 15 => ⟨S8192, .f32⟩
  | 16 => ⟨S8192, .f32⟩
  | 17 => ⟨S_, .f32⟩
  | 18 => ⟨S8192, .f32⟩
  | 19 => ⟨S8192, .f32⟩
  | 20 => ⟨S_, .f32⟩
  | 21 => ⟨S8192, .f32⟩
  | 22 => ⟨S8192, .f32⟩
  | 23 => ⟨S_, .i32⟩
  | 24 => ⟨S1024, .i32⟩
  | 25 => ⟨S1024, .i1⟩
  | 26 => ⟨S_, .i32⟩
  | 27 => ⟨S1024, .i32⟩
  | 28 => ⟨S1024, .i1⟩
  | 29 => ⟨S_, .i32⟩
  | 30 => ⟨S1024, .i32⟩
  | 31 => ⟨S1024, .i32⟩
  | 32 => ⟨S1024, .i32⟩
  | 33 => ⟨S1024x1, .i32⟩
  | 34 => ⟨S1, .i32⟩
  | 35 => ⟨S_, .i32⟩
  | 36 => ⟨S1024x1, .i32⟩
  | 37 => ⟨S1024x1, .i1⟩
  | 38 => ⟨S1x1, .i32⟩
  | 39 => ⟨S1024x1, .i32⟩
  | 40 => ⟨S1024x1, .i1⟩
  | 41 => ⟨S1024x1, .i1⟩
  | 42 => ⟨S_, .i1⟩
  | 43 => ⟨S1024, .i1⟩
  | 44 => ⟨S1024, .f32⟩
  | 45 => ⟨S_, .f32⟩
  | 46 => ⟨S1024, .f32⟩
  | 47 => ⟨S1024, .f32⟩
  | 48 => ⟨S_, .f32⟩
  | 49 => ⟨S_, .f32⟩
  | 50 => ⟨S1024, .f32⟩
  | 51 => ⟨S1024, .f32⟩
  | 52 => ⟨S_, .i32⟩
  | 53 => ⟨S1024, .i32⟩
  | 54 => ⟨S1024, .i1⟩
  | 55 => ⟨S_, .i32⟩
  | 56 => ⟨S1024, .i32⟩
  | 57 => ⟨S1024, .i32⟩
  | 58 => ⟨S1024, .i32⟩
  | 59 => ⟨S1024x1, .i32⟩
  | 60 => ⟨S8192, .f32⟩
  | 61 => ⟨S_, .i32⟩
  | 62 => ⟨S1024, .i32⟩
  | 63 => ⟨S1024, .i1⟩
  | 64 => ⟨S_, .i32⟩
  | 65 => ⟨S1024, .i32⟩
  | 66 => ⟨S1024, .i32⟩
  | 67 => ⟨S1024, .i32⟩
  | 68 => ⟨S1024x1, .i32⟩
  | 69 => ⟨S1, .i32⟩
  | 70 => ⟨S_, .i32⟩
  | 71 => ⟨S1024x1, .i32⟩
  | 72 => ⟨S1024x1, .i1⟩
  | 73 => ⟨S1x1, .i32⟩
  | 74 => ⟨S1024x1, .i32⟩
  | 75 => ⟨S1024x1, .i1⟩
  | 76 => ⟨S1024x1, .i1⟩
  | 77 => ⟨S_, .i1⟩
  | 78 => ⟨S1024, .i1⟩
  | 79 => ⟨S1024x8192, .f32⟩
  | 80 => ⟨S1024x8192, .i1⟩
  | 81 => ⟨S_, .f32⟩
  | 82 => ⟨S1024x8192, .f32⟩
  | 83 => ⟨S1024x8192, .f32⟩
  | 84 => ⟨S_, .f32⟩
  | 85 => ⟨S1024x8192, .f32⟩
  | 86 => ⟨S1024x8192, .f32⟩
  | 87 => ⟨S_, .f32⟩
  | 88 => ⟨S1024x8192, .f32⟩
  | 89 => ⟨S1024x8192, .f32⟩
  | 90 => ⟨S_, .f32⟩
  | 91 => ⟨S1024, .f32⟩
  | 92 => ⟨S1024x1, .f32⟩
  | 93 => ⟨S1024x8192, .f32⟩
  | 94 => ⟨S1024x8192, .f32⟩
  | 95 => ⟨S1024x8192, .i32⟩
  | 96 => ⟨S_, .f32⟩
  | 97 => ⟨S_, .i32⟩
  | 98 => ⟨S1024, .f32⟩
  | 99 => ⟨S1024, .i32⟩
  | 100 => ⟨S_, .f32⟩
  | 101 => ⟨S1024x8192, .f32⟩
  | 102 => ⟨S1024x8192, .i1⟩
  | 103 => ⟨S_, .f32⟩
  | 104 => ⟨S1024x8192, .f32⟩
  | 105 => ⟨S1024x8192, .i1⟩
  | 106 => ⟨S1024x8192, .i1⟩
  | 107 => ⟨S1024x8192, .f32⟩
  | 108 => ⟨S_, .f32⟩
  | 109 => ⟨S1024, .f32⟩
  | 110 => ⟨S1024, .f32⟩
  | 111 => ⟨S1024x1, .f32⟩
  | 112 => ⟨S1024x8192, .f32⟩
  | 113 => ⟨S1024x8192, .f32⟩
  | 114 => ⟨S1024, .i32⟩
  | 115 => ⟨S_, .f32⟩
  | 116 => ⟨S1024, .f32⟩
  | 117 => ⟨S1024, .f32⟩
  | 118 => ⟨S_, .i32⟩
  | 119 => ⟨S1024, .i32⟩
  | 120 => ⟨S1024, .i1⟩
  | 121 => ⟨S_, .i32⟩
  | 122 => ⟨S1024, .i32⟩
  | 123 => ⟨S1024, .i32⟩
  | 124 => ⟨S1024, .i32⟩
  | 125 => ⟨S_, .i32⟩
  | 126 => ⟨S1024, .i32⟩
  | 127 => ⟨S1024, .i1⟩
  | _ => ⟨S8192x8192, .f32⟩

abbrev hbmTy0_1 (i : Nat) : BufTy := match i % 128 with
  | 0 => ⟨S_, .i32⟩
  | 1 => ⟨S1024, .i32⟩
  | 2 => ⟨S1024, .i32⟩
  | 3 => ⟨S1024, .i32⟩
  | 4 => ⟨S1024x1, .i32⟩
  | 5 => ⟨S1024x1, .i32⟩
  | 6 => ⟨S1024x2, .i32⟩
  | 7 => ⟨S1024x8192, .f32⟩
  | 8 => ⟨S_, .i32⟩
  | 9 => ⟨S1024, .i32⟩
  | 10 => ⟨S1024, .i1⟩
  | 11 => ⟨S_, .i32⟩
  | 12 => ⟨S1024, .i32⟩
  | 13 => ⟨S1024, .i32⟩
  | 14 => ⟨S1024, .i32⟩
  | 15 => ⟨S1024x1, .i32⟩
  | 16 => ⟨S8192x8192, .f32⟩
  | 17 => ⟨S1024, .i32⟩
  | 18 => ⟨S_, .i32⟩
  | 19 => ⟨S1024, .i32⟩
  | 20 => ⟨S1024, .i1⟩
  | 21 => ⟨S_, .i32⟩
  | 22 => ⟨S1024, .i32⟩
  | 23 => ⟨S1024, .i32⟩
  | 24 => ⟨S1024, .i32⟩
  | 25 => ⟨S_, .i32⟩
  | 26 => ⟨S1024, .i32⟩
  | 27 => ⟨S1024, .i1⟩
  | 28 => ⟨S_, .i32⟩
  | 29 => ⟨S1024, .i32⟩
  | 30 => ⟨S1024, .i32⟩
  | 31 => ⟨S1024, .i32⟩
  | 32 => ⟨S1024x1, .i32⟩
  | 33 => ⟨S1024x1, .i32⟩
  | 34 => ⟨S1024x2, .i32⟩
  | 35 => ⟨S_, .i1⟩
  | 36 => ⟨S1024, .i1⟩
  | 37 => ⟨S1024x8192, .i1⟩
  | 38 => ⟨S_, .i1⟩
  | 39 => ⟨S8192x8192, .i1⟩
  | 40 => ⟨S_, .i32⟩
  | 41 => ⟨S1024, .i32⟩
  | 42 => ⟨S1024, .i1⟩
  | 43 => ⟨S_, .i32⟩
  | 44 => ⟨S1024, .i32⟩
  | 45 => ⟨S1024, .i32⟩
  | 46 => ⟨S1024, .i32⟩
  | 47 => ⟨S1024x1, .i32⟩
  | 48 => ⟨S8192x8192, .i1⟩
  | 49 => ⟨S_, .f32⟩
  | 50 => ⟨S_, .f32⟩
  | 51 => ⟨S8192x8192, .f32⟩
  | 52 => ⟨S8192x8192, .f32⟩
  | 53 => ⟨S8192x8192, .f32⟩
  | 54 => ⟨S8192x8192, .f32⟩
  | 55 => ⟨S8192x8192, .f32⟩
  | 56 => ⟨S_, .f32⟩
  | 57 => ⟨S_, .f32⟩
  | 58 => ⟨S_, .f32⟩
  | 59 => ⟨S8192x8192, .f32⟩
  | 60 => ⟨S8192x8192, .f32⟩
  | 61 => ⟨S_, .f32⟩
  | 62 => ⟨S8192x8192, .f32⟩
  | 63 => ⟨S8192x8192, .f32⟩
  | 64 => ⟨S_, .f32⟩
  | 65 => ⟨S1024, .f32⟩
  | 66 => ⟨S1024, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_cst : Ref sig .tc := ⟨.hbm, 45, rfl⟩
abbrev main_call0_v14 : Ref sig .tc := ⟨.hbm, 46, rfl⟩
abbrev main_v14 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_v15 : Ref sig .tc := ⟨.hbm, 51, rfl⟩
abbrev main_c_4 : Ref sig .tc := ⟨.hbm, 52, rfl⟩
abbrev main_v16 : Ref sig .tc := ⟨.hbm, 53, rfl⟩
abbrev main_v17 : Ref sig .tc := ⟨.hbm, 54, rfl⟩
abbrev main_c_5 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v23 : Ref sig .tc := ⟨.hbm, 83, rfl⟩
abbrev main_call3_cst : Ref sig .tc := ⟨.hbm, 84, rfl⟩
abbrev main_call3_v0 : Ref sig .tc := ⟨.hbm, 85, rfl⟩
abbrev main_v24 : Ref sig .tc := ⟨.hbm, 86, rfl⟩
abbrev main_cst_6 : Ref sig .tc := ⟨.hbm, 87, rfl⟩
abbrev main_v25 : Ref sig .tc := ⟨.hbm, 88, rfl⟩
abbrev main_v26 : Ref sig .tc := ⟨.hbm, 89, rfl⟩
abbrev main_cst_7 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_call4_v0 : Ref sig .tc := ⟨.hbm, 95, rfl⟩
abbrev main_call4_cst : Ref sig .tc := ⟨.hbm, 96, rfl⟩
abbrev main_call4_c : Ref sig .tc := ⟨.hbm, 97, rfl⟩
abbrev main_call4_v1_0 : Ref sig .tc := ⟨.hbm, 98, rfl⟩
abbrev main_v31 : Ref sig .tc := ⟨.hbm, 99, rfl⟩
abbrev main_cst_8 : Ref sig .tc := ⟨.hbm, 100, rfl⟩
abbrev main_v32 : Ref sig .tc := ⟨.hbm, 101, rfl⟩
abbrev main_v33 : Ref sig .tc := ⟨.hbm, 102, rfl⟩
abbrev main_cst_9 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_cst_10 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_cst_11 : Ref sig .tc := ⟨.hbm, 115, rfl⟩
abbrev main_v44 : Ref sig .tc := ⟨.hbm, 116, rfl⟩
abbrev main_v45 : Ref sig .tc := ⟨.hbm, 117, rfl⟩
abbrev main_c_12 : Ref sig .tc := ⟨.hbm, 118, rfl⟩
abbrev main_v46 : Ref sig .tc := ⟨.hbm, 119, rfl⟩
abbrev main_v47 : Ref sig .tc := ⟨.hbm, 120, rfl⟩
abbrev main_c_13 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_c_14 : Ref sig .tc := ⟨.hbm, 125, rfl⟩
abbrev main_v51 : Ref sig .tc := ⟨.hbm, 126, rfl⟩
abbrev main_v52 : Ref sig .tc := ⟨.hbm, 127, rfl⟩
abbrev main_c_15 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_c_16 : Ref sig .tc := ⟨.hbm, 136, rfl⟩
abbrev main_v60 : Ref sig .tc := ⟨.hbm, 137, rfl⟩
abbrev main_v61 : Ref sig .tc := ⟨.hbm, 138, rfl⟩
abbrev main_c_17 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_c_18 : Ref sig .tc := ⟨.hbm, 146, rfl⟩
abbrev main_v68 : Ref sig .tc := ⟨.hbm, 147, rfl⟩
abbrev main_v69 : Ref sig .tc := ⟨.hbm, 148, rfl⟩
abbrev main_c_19 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_c_20 : Ref sig .tc := ⟨.hbm, 153, rfl⟩
abbrev main_v73 : Ref sig .tc := ⟨.hbm, 154, rfl⟩
abbrev main_v74 : Ref sig .tc := ⟨.hbm, 155, rfl⟩
abbrev main_c_21 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_c_22 : Ref sig .tc := ⟨.hbm, 163, rfl⟩
abbrev main_v81 : Ref sig .tc := ⟨.hbm, 164, rfl⟩
abbrev main_v82 : Ref sig .tc := ⟨.hbm, 165, rfl⟩
abbrev main_c_23 : Ref sig .tc := ⟨.hbm, 166, rfl⟩
abbrev main_v83 : Ref sig .tc := ⟨.hbm, 167, rfl⟩
abbrev main_c_24 : Ref sig .tc := ⟨.hbm, 168, rfl⟩
abbrev main_v84 : Ref sig .tc := ⟨.hbm, 169, rfl⟩
abbrev main_v85 : Ref sig .tc := ⟨.hbm, 170, rfl⟩
abbrev main_c_25 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_26 : Ref sig .tc := ⟨.hbm, 177, rfl⟩
abbrev main_cst_27 : Ref sig .tc := ⟨.hbm, 178, rfl⟩
abbrev main_call5_v0 : Ref sig .tc := ⟨.hbm, 179, rfl⟩
abbrev main_call5_v1 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_cst_28 : Ref sig .tc := ⟨.hbm, 184, rfl⟩
abbrev main_cst_29 : Ref sig .tc := ⟨.hbm, 185, rfl⟩
abbrev main_call6_v0 : Ref sig .tc := ⟨.hbm, 186, rfl⟩
abbrev main_call6_v1 : Ref sig .tc := ⟨.hbm, 187, rfl⟩
abbrev main_call6_v2 : Ref sig .tc := ⟨.hbm, 188, rfl⟩
abbrev main_call6_v3 : Ref sig .tc := ⟨.hbm, 189, rfl⟩
abbrev main_call6_v4 : Ref sig .tc := ⟨.hbm, 190, rfl⟩
abbrev main_v94 : Ref sig .tc := ⟨.hbm, 191, rfl⟩
abbrev main_cst_30 : Ref sig .tc := ⟨.hbm, 192, rfl⟩
abbrev main_v95 : Ref sig .tc := ⟨.hbm, 193, rfl⟩
abbrev main_v96 : Ref sig .tc := ⟨.hbm, 194, rfl⟩

abbrev nD : Nat := 1
abbrev τ : Topo := Topo.v7x

variable {F : FTy → Type} [FloatOps F]
-- ==== Proof.Base.lean ====
/-
  What every module on the kernel's run shares: the program as the launch theorem sees it, the resource algebra, the kernel's
  memory references, and how a run of sixteen-lane stores into a row of 8192 elements reads back.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.LoopRemainder
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UB : Type := URounds (GSem nD τ sig) Unit
abbrev UU : Type := UH × (UB × Counters)

abbrev EH : Emb UH (MT nD τ sig (HIx 1) (Elt F) ℕ UU ℕ) := embL

/-! ## A tile's place in the grid -/

abbrev cV (L : grid1.Coords) : Fin τ.nSC := (L 0).castLE hcore1
abbrev jV (L : grid1.Coords) : Fin τ.nSub := (L 1).castLE hsub1

/-! ## The kernel's memory references: the operands in HBM, the tile's scratch buffers -/

abbrev wV : Memref sig Kind.scVector Space.hbm S8192x8192 EltTy.f32 := Memref.whole main_arg0_scv
abbrev bV : Memref sig Kind.scVector Space.hbm S1024x8192 EltTy.f32 := Memref.whole main_arg6_scv
abbrev gpV : Memref sig Kind.scVector Space.hbm S1040 EltTy.i32 := Memref.whole main_v56_scv
abbrev gsV : Memref sig Kind.scVector Space.hbm S1040 EltTy.i32 := Memref.whole main_v57_scv
abbrev gcV : Memref sig Kind.scVector Space.hbm S1040 EltTy.i32 := Memref.whole main_v58_scv
abbrev spV : Memref sig Kind.scVector Space.hbm S1040 EltTy.i32 := Memref.whole main_v59_scv
abbrev slV : Memref sig Kind.scVector Space.hbm S1040 EltTy.f32 := Memref.whole main_v61_scv
abbrev oV : Memref sig Kind.scVector Space.hbm S8192x8192 EltTy.f32 := Memref.whole main_v79_scv
abbrev sW : Memref sig Kind.scVector Space.vmem S8192 EltTy.f32 := Memref.whole cc1_scratch0
abbrev sB : Memref sig Kind.scVector Space.vmem S8192 EltTy.f32 := Memref.whole cc1_scratch1
abbrev sA : Memref sig Kind.scVector Space.vmem S8192 EltTy.f32 := Memref.whole cc1_scratch2
abbrev sN : Memref sig Kind.scVector Space.vmem S8192 EltTy.f32 := Memref.whole cc1_scratch3
abbrev sP : Memref sig Kind.scVector Space.vmem S48 EltTy.i32 := Memref.whole cc1_scratch4
abbrev sS : Memref sig Kind.scVector Space.vmem S48 EltTy.i32 := Memref.whole cc1_scratch5
abbrev sC : Memref sig Kind.scVector Space.vmem S48 EltTy.i32 := Memref.whole cc1_scratch6
abbrev sQ : Memref sig Kind.scVector Space.vmem S1040 EltTy.i32 := Memref.whole cc1_scratch7
abbrev sE : Memref sig Kind.scVector Space.vmem S1040 EltTy.f32 := Memref.whole cc1_scratch8

/-- The lane of a position inside a sixteen-lane chunk. -/
abbrev lane (n : ℕ) : S16.Idx := fun | 0 => ⟨n % 16, Nat.mod_lt n (show 0 < 16 by decide)⟩

/-! ## A tile's scratch buffers held whole -/

section
local notation "𝕄" => MT nD τ sig (HIx 1) (Elt F) ℕ UU ℕ
variable (d : Dev nD) (L : grid1.Coords)

abbrev psW (f : Buf (Elt F) ((sW).view.loc (V d (cV L) (jV L)))) : sProp 𝕄 := (sW).view.loc (V d (cV L) (jV L)) ↦{fullShare} f
abbrev psB (f : Buf (Elt F) ((sB).view.loc (V d (cV L) (jV L)))) : sProp 𝕄 := (sB).view.loc (V d (cV L) (jV L)) ↦{fullShare} f
abbrev psA (f : Buf (Elt F) ((sA).view.loc (V d (cV L) (jV L)))) : sProp 𝕄 := (sA).view.loc (V d (cV L) (jV L)) ↦{fullShare} f
abbrev psN (f : Buf (Elt F) ((sN).view.loc (V d (cV L) (jV L)))) : sProp 𝕄 := (sN).view.loc (V d (cV L) (jV L)) ↦{fullShare} f
abbrev psP (f : Buf (Elt F) ((sP).view.loc (V d (cV L) (jV L)))) : sProp 𝕄 := (sP).view.loc (V d (cV L) (jV L)) ↦{fullShare} f
abbrev psS (f : Buf (Elt F) ((sS).view.loc (V d (cV L) (jV L)))) : sProp 𝕄 := (sS).view.loc (V d (cV L) (jV L)) ↦{fullShare} f
abbrev psC (f : Buf (Elt F) ((sC).view.loc (V d (cV L) (jV L)))) : sProp 𝕄 := (sC).view.loc (V d (cV L) (jV L)) ↦{fullShare} f
abbrev psQ (f : Buf (Elt F) ((sQ).view.loc (V d (cV L) (jV L)))) : sProp 𝕄 := (sQ).view.loc (V d (cV L) (jV L)) ↦{fullShare} f
abbrev psE (f : Buf (Elt F) ((sE).view.loc (V d (cV L) (jV L)))) : sProp 𝕄 := (sE).view.loc (V d (cV L) (jV L)) ↦{fullShare} f

end

/-! ## The kernel's loop bodies at those references -/

abbrev zeroBody [FloatOps F] (L : grid1.Coords) := k1_t1_body (F := F) L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8
abbrev addBody [FloatOps F] (L : grid1.Coords) := k1_t5_body (F := F) L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8

abbrev maxBody [FloatOps F] (L : grid1.Coords) := k1_t3_body (F := F) L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8
abbrev finBody [FloatOps F] (L : grid1.Coords) := k1_t8_body (F := F) L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8
abbrev memberBody [FloatOps F] (L : grid1.Coords) := k1_t4_body (F := F) L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8
abbrev restBody [FloatOps F] (L : grid1.Coords) := k1_t6_body (F := F) L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8
abbrev groupBody [FloatOps F] (L : grid1.Coords) := k1_t2_body (F := F) L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8

end Cert.Proof.Run

end
-- ==== Proof.Rows.lean ====
module

public import proofs.«01_k».proof.Proof.Base
public import Idealize.ShloMosaic.Lib.Pipeline.Value

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F] (d : Dev nD) (L : grid1.Coords)

/-! ## Eight chunks of a row written by one trip -/

/-- Eight stores of sixteen lanes side by side, each agreeing with one row `G`: the row reads `G` on those 128
    elements and what it held elsewhere. -/
theorem read_eight {Val : EltTy → Type} {e : EltTy} {κ : Kind} {sp : Space} (v : View sig κ sp S8192 e)
    (f : v.ty.Contents Val) (G : S8192.Idx → Val e) (n : ℕ) (o : Fin 8 → Fin S8192.rank → ℕ)
    (inb : ∀ u a, o u a + S16.size a ≤ S8192.size a) (ho : ∀ u, o u 0 = 128 * n + 16 * u.val)
    (w : Fin 8 → S16.Idx → Val e) (hw : ∀ u x, w u x = G ((Rect.unit (o u) S16.size (inb u)).emb x)) (y : S8192.Idx) :
    v.read Val (v.writes Val f [⟨Rect.unit (o 7) S16.size (inb 7), w 7⟩, ⟨Rect.unit (o 6) S16.size (inb 6), w 6⟩,
      ⟨Rect.unit (o 5) S16.size (inb 5), w 5⟩, ⟨Rect.unit (o 4) S16.size (inb 4), w 4⟩,
      ⟨Rect.unit (o 3) S16.size (inb 3), w 3⟩, ⟨Rect.unit (o 2) S16.size (inb 2), w 2⟩,
      ⟨Rect.unit (o 1) S16.size (inb 1), w 1⟩, ⟨Rect.unit (o 0) S16.size (inb 0), w 0⟩]) y
      = if 128 * n ≤ (y 0).val ∧ (y 0).val < 128 * (n + 1) then G y else v.read Val f y := by
  have hL : ∀ p : View.Piece Val S8192 e, p ∈ [(⟨Rect.unit (o 7) S16.size (inb 7), w 7⟩ : View.Piece Val S8192 e), ⟨Rect.unit (o 6) S16.size (inb 6), w 6⟩,
      ⟨Rect.unit (o 5) S16.size (inb 5), w 5⟩, ⟨Rect.unit (o 4) S16.size (inb 4), w 4⟩,
      ⟨Rect.unit (o 3) S16.size (inb 3), w 3⟩, ⟨Rect.unit (o 2) S16.size (inb 2), w 2⟩,
      ⟨Rect.unit (o 1) S16.size (inb 1), w 1⟩, ⟨Rect.unit (o 0) S16.size (inb 0), w 0⟩] ↔
      ∃ u : Fin 8, p = ⟨Rect.unit (o u) S16.size (inb u), w u⟩ := by
    intro p
    constructor
    · intro h
      simp only [List.mem_cons, List.not_mem_nil, or_false] at h
      rcases h with h | h | h | h | h | h | h | h
      exacts [⟨7, h⟩, ⟨6, h⟩, ⟨5, h⟩, ⟨4, h⟩, ⟨3, h⟩, ⟨2, h⟩, ⟨1, h⟩, ⟨0, h⟩]
    · rintro ⟨u, rfl⟩
      match u with
      | 0 => simp only [List.mem_cons, true_or, or_true]
      | 1 => simp only [List.mem_cons, true_or, or_true]
      | 2 => simp only [List.mem_cons, true_or, or_true]
      | 3 => simp only [List.mem_cons, true_or, or_true]
      | 4 => simp only [List.mem_cons, true_or, or_true]
      | 5 => simp only [List.mem_cons, true_or, or_true]
      | 6 => simp only [List.mem_cons, true_or, or_true]
      | 7 => simp only [List.mem_cons, true_or, or_true]
  split
  · rename_i h
    refine View.read_writes_apply_of_pieces v f G _ ?_ y ?_
    · intro p hp x
      obtain ⟨u, rfl⟩ := (hL p).mp hp
      exact hw u x
    · obtain ⟨u, hu⟩ : ∃ u : Fin 8, u.val = ((y 0).val - 128 * n) / 16 := ⟨⟨((y 0).val - 128 * n) / 16, by omega⟩, rfl⟩
      refine ⟨⟨Rect.unit (o u) S16.size (inb u), w u⟩, (hL _).mpr ⟨u, rfl⟩, ?_⟩
      rw [Rect.mem_set_unit]
      intro a
      obtain rfl : a = 0 := Subsingleton.elim (α := Fin 1) _ _
      rw [ho]
      have h16 : S16.size 0 = 16 := rfl
      rw [h16]
      omega
  · rename_i h
    refine View.read_writes_apply_of_forall_not_mem v f y _ ?_
    intro p hp hy
    obtain ⟨u, rfl⟩ := (hL p).mp hp
    rw [Rect.mem_set_unit] at hy
    have := hy 0
    rw [ho] at this
    have h16 : S16.size 0 = 16 := rfl
    rw [h16] at this
    have := u.isLt
    omega

/-! ## Clearing the accumulators -/

/-- The zero word's value, by which an accumulator is cleared. -/
abbrev fz : F .f32 := Scalar.ofBits .f32 0x00000000#32

theorem zero_trip (k : Fin k1_t1_loop.trips) (a : BitVec 32) fa fn :
    iprop(psA (F := F) d L fa ∗ psN d L fn)
      ⊢ wp frame (wpE (defs₀ (F := F)) 𝒱₀ (V d (cV L) (jV L)) none) Set.univ (zeroBody L k1_pay199 0#32 k a)
          fun _ => iprop(∃ fa' fn', psA d L fa' ∗ psN d L fn' ∗
            ⌜∀ y : S8192.Idx, fa' y = if 128 * k.val ≤ (y 0).val ∧ (y 0).val < 128 * (k.val + 1) then (fz : F .f32) else fa y⌝ ∗
            ⌜∀ y : S8192.Idx, fn' y = if 128 * k.val ≤ (y 0).val ∧ (y 0).val < 128 * (k.val + 1) then (fz : F .f32) else fn y⌝) := by
  unfold zeroBody k1_t1_body
  iintro ⟨Ha, Hn⟩
  sl_exec
  sl_step
  iexists _, _
  isplitl [Ha]; · iexact Ha
  isplitl [Hn]; · iexact Hn
  isplitl []
  · ipureintro
    refine read_eight (Val := Elt F) sA.view fa (fun _ => (fz : F .f32)) k.val (fun u => k1_off2 k (BitVec.ofNat 32 u.val)) (k1_off2_inb k) (fun u => congrFun (k1_off2_eq k u) 0) ![_, _, _, _, _, _, _, _] ?_
    intro u x
    match u with
    | 0 => rfl
    | 1 => rfl
    | 2 => rfl
    | 3 => rfl
    | 4 => rfl
    | 5 => rfl
    | 6 => rfl
    | 7 => rfl
  · ipureintro
    refine read_eight (Val := Elt F) sN.view fn (fun _ => (fz : F .f32)) k.val (fun u => k1_off2 k (BitVec.ofNat 32 u.val)) (k1_off2_inb k) (fun u => congrFun (k1_off2_eq k u) 0) ![_, _, _, _, _, _, _, _] ?_
    intro u x
    match u with
    | 0 => rfl
    | 1 => rfl
    | 2 => rfl
    | 3 => rfl
    | 4 => rfl
    | 5 => rfl
    | 6 => rfl
    | 7 => rfl

/-! ## A member's share added to the accumulators -/

/-- The bound of the uniform draw below which a member reaches a column. -/
abbrev fReach : F .f32 := Scalar.ofBits .f32 0x3E99999A#32
abbrev fOne : F .f32 := Scalar.ofBits .f32 0x3F800000#32

/-- One column's energy after a member of energy `le` whose draw there is `b`. -/
def addElt (le b a : F .f32) : F .f32 := FloatOps.addf a (Scalar.select (FloatOps.cmpf .olt b fReach) le fz)
/-- One column's mark after a member whose draw there is `b`. -/
def anyElt (b n : F .f32) : F .f32 := FloatOps.maximumf n (Scalar.select (FloatOps.cmpf .olt b fReach) fOne fz)

/-- Sixteen neighbouring elements of a row. -/
abbrev chunk {α : Type} {o : Fin S8192.rank → ℕ} (inb : ∀ a, o a + S16.size a ≤ S8192.size a) (f : S8192.Idx → α) : S16.Idx → α :=
  fun x => f ((Rect.unit (s := S8192) o S16.size inb).emb x)

/-- A member's energy is the first lane of its sixteen-lane load. -/
theorem pay10_eq (v : Vec F S16 .f32) : k1_pay10 v = v (lane 0) := by
  simp only [k1_pay10, shapeCast_self]
  exact congrArg v (funext fun i => by match i with | 0 => rfl)

theorem add_lanes (v : Vec F S16 .f32) (b a : FVec F S16 .f32) (x : S16.Idx) :
    shapeCast S16 (addf (shapeCast S16 a shapeCasts_S16_S16) (select (cmpf .olt (shapeCast S16 b shapeCasts_S16_S16)
      (broadcast S16 (fReach : F .f32))) (broadcast S16 (k1_pay10 v)) (broadcast S16 (fz : F .f32)))) shapeCasts_S16_S16 x
      = addElt (v (lane 0)) (b x) (a x) := by
  simp only [shapeCast_self, pay10_eq]
  rfl

theorem any_lanes (b a : FVec F S16 .f32) (x : S16.Idx) :
    shapeCast S16 (maximumf (shapeCast S16 a shapeCasts_S16_S16) (select (cmpf .olt (shapeCast S16 b shapeCasts_S16_S16)
      (broadcast S16 (fReach : F .f32))) (broadcast S16 (fOne : F .f32)) (broadcast S16 (fz : F .f32)))) shapeCasts_S16_S16 x
      = anyElt (b x) (a x) := by
  simp only [shapeCast_self]
  rfl

theorem add_trip (v : Vec F S16 .f32) (k : Fin k1_t5_loop.trips) (a : BitVec 32) (fb : S8192.Idx → Elt F .f32) (fa : S8192.Idx → Elt F .f32) (fn : S8192.Idx → Elt F .f32) :
    iprop(psB (F := F) d L fb ∗ psA (F := F) d L fa ∗ psN d L fn)
      ⊢ wp frame (wpE (defs₀ (F := F)) 𝒱₀ (V d (cV L) (jV L)) none) Set.univ (addBody L v k a)
          fun _ => iprop(psB d L fb ∗ ∃ fa' fn', psA d L fa' ∗ psN d L fn' ∗
            ⌜∀ y : S8192.Idx, fa' y = if 128 * k.val ≤ (y 0).val ∧ (y 0).val < 128 * (k.val + 1) then addElt (v (lane 0)) (fb y) (fa y) else fa y⌝ ∗
            ⌜∀ y : S8192.Idx, fn' y = if 128 * k.val ≤ (y 0).val ∧ (y 0).val < 128 * (k.val + 1) then anyElt (fb y) (fn y) else fn y⌝) := by
  unfold addBody k1_t5_body
  iintro ⟨Hb, Ha, Hn⟩
  sl_exec
  sl_step
  isplitl [Hb]; · iexact Hb
  iexists _, _
  isplitl [Ha]; · iexact Ha
  isplitl [Hn]; · iexact Hn
  isplitl []
  · ipureintro
    refine read_eight (Val := Elt F) sA.view fa (fun y => addElt (v (lane 0)) (fb y) (fa y)) k.val (fun u => k1_off8 k (BitVec.ofNat 32 u.val)) (k1_off8_inb k) (fun u => congrFun (k1_off8_eq k u) 0) ![_, _, _, _, _, _, _, _] ?_
    intro u x
    match u with
    | 0 => exact add_lanes v (chunk (k1_off8_inb k 0) fb) (chunk (k1_off8_inb k 0) fa) x
    | 1 => exact add_lanes v (chunk (k1_off8_inb k 1) fb) (chunk (k1_off8_inb k 1) fa) x
    | 2 => exact add_lanes v (chunk (k1_off8_inb k 2) fb) (chunk (k1_off8_inb k 2) fa) x
    | 3 => exact add_lanes v (chunk (k1_off8_inb k 3) fb) (chunk (k1_off8_inb k 3) fa) x
    | 4 => exact add_lanes v (chunk (k1_off8_inb k 4) fb) (chunk (k1_off8_inb k 4) fa) x
    | 5 => exact add_lanes v (chunk (k1_off8_inb k 5) fb) (chunk (k1_off8_inb k 5) fa) x
    | 6 => exact add_lanes v (chunk (k1_off8_inb k 6) fb) (chunk (k1_off8_inb k 6) fa) x
    | 7 => exact add_lanes v (chunk (k1_off8_inb k 7) fb) (chunk (k1_off8_inb k 7) fa) x
  · ipureintro
    refine read_eight (Val := Elt F) sN.view fn (fun y => anyElt (fb y) (fn y)) k.val (fun u => k1_off8 k (BitVec.ofNat 32 u.val)) (k1_off8_inb k) (fun u => congrFun (k1_off8_eq k u) 0) ![_, _, _, _, _, _, _, _] ?_
    intro u x
    match u with
    | 0 => exact any_lanes (chunk (k1_off8_inb k 0) fb) (chunk (k1_off8_inb k 0) fn) x
    | 1 => exact any_lanes (chunk (k1_off8_inb k 1) fb) (chunk (k1_off8_inb k 1) fn) x
    | 2 => exact any_lanes (chunk (k1_off8_inb k 2) fb) (chunk (k1_off8_inb k 2) fn) x
    | 3 => exact any_lanes (chunk (k1_off8_inb k 3) fb) (chunk (k1_off8_inb k 3) fn) x
    | 4 => exact any_lanes (chunk (k1_off8_inb k 4) fb) (chunk (k1_off8_inb k 4) fn) x
    | 5 => exact any_lanes (chunk (k1_off8_inb k 5) fb) (chunk (k1_off8_inb k 5) fn) x
    | 6 => exact any_lanes (chunk (k1_off8_inb k 6) fb) (chunk (k1_off8_inb k 6) fn) x
    | 7 => exact any_lanes (chunk (k1_off8_inb k 7) fb) (chunk (k1_off8_inb k 7) fn) x

end Cert.Proof.Run

end
-- ==== Proof.Final.lean ====
module

public import proofs.«01_k».proof.Proof.Rows

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F] (d : Dev nD) (L : grid1.Coords)

/-! ## The positions of sixteen lanes -/

/-- The lanes' numbers. -/
abbrev lanes : IVec S16 32 := iota .scVector S16 32 [0] iota_S16_d0_w32_scVector
/-- The positions in the row of chunk `u` of trip `i`. -/
abbrev places (i u : BitVec 32) : IVec S16 32 := addi lanes (broadcast S16 (Scalar.muli (Scalar.addi (Scalar.muli i 8#32) u) 16#32))

theorem places_eq (k u : ℕ) (x : S16.Idx) : places (Scf.iv 0#32 1#32 k) (BitVec.ofNat 32 u) x = BitVec.ofNat 32 (128 * k + 16 * u + (x 0).val) := by
  have h0 : lanes x = BitVec.ofNat 32 (x 0).val := by
    show BitVec.ofNat 32 (0 * 16 + (x 0).val) = _
    rw [Nat.zero_mul, Nat.zero_add]
  have h1 : Scf.iv (0#32) (1#32) k = BitVec.ofNat 32 k := by
    unfold Scf.iv
    simp
  show IntOp.addi (lanes x) (IntOp.muli (IntOp.addi (IntOp.muli (Scf.iv 0#32 1#32 k) 8#32) (BitVec.ofNat 32 u)) 16#32) = _
  rw [h0, h1]
  show BitVec.ofNat 32 (x 0).val + (BitVec.ofNat 32 k * 8#32 + BitVec.ofNat 32 u) * 16#32 = _
  rw [← BitVec.ofNat_mul, ← BitVec.ofNat_add, ← BitVec.ofNat_mul, ← BitVec.ofNat_add]
  exact congrArg _ (by omega)

/-! ## The row rewritten -/

abbrev fEps : F .f32 := Scalar.ofBits .f32 0x358637BD#32
abbrev fStrong : F .f32 := Scalar.ofBits .f32 0x3F19999A#32
abbrev fVis : F .f32 := Scalar.ofBits .f32 0x3F7FFEB0#32
abbrev fDecay : F .f32 := Scalar.ofBits .f32 0x3F7FBE77#32
abbrev fLo : F .f32 := Scalar.ofBits .f32 0xC0000000#32
abbrev fHi : F .f32 := Scalar.ofBits .f32 0x40000000#32

/-- The score of a weight. -/
def pElt (w : F .f32) : F .f32 := FloatOps.addf (FloatOps.maximumf w fz) fEps
/-- Whether a weight's score is strong. -/
def strongElt (w : F .f32) : BitVec 1 := FloatOps.cmpf .ogt (pElt w) fStrong
/-- One column of a row's new weight: its old one `w`, its energy `a`, its mark `n`, its group's whole energy `le`, and
    whether the column is the row's best one. -/
def finElt (le w a n : F .f32) (best : BitVec 1) : F .f32 :=
  FloatOps.minimumf (FloatOps.maximumf (FloatOps.mulf
    (FloatOps.addf w (FloatOps.addf (Scalar.select (strongElt w) a fz) (Scalar.select best le fz)))
    (Scalar.select (Scalar.ori (Scalar.andi (strongElt w) (FloatOps.cmpf .ogt n fz)) best) fVis fDecay)) fLo) fHi

/-- The same for sixteen lanes. -/
abbrev finVec (z : IVec S16 32) (m : BitVec 32) (le : F .f32) (w a n : FVec F S16 .f32) : FVec F S16 .f32 :=
  let w := shapeCast S16 w shapeCasts_S16_S16
  let s := cmpf .ogt (addf (maximumf w (broadcast S16 fz)) (broadcast S16 fEps)) (broadcast S16 (fStrong : F .f32))
  let o := cmpi .eq z (broadcast S16 m)
  minimumf (maximumf (mulf
    (addf w (addf (select s (shapeCast S16 a shapeCasts_S16_S16) (broadcast S16 fz)) (select o (broadcast S16 le) (broadcast S16 fz))))
    (select (ori (andi s (cmpf .ogt (shapeCast S16 n shapeCasts_S16_S16) (broadcast S16 (fz : F .f32)))) o) (broadcast S16 fVis) (broadcast S16 fDecay)))
      (broadcast S16 fLo)) (broadcast S16 fHi)

theorem fin_lanes (z : IVec S16 32) (m : BitVec 32) (le : F .f32) (w a n : FVec F S16 .f32) (x : S16.Idx) :
    shapeCast S16 (finVec z m le w a n) shapeCasts_S16_S16 x
      = finElt le (w x) (a x) (n x) (Scalar.cmpi .eq (z x) m) := by
  simp only [finVec, shapeCast_self]
  rfl

theorem place_off (k : Fin k1_t8_loop.trips) (u : Fin 8) (x : S16.Idx) :
    places (Scf.iv 0#32 1#32 k) (BitVec.ofNat 32 u.val) x
      = BitVec.ofNat 32 ((Rect.unit (s := S8192) (k1_off12 k (BitVec.ofNat 32 u.val)) S16.size (k1_off12_inb k u)).emb x 0).val := by
  rw [places_eq]
  refine congrArg _ ?_
  show _ = k1_off12 k (BitVec.ofNat 32 u.val) 0 + 1 * (x 0).val
  rw [k1_off12_eq]
  show _ = 128 * k.val + 16 * u.val + 1 * (x 0).val
  omega

theorem fin_trip (m : BitVec 32) (le : F .f32) (k : Fin k1_t8_loop.trips) (a : BitVec 32) (fw fa fn : S8192.Idx → Elt F .f32) :
    iprop(psW (F := F) d L fw ∗ psA (F := F) d L fa ∗ psN d L fn)
      ⊢ wp frame (wpE (defs₀ (F := F)) 𝒱₀ (V d (cV L) (jV L)) none) Set.univ (finBody L lanes k1_pay199 m le k a)
          fun _ => iprop(∃ fw' fa' fn', psW d L fw' ∗ psA d L fa' ∗ psN d L fn' ∗
            ⌜∀ y : S8192.Idx, fw' y = if 128 * k.val ≤ (y 0).val ∧ (y 0).val < 128 * (k.val + 1) then
              finElt le (fw y) (fa y) (fn y) (Scalar.cmpi .eq (BitVec.ofNat 32 (y 0).val) m) else fw y⌝ ∗
            ⌜∀ y : S8192.Idx, fa' y = if 128 * k.val ≤ (y 0).val ∧ (y 0).val < 128 * (k.val + 1) then (fz : F .f32) else fa y⌝ ∗
            ⌜∀ y : S8192.Idx, fn' y = if 128 * k.val ≤ (y 0).val ∧ (y 0).val < 128 * (k.val + 1) then (fz : F .f32) else fn y⌝) := by
  unfold finBody k1_t8_body
  iintro ⟨Hw, Ha, Hn⟩
  sl_exec
  sl_step
  iexists _, _, _
  isplitl [Hw]; · iexact Hw
  isplitl [Ha]; · iexact Ha
  isplitl [Hn]; · iexact Hn
  isplitl []
  · ipureintro
    refine read_eight (Val := Elt F) sW.view fw (fun y => finElt le (fw y) (fa y) (fn y) (Scalar.cmpi .eq (BitVec.ofNat 32 (y 0).val) m)) k.val (fun u => k1_off12 k (BitVec.ofNat 32 u.val)) (k1_off12_inb k) (fun u => congrFun (k1_off12_eq k u) 0) ![_, _, _, _, _, _, _, _] ?_
    intro u x
    refine Eq.trans ?_ ((fin_lanes (places (Scf.iv 0#32 1#32 k) (BitVec.ofNat 32 u.val)) m le (chunk (k1_off12_inb k u) fw) (chunk (k1_off12_inb k u) fa) (chunk (k1_off12_inb k u) fn) x).trans
      (congrArg (fun z => finElt le _ _ _ (Scalar.cmpi .eq z m)) (place_off k u x)))
    match u with
    | 0 => rfl
    | 1 => rfl
    | 2 => rfl
    | 3 => rfl
    | 4 => rfl
    | 5 => rfl
    | 6 => rfl
    | 7 => rfl
  isplitl []
  · ipureintro
    refine read_eight (Val := Elt F) sA.view fa (fun _ => (fz : F .f32)) k.val (fun u => k1_off12 k (BitVec.ofNat 32 u.val)) (k1_off12_inb k) (fun u => congrFun (k1_off12_eq k u) 0) ![_, _, _, _, _, _, _, _] ?_
    intro u x
    match u with
    | 0 => rfl
    | 1 => rfl
    | 2 => rfl
    | 3 => rfl
    | 4 => rfl
    | 5 => rfl
    | 6 => rfl
    | 7 => rfl
  · ipureintro
    refine read_eight (Val := Elt F) sN.view fn (fun _ => (fz : F .f32)) k.val (fun u => k1_off12 k (BitVec.ofNat 32 u.val)) (k1_off12_inb k) (fun u => congrFun (k1_off12_eq k u) 0) ![_, _, _, _, _, _, _, _] ?_
    intro u x
    match u with
    | 0 => rfl
    | 1 => rfl
    | 2 => rfl
    | 3 => rfl
    | 4 => rfl
    | 5 => rfl
    | 6 => rfl
    | 7 => rfl

end Cert.Proof.Run

end
-- ==== Proof.Best.lean ====
module

public import proofs.«01_k».proof.Proof.Final

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F] (d : Dev nD) (L : grid1.Coords)

/-! ## The best column of a row, lane by lane -/

abbrev fInit : F .f32 := Scalar.ofBits .f32 0xBF800000#32

/-- Element `i` of a row. -/
abbrev at8 (i : ℕ) : S8192.Idx := fun | 0 => ⟨i % 8192, Nat.mod_lt i (show 0 < 8192 by decide)⟩

/-- One element set against the best so far. -/
def maxStep (fw : S8192.Idx → F .f32) (i : ℕ) (c : F .f32 × BitVec 32) : F .f32 × BitVec 32 :=
  (Scalar.select (FloatOps.cmpf .ogt (pElt (fw (at8 i))) c.1) (pElt (fw (at8 i))) c.1,
   Scalar.select (FloatOps.cmpf .ogt (pElt (fw (at8 i))) c.1) (BitVec.ofNat 32 i) c.2)

/-- A lane's best over its first `n` chunks: its score and its position. -/
def maxLane (fw : S8192.Idx → F .f32) (x : S16.Idx) : ℕ → F .f32 × BitVec 32
  | 0 => (fInit, 0#32)
  | n + 1 => maxStep fw (16 * n + (x 0).val) (maxLane fw x n)

/-- The step for sixteen lanes. -/
abbrev maxVec (z : IVec S16 32) (w : FVec F S16 .f32) (c : FVec F S16 .f32 × IVec S16 32) : FVec F S16 .f32 × IVec S16 32 :=
  (select (cmpf .ogt (addf (maximumf (shapeCast S16 w shapeCasts_S16_S16) (broadcast S16 fz)) (broadcast S16 fEps)) c.1)
    (addf (maximumf (shapeCast S16 w shapeCasts_S16_S16) (broadcast S16 fz)) (broadcast S16 fEps)) c.1,
   select (cmpf .ogt (addf (maximumf (shapeCast S16 w shapeCasts_S16_S16) (broadcast S16 fz)) (broadcast S16 fEps)) c.1) z c.2)

theorem max_lanes (fw : S8192.Idx → F .f32) (k : Fin k1_t3_loop.trips) (u : Fin 8) (c : FVec F S16 .f32 × IVec S16 32)
    (h : ∀ x, (c.1 x, c.2 x) = maxLane fw x (8 * k.val + u.val)) (x : S16.Idx) :
    ((maxVec (places (Scf.iv 0#32 1#32 k) (BitVec.ofNat 32 u.val)) (chunk (k1_off5_inb k u) fw) c).1 x,
      (maxVec (places (Scf.iv 0#32 1#32 k) (BitVec.ofNat 32 u.val)) (chunk (k1_off5_inb k u) fw) c).2 x)
      = maxLane fw x (8 * k.val + (u.val + 1)) := by
  have hk : k.val < 64 := Nat.lt_of_lt_of_le k.isLt k1_t3_abs.2.1
  have hx : (x 0).val < 16 := (x 0).isLt
  have hi : (Rect.unit (s := S8192) (k1_off5 k (BitVec.ofNat 32 u.val)) S16.size (k1_off5_inb k u)).emb x
      = at8 (16 * (8 * k.val + u.val) + (x 0).val) := by
    refine Rect.emb_eq_of_coords _ _ _ fun a => ?_
    match a with
    | 0 =>
      show (16 * (8 * k.val + u.val) + (x 0).val) % 8192 = k1_off5 k (BitVec.ofNat 32 u.val) 0 + 1 * (x 0).val
      rw [k1_off5_eq]
      show _ = 128 * k.val + 16 * u.val + 1 * (x 0).val
      omega
  show _ = maxStep fw (16 * (8 * k.val + u.val) + (x 0).val) (maxLane fw x (8 * k.val + u.val))
  rw [← h x]
  simp only [maxVec, shapeCast_self]
  unfold maxStep
  rw [← hi]
  refine Prod.ext rfl ?_
  show Scalar.select _ (places (Scf.iv 0#32 1#32 k) (BitVec.ofNat 32 u.val) x) _ = _
  rw [places_eq, show 128 * k.val + 16 * u.val + (x 0).val = 16 * (8 * k.val + u.val) + (x 0).val by omega]
  rfl

/-- The first two chunks of a trip. -/
theorem max_two (fw : S8192.Idx → F .f32) (k : Fin k1_t3_loop.trips) (b : FVec F S16 .f32) (i : IVec S16 32)
    (h : ∀ x, (b x, i x) = maxLane fw x (8 * k.val)) (x : S16.Idx) :
    (k1_pay39 b (chunk (k1_off5_inb k 0) fw) (chunk (k1_off5_inb k 1) fw) x,
      k1_pay40 lanes 0#32 1#32 k b i (chunk (k1_off5_inb k 0) fw) (chunk (k1_off5_inb k 1) fw) x) = maxLane fw x (8 * k.val + 2) :=
  max_lanes fw k 1 (maxVec (places (Scf.iv 0#32 1#32 k) 0#32) (chunk (k1_off5_inb k 0) fw) (b, i)) (max_lanes fw k 0 (b, i) h) x

/-- The next three. -/
theorem max_five (fw : S8192.Idx → F .f32) (k : Fin k1_t3_loop.trips) (b : FVec F S16 .f32) (i : IVec S16 32)
    (h : ∀ x, (b x, i x) = maxLane fw x (8 * k.val + 2)) (x : S16.Idx) :
    (k1_pay49 b (k1_pay41 (chunk (k1_off5_inb k 2) fw)) (chunk (k1_off5_inb k 3) fw) (chunk (k1_off5_inb k 4) fw) x,
      k1_pay50 lanes (Scf.iv 0#32 1#32 k) b i (Scalar.addi (Scalar.muli (Scf.iv 0#32 1#32 k) 8#32) 2#32) (k1_pay41 (chunk (k1_off5_inb k 2) fw)) (chunk (k1_off5_inb k 3) fw) (chunk (k1_off5_inb k 4) fw) x)
      = maxLane fw x (8 * k.val + 5) :=
  max_lanes fw k 4 (maxVec (places (Scf.iv 0#32 1#32 k) 3#32) (chunk (k1_off5_inb k 3) fw) (maxVec (places (Scf.iv 0#32 1#32 k) 2#32) (chunk (k1_off5_inb k 2) fw) (b, i)))
    (max_lanes fw k 3 (maxVec (places (Scf.iv 0#32 1#32 k) 2#32) (chunk (k1_off5_inb k 2) fw) (b, i)) (max_lanes fw k 2 (b, i) h)) x

/-- The last three. -/
theorem max_eight (fw : S8192.Idx → F .f32) (k : Fin k1_t3_loop.trips) (b : FVec F S16 .f32) (i : IVec S16 32)
    (h : ∀ x, (b x, i x) = maxLane fw x (8 * k.val + 5)) (x : S16.Idx) :
    (k1_pay154 b (k1_pay51 (chunk (k1_off5_inb k 5) fw)) (chunk (k1_off5_inb k 6) fw) (chunk (k1_off5_inb k 7) fw) x,
      k1_pay155 lanes (Scf.iv 0#32 1#32 k) b i (Scalar.addi (Scalar.muli (Scf.iv 0#32 1#32 k) 8#32) 5#32) (k1_pay51 (chunk (k1_off5_inb k 5) fw)) (chunk (k1_off5_inb k 6) fw) (chunk (k1_off5_inb k 7) fw) x)
      = maxLane fw x (8 * (k.val + 1)) :=
  max_lanes fw k 7 (maxVec (places (Scf.iv 0#32 1#32 k) 6#32) (chunk (k1_off5_inb k 6) fw) (maxVec (places (Scf.iv 0#32 1#32 k) 5#32) (chunk (k1_off5_inb k 5) fw) (b, i)))
    (max_lanes fw k 6 (maxVec (places (Scf.iv 0#32 1#32 k) 5#32) (chunk (k1_off5_inb k 5) fw) (b, i)) (max_lanes fw k 5 (b, i) h)) x

theorem max_trip (v13 v18 v23 : BitVec 32) (h1 : k1_chk1 v13 v18 v23) (h2 : k1_cond1 v23 = 1#1) (k : Fin k1_t3_loop.trips) (a : FVec F S16 .f32 × IVec S16 32)
    (fw : S8192.Idx → Elt F .f32) (ha : ∀ x, (a.1 x, a.2 x) = maxLane (F := F) fw x (8 * k.val)) :
    iprop(psW (F := F) d L fw)
      ⊢ wp frame (wpE (defs₀ (F := F)) 𝒱₀ (V d (cV L) (jV L)) none) Set.univ (maxBody L lanes v13 v18 v23 h1 h2 k a)
          fun r => iprop(psW d L fw ∗ ⌜∀ x, (r.1 x, r.2 x) = maxLane (F := F) fw x (8 * (k.val + 1))⌝) := by
  unfold maxBody k1_t3_body
  iintro Hb
  sl_exec
  sl_step
  isplitl [Hb]; · iexact Hb
  ipureintro
  exact max_eight fw k _ _ (max_five fw k _ _ (max_two fw k a.1 a.2 ha))

end Cert.Proof.Run

end
-- ==== Proof.Words.lean ====
module

public import proofs.«01_k».proof.Proof.Best

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## What the kernel's checks ask of a group's three words -/

/-- What holds of a group's position, start and count: a group with members is a row, its members lie inside the list of
    1024 entries. -/
def GroupOK (p s c : BitVec 32) : Prop :=
  c.toNat ≤ 1024 ∧ (0 < c.toNat → p.toNat < 8192 ∧ s.toNat + c.toNat ≤ 1024)

theorem toInt_small {c : BitVec 32} (h : c.toNat ≤ 1024) : c.toInt = c.toNat := by
  rw [BitVec.toInt_eq_toNat_cond]
  split <;> omega

theorem cond1_iff {c : BitVec 32} (h : c.toNat ≤ 1024) : k1_cond1 c = 1#1 ↔ 0 < c.toNat := by
  have e : k1_cond1 c = IntOp.cmpi .sgt c 0#32 := by
    show IntOp.cmpi .ne ((IntOp.cmpi .sgt c 0#32).setWidth 32) 0#32 = _
    generalize IntOp.cmpi .sgt c 0#32 = b
    revert b
    decide
  rw [e]
  have : IntOp.cmpi .sgt c 0#32 = BitVec.ofBool (BitVec.slt 0#32 c) := rfl
  rw [this, BitVec.slt_eq_decide, toInt_small h, show (0#32 : BitVec 32).toInt = 0 by decide]
  by_cases h0 : 0 < c.toNat
  · simp [h0]
  · simp [h0]

theorem t4_ub (c : BitVec 32) : (k1_t4_loop c).ub = c := by
  show Scalar.addi 0#32 (Scalar.muli (Scalar.divsi (Scalar.subi c 0#32) 1#32) 1#32) = c
  rw [Scalar.muli_divsi_one]
  show 0#32 + (c - 0#32) = c
  simp

theorem t4_trips {c : BitVec 32} (h : c.toNat ≤ 1024) : (k1_t4_loop c).trips = c.toNat := by
  show Scf.trips 0#32 (k1_t4_loop c).ub 1#32 = _
  rw [t4_ub, Scf.trips, toInt_small h, show (0#32 : BitVec 32).toInt = 0 by decide, show (1#32 : BitVec 32).toInt = 1 by decide]
  omega

theorem t4_ok {c : BitVec 32} (h : c.toNat ≤ 1024) : (k1_t4_loop c).OK := by
  refine ⟨show 0 < (1#32 : BitVec 32).toInt by decide, ?_⟩
  rw [show Scf.trips (k1_t4_loop c).lb (k1_t4_loop c).ub (k1_t4_loop c).st = c.toNat from t4_trips h]
  show (0#32 : BitVec 32).toInt + c.toNat * (1#32 : BitVec 32).toInt < _
  rw [show (0#32 : BitVec 32).toInt = 0 by decide, show (1#32 : BitVec 32).toInt = 1 by decide]
  omega

theorem off6_eq {s c : BitVec 32} (hc : c.toNat ≤ 1024) (h : s.toNat + c.toNat ≤ 1024) (k : Fin (k1_t4_loop c).trips) :
    k1_off6 s c k = ![s.toNat + k.val] := by
  have hk : k.val < c.toNat := lt_of_lt_of_eq k.isLt (t4_trips hc)
  have e : (Scalar.addi s (Scf.iv 0#32 1#32 k.val)).toNat = s.toNat + k.val := by
    show (s + (0#32 + BitVec.ofNat 32 k.val * 1#32)).toNat = _
    rw [BitVec.zero_add, BitVec.mul_one, BitVec.toNat_add, BitVec.toNat_ofNat, Nat.mod_eq_of_lt (by omega : k.val < 2 ^ 32), Nat.mod_eq_of_lt (by omega)]
  show ![(Scalar.addi s (Scf.iv 0#32 1#32 k.val)).toNat] = _
  rw [e]

theorem row_inb {n : ℕ} {v : BitVec 32} (h : v.toNat < n) (o : Fin 2 → ℕ) (ho : o = ![v.toNat, 0]) :
    ∀ a, o a + S1x8192.size a ≤ (show Fin 2 → ℕ from ![n, 8192]) a := by
  subst ho
  intro a
  match a with
  | 0 => show v.toNat + 1 ≤ n; omega
  | 1 => show 0 + 8192 ≤ 8192; omega

theorem chk1_of {p s c : BitVec 32} (h : GroupOK p s c) : k1_chk1 p s c := by
  have hc := h.1
  refine ⟨fun h1 => ?_, fun h1 => t4_ok hc, fun k h1 a => ?_, fun h1 => ?_, fun k h1 => ?_, fun h1 => ?_⟩
  · exact row_inb (n := 8192) (h.2 ((cond1_iff hc).mp h1)).1 _ rfl
  · have h2 := (h.2 ((cond1_iff hc).mp h1)).2
    have hk : k.val < c.toNat := lt_of_lt_of_eq k.isLt (t4_trips hc)
    rw [off6_eq hc h2]
    match a with
    | 0 => show s.toNat + k.val + 16 ≤ 1040; omega
  · exact Scf.rem_ok _ _
  · exact (Scf.rem_no_trip _ _ k).elim
  · exact row_inb (n := 8192) (h.2 ((cond1_iff hc).mp h1)).1 _ rfl

theorem chk2_of {c r : BitVec 32} (h : r.toNat < 1024) : k1_chk2 c r :=
  fun _ => row_inb (n := 1024) h _ rfl

end Cert.Proof.Run

end
-- ==== Proof.Member.lean ====
module

public import proofs.«01_k».proof.Proof.Words

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F] (d : Dev nD) (L : grid1.Coords)

/-- A list's entry is the first lane of its sixteen-lane load. -/
theorem pay9_eq (v : Vec F S16 .i32) : extractAt ![0] (k1_pay9 v) inpos_S1_p0 = v (lane 0) := by
  simp only [k1_pay9, shapeCast_self]
  exact congrArg v (funext fun i => by match i with | 0 => rfl)

theorem pay9_lt {v : Vec F S16 .i32} (h : ∀ x, (v x : BitVec 32).toNat < 1024) : (extractAt ![0] (k1_pay9 v) inpos_S1_p0).toNat < 1024 := by
  rw [pay9_eq]
  exact h _

/-! ## The members' fold -/

/-- A place of the list of 1040 entries. -/
abbrev at1040 (i : ℕ) : S1040.Idx := fun | 0 => ⟨i % 1040, Nat.mod_lt i (show 0 < 1040 by decide)⟩
/-- Row `r`'s column of the draws. -/
abbrev drawAt (r : ℕ) (y : S8192.Idx) : S1024x8192.Idx := fun | 0 => ⟨r % 1024, Nat.mod_lt r (show 0 < 1024 by decide)⟩ | 1 => y 0

/-- Member `j`'s energy, of a group that starts at `s`, -/
abbrev memLe (fe : S1040.Idx → F .f32) (s j : ℕ) : F .f32 := fe (at1040 (s + j))
/-- and its draw in a column. -/
abbrev memBr (fbr : S1024x8192.Idx → F .f32) (fq : S1040.Idx → BitVec 32) (s j : ℕ) (y : S8192.Idx) : F .f32 :=
  fbr (drawAt (fq (at1040 (s + j))).toNat y)

/-- A column's energy after the first `n` members, -/
def accRow (fe : S1040.Idx → F .f32) (fbr : S1024x8192.Idx → F .f32) (fq : S1040.Idx → BitVec 32) (s : ℕ) : ℕ → S8192.Idx → F .f32
  | 0, _ => fz
  | n + 1, y => addElt (memLe fe s n) (memBr fbr fq s n y) (accRow fe fbr fq s n y)
/-- its mark, -/
def anyRow (fbr : S1024x8192.Idx → F .f32) (fq : S1040.Idx → BitVec 32) (s : ℕ) : ℕ → S8192.Idx → F .f32
  | 0, _ => fz
  | n + 1, y => anyElt (memBr fbr fq s n y) (anyRow fbr fq s n y)
/-- and the members' whole energy. -/
def sumLe (fe : S1040.Idx → F .f32) (s : ℕ) : ℕ → F .f32
  | 0 => fz
  | n + 1 => Scalar.addf (sumLe fe s n) (memLe fe s n)

/-! ## One member's columns added -/

/-- What holds after `k` trips over a row. -/
def addInv (le : F .f32) (fb fa fn : S8192.Idx → Elt F .f32) (k : ℕ) (_ : BitVec 32) : sProp 𝕄 :=
  iprop(psB d L fb ∗ ∃ fa' fn', psA d L fa' ∗ psN d L fn' ∗
    ⌜∀ y : S8192.Idx, fa' y = if (y 0).val < 128 * k then addElt le (fb y) (fa y) else fa y⌝ ∗
    ⌜∀ y : S8192.Idx, fn' y = if (y 0).val < 128 * k then anyElt (fb y) (fn y) else fn y⌝)

theorem row_if {α : Type} {k n : ℕ} {f g f' h : α} (hf : f = if n < 128 * k then h else g)
    (hf' : f' = if 128 * k ≤ n ∧ n < 128 * (k + 1) then h else f) : f' = if n < 128 * (k + 1) then h else g := by
  subst hf
  rw [hf']
  by_cases h1 : n < 128 * k
  · rw [if_neg (by omega), if_pos h1, if_pos (by omega)]
  · by_cases h2 : n < 128 * (k + 1)
    · rw [if_pos (by omega), if_pos h2]
    · rw [if_neg (by omega), if_neg h1, if_neg h2]

theorem add_step (v : Vec F S16 .f32) (fb fa fn : S8192.Idx → Elt F .f32) (k : Fin k1_t5_loop.trips) (a : BitVec 32) :
    addInv d L (v (lane 0)) fb fa fn k.val a
      ⊢ wp frame (wpE (defs₀ (F := F)) 𝒱₀ (V d (cV L) (jV L)) none) Set.univ (addBody L v k a) (addInv d L (v (lane 0)) fb fa fn (k.val + 1)) := by
  unfold addInv
  iintro ⟨Hb, %fa', %fn', Ha, Hn, %ha, %hn⟩
  iapply (wp_wand_r Idealize.ShloMosaic.frame (wpE (defs₀ (F := F)) 𝒱₀ (V d (cV L) (jV L)) none) Set.univ)
  isplitl [Hb Ha Hn]
  · iapply (add_trip d L v k a fb fa' fn')
    isplitl [Hb]; · iexact Hb
    isplitl [Ha]; · iexact Ha
    iexact Hn
  iintro %_ ⟨Hb, %fa'', %fn'', Ha, Hn, %ha', %hn'⟩
  isplitl [Hb]; · iexact Hb
  iexists fa'', fn''
  isplitl [Ha]; · iexact Ha
  isplitl [Hn]; · iexact Hn
  isplitl []
  · ipureintro
    intro y
    refine row_if (ha y) ?_
    rw [ha' y]
    by_cases h : 128 * k.val ≤ (y 0).val ∧ (y 0).val < 128 * (k.val + 1)
    · rw [if_pos h, if_pos h, ha y, if_neg (by omega)]
    · rw [if_neg h, if_neg h]
  · ipureintro
    intro y
    refine row_if (hn y) ?_
    rw [hn' y]
    by_cases h : 128 * k.val ≤ (y 0).val ∧ (y 0).val < 128 * (k.val + 1)
    · rw [if_pos h, if_pos h, hn y, if_neg (by omega)]
    · rw [if_neg h, if_neg h]

theorem t5_trips : k1_t5_loop.trips = 64 := by decide

/-- The waits recorded since `W`: a body's own, at the index that needs no schedule. -/
abbrev ownWaits (O : CellTallies nD τ sig (HIx 1)) (W : Waits sig (HIx 1)) : sProp 𝕄 :=
  iprop(∃ W', ⌜∀ p ∈ W', p ∈ W ∨ p.2 = none⌝ ∗ owes (V d (cV L) (jV L)) O W')

/-- What a row of the draws reads, its unit axis dropped. -/
theorem read_draw (fbr : S1024x8192.Idx → Elt F .f32) (r : BitVec 32) (hr : r.toNat < 1024) (inb : ∀ a, k1_off7 r a + S1x8192.size a ≤ S1024x8192.size a) (y : S8192.Idx) :
    ((bV.slice (Rect.unit (s := S1024x8192) (k1_off7 r) S1x8192.size inb) (fun _ => rfl)).squeeze S8192 squeezes_S1x8192_S8192).view.read (Elt F) fbr y
      = fbr (drawAt r.toNat y) := by
  have e : Shape.reshapeEquiv squeezes_S1x8192_S8192.numel_eq y = (Fin.cons ⟨0, Nat.one_pos⟩ y : S1x8192.Idx) :=
    Shape.reshapeEquiv_cons_one (n := 1) (d := ![8192]) squeezes_S1x8192_S8192.numel_eq y
  refine congrArg fbr ?_
  show (Rect.unit (s := S1024x8192) (k1_off7 r) S1x8192.size inb).emb (Shape.reshapeEquiv squeezes_S1x8192_S8192.numel_eq y) = _
  rw [e]
  refine Rect.emb_eq_of_coords _ _ _ fun a => ?_
  match a with
  | 0 => show r.toNat % 1024 = r.toNat + 1 * 0; omega
  | 1 => show (y 0).val = 0 + 1 * (y 0).val; omega

/-- A whole row received is the row sent. -/
theorem read_sB (g : S8192.Idx → Elt F .f32) : View.read (Elt F) sB.view g = g := rfl

theorem write_sB (f w : S8192.Idx → Elt F .f32) : View.write (Elt F) sB.view f w Finset.univ = w :=
  (read_sB (View.write (Elt F) sB.view f w Finset.univ)).symm.trans (View.read_write_univ (v := sB.view) (Val := Elt F) f w)

theorem member_trip (p s c : BitVec 32) (h1 : k1_chk1 p s c) (h2 : k1_cond1 c = 1#1) (k : Fin (k1_t4_loop c).trips) (le : F .f32)
    (q : PosShare TreeShare) (fbr : S1024x8192.Idx → Elt F .f32) (fq : S1040.Idx → BitVec 32) (fe : S1040.Idx → F .f32)
    (hG : GroupOK p s c) (hq : ∀ y, (fq y).toNat < 1024)
    fb (fa fn : S8192.Idx → Elt F .f32) (O : CellTallies nD τ sig (HIx 1)) (W : Waits sig (HIx 1)) :
    (iprop(Transfers.MayWaits (V d (cV L) (jV L)) (default : HIx 1) O
        ∗ ((bV).view.loc (V d (cV L) (jV L)) ↦{q} fbr)
        ∗ psQ d L fq ∗ psE d L fe ∗ psB d L fb ∗ psA d L fa ∗ psN d L fn
        ∗ semVal (V d (cV L) (jV L), SemLoc.dma cc1_scoped6.sem) 0
        ∗ owes (V d (cV L) (jV L)) O W) : sProp 𝕄)
      ⊢ wp frame (wpE (defs₀ (F := F)) 𝒱₀ (V d (cV L) (jV L)) none) Set.univ (memberBody L p s c h1 h2 k le)
          fun r => iprop(⌜r = Scalar.addf le (memLe fe s.toNat k.val)⌝
            ∗ Transfers.MayWaits (V d (cV L) (jV L)) (default : HIx 1) O
            ∗ ((bV).view.loc (V d (cV L) (jV L)) ↦{q} fbr)
            ∗ psQ d L fq ∗ psE d L fe ∗ (∃ fb', psB d L fb')
            ∗ psA d L (fun y => addElt (memLe fe s.toNat k.val) (memBr fbr fq s.toNat k.val y) (fa y))
            ∗ psN d L (fun y => anyElt (memBr fbr fq s.toNat k.val y) (fn y))
            ∗ semVal (V d (cV L) (jV L), SemLoc.dma cc1_scoped6.sem) 0
            ∗ ownWaits d L O W) := by
  unfold memberBody k1_t4_body
  iintro ⟨Hmw, Hbr, Hq, He, Hb, Ha, Hn, Hsem, HO⟩
  sl_exec (disch := exact chk2_of (pay9_lt fun x => hq _))
  have hG2 := hG.2 ((cond1_iff hG.1).mp h2)
  have hk : k.val < c.toNat := lt_of_lt_of_eq k.isLt (t4_trips hG.1)
  have hi : (Rect.unit (s := S1040) (k1_off6 s c k) S16.size (k1_off6_inb p s c h1 k h2)).emb (lane 0) = at1040 (s.toNat + k.val) := by
    refine Rect.emb_eq_of_coords _ _ _ fun a => ?_
    match a with
    | 0 =>
      show (s.toNat + k.val) % 1040 = k1_off6 s c k 0 + 1 * 0
      rw [off6_eq hG.1 hG2.2]
      show _ = s.toNat + k.val + 1 * 0
      omega
  have hle : (View.readAt (Elt F) sE.view (Rect.unit (s := S1040) (k1_off6 s c k) S16.size (k1_off6_inb p s c h1 k h2)).toLoadRect fe : Vec F S16 .f32) (lane 0) = memLe fe s.toNat k.val :=
    congrArg fe hi
  have hr : extractAt ![0] (k1_pay9 (F := F) (View.readAt (Elt F) sQ.view (Rect.unit (s := S1040) (k1_off6 s c k) S16.size (k1_off6_inb p s c h1 k h2)).toLoadRect fq)) inpos_S1_p0 = fq (at1040 (s.toNat + k.val)) :=
    (pay9_eq _).trans (congrArg fq hi)
  sl_for (addInv d L ((View.readAt (Elt F) sE.view (Rect.unit (s := S1040) (k1_off6 s c k) S16.size (k1_off6_inb p s c h1 k h2)).toLoadRect fe : Vec F S16 .f32) (lane 0)) (memBr fbr fq s.toNat k.val) fa fn) $$ [Hb Ha Hn]
  case region =>
    intro k' a'
    exact add_step d L _ _ _ _ k' a'
  · unfold addInv
    isplitl [Hb]
    · iapply (Entails.of_eq (congrArg (fun f => psB d L f) (funext fun y => ?_))) $$ Hb
      have hlt := pay9_lt (F := F) (v := View.readAt (Elt F) sQ.view (Rect.unit (s := S1040) (k1_off6 s c k) S16.size (k1_off6_inb p s c h1 k h2)).toLoadRect fq) (fun x => hq _)
      have hd := read_draw fbr _ hlt (chk2_of (c := c) hlt h2) y
      refine (congrFun (write_sB (F := F) fb _) y).trans (Eq.trans ?_ (congrArg (fun r : BitVec 32 => fbr (drawAt r.toNat y)) hr))
      exact hd
    iexists fa, fn
    isplitl [Ha]; · iexact Ha
    isplitl [Hn]; · iexact Hn
    isplitl []
    · ipureintro; intro y; rw [if_neg (by omega)]
    · ipureintro; intro y; rw [if_neg (by omega)]
  iintro %_ HI
  unfold addInv
  icases HI with ⟨Hb, %fa', %fn', Ha, Hn, %ha, %hn⟩
  rw [hle] at ha
  sl_step
  isplitl []
  · ipureintro
    show Scalar.addf le (k1_pay10 _) = _
    rw [pay10_eq, hle]
  isplitl [Hmw]; · iexact Hmw
  isplitl [Hbr]; · iexact Hbr
  isplitl [Hq]; · iexact Hq
  isplitl [He]; · iexact He
  isplitl [Hb]; · iexists _; iexact Hb
  isplitl [Ha]
  · iapply (Entails.of_eq (congrArg (fun f => psA d L f) (funext fun y => ?_))) $$ Ha
    have hy : (y 0).val < 8192 := (y 0).isLt
    rw [ha y, if_pos (show (y 0).val < 128 * k1_t5_loop.trips by rw [t5_trips]; omega)]
  isplitl [Hn]
  · iapply (Entails.of_eq (congrArg (fun f => psN d L f) (funext fun y => ?_))) $$ Hn
    have hy : (y 0).val < 8192 := (y 0).isLt
    rw [hn y, if_pos (show (y 0).val < 128 * k1_t5_loop.trips by rw [t5_trips]; omega)]
  isplitl [Hsem]; · iexact Hsem
  iexists _
  isplitr [HO]
  rotate_left
  · iexact HO
  · ipureintro
    intro p' hp
    rcases Finset.mem_insert.mp hp with hp | hp
    · exact .inr (hp ▸ rfl)
    · exact .inl hp

end Cert.Proof.Run

end
-- ==== Proof.Loops.lean ====
module

public import proofs.«01_k».proof.Proof.Member

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F] (d : Dev nD) (L : grid1.Coords)

theorem row_all {α : Type} {k n m : ℕ} {f h g : α} (hn : n < 8192) (hk : m = 64) (hm : k = m) (hf : f = if n < 128 * k then h else g) : f = h := by
  rw [hf, if_pos (by omega)]

/-! ## The accumulators cleared -/

/-- What holds after `k` trips of the clearing loop. -/
def zeroInv (k : ℕ) (_ : BitVec 32) : sProp 𝕄 :=
  iprop(∃ fa fn, psA d L fa ∗ psN d L fn ∗ ⌜∀ y : S8192.Idx, (y 0).val < 128 * k → fa y = (fz : F .f32)⌝ ∗
    ⌜∀ y : S8192.Idx, (y 0).val < 128 * k → fn y = (fz : F .f32)⌝)

theorem row_zero {α : Type} {k n : ℕ} {f f' z : α} (hf : n < 128 * k → f = z) (hf' : f' = if 128 * k ≤ n ∧ n < 128 * (k + 1) then z else f)
    (h : n < 128 * (k + 1)) : f' = z := by
  rw [hf']
  by_cases h1 : n < 128 * k
  · rw [if_neg (by omega), hf h1]
  · rw [if_pos (by omega)]

theorem zero_step (k : Fin k1_t1_loop.trips) (a : BitVec 32) :
    zeroInv (F := F) d L k.val a
      ⊢ wp frame (wpE (defs₀ (F := F)) 𝒱₀ (V d (cV L) (jV L)) none) Set.univ (zeroBody L k1_pay199 0#32 k a) (zeroInv d L (k.val + 1)) := by
  unfold zeroInv
  iintro ⟨%fa, %fn, Ha, Hn, %ha, %hn⟩
  iapply (wp_wand_r Idealize.ShloMosaic.frame (wpE (defs₀ (F := F)) 𝒱₀ (V d (cV L) (jV L)) none) Set.univ)
  isplitl [Ha Hn]
  · iapply (zero_trip d L k a fa fn)
    isplitl [Ha]; · iexact Ha
    iexact Hn
  iintro %_ ⟨%fa', %fn', Ha, Hn, %ha', %hn'⟩
  iexists fa', fn'
  isplitl [Ha]; · iexact Ha
  isplitl [Hn]; · iexact Hn
  isplitl []
  · ipureintro
    exact fun y h => row_zero (ha y) (ha' y) h
  · ipureintro
    exact fun y h => row_zero (hn y) (hn' y) h

/-! ## The row's best column, lane by lane -/

def maxInv (fw : S8192.Idx → F .f32) (k : ℕ) (a : FVec F S16 .f32 × IVec S16 32) : sProp 𝕄 :=
  iprop(psW d L fw ∗ ⌜∀ x, (a.1 x, a.2 x) = maxLane (F := F) fw x (8 * k)⌝)

theorem max_step (v13 v18 v23 : BitVec 32) (h1 : k1_chk1 v13 v18 v23) (h2 : k1_cond1 v23 = 1#1) (k : Fin k1_t3_loop.trips) (a : FVec F S16 .f32 × IVec S16 32)
    (fw : S8192.Idx → F .f32) :
    maxInv d L fw k.val a
      ⊢ wp frame (wpE (defs₀ (F := F)) 𝒱₀ (V d (cV L) (jV L)) none) Set.univ (maxBody L lanes v13 v18 v23 h1 h2 k a) (maxInv d L fw (k.val + 1)) := by
  unfold maxInv
  iintro ⟨Hw, %ha⟩
  iapply (max_trip d L v13 v18 v23 h1 h2 k a fw ha)
  iexact Hw

/-! ## The members -/

/-- What holds after `k` members. -/
def memInv (s : BitVec 32) (q : PosShare TreeShare) (fbr : S1024x8192.Idx → Elt F .f32) (fq : S1040.Idx → BitVec 32) (fe : S1040.Idx → F .f32)
    (O : CellTallies nD τ sig (HIx 1)) (W : Waits sig (HIx 1)) (k : ℕ) (le : F .f32) : sProp 𝕄 :=
  iprop(⌜le = sumLe fe s.toNat k⌝
    ∗ Transfers.MayWaits (V d (cV L) (jV L)) (default : HIx 1) O
    ∗ ((bV).view.loc (V d (cV L) (jV L)) ↦{q} fbr)
    ∗ psQ d L fq ∗ psE d L fe ∗ (∃ fb', psB d L fb')
    ∗ psA d L (accRow fe fbr fq s.toNat k)
    ∗ psN d L (anyRow fbr fq s.toNat k)
    ∗ semVal (V d (cV L) (jV L), SemLoc.dma cc1_scoped6.sem) 0
    ∗ ownWaits d L O W)

theorem mem_step (p s c : BitVec 32) (h1 : k1_chk1 p s c) (h2 : k1_cond1 c = 1#1) (k : Fin (k1_t4_loop c).trips) (le : F .f32)
    (q : PosShare TreeShare) (fbr : S1024x8192.Idx → Elt F .f32) (fq : S1040.Idx → BitVec 32) (fe : S1040.Idx → F .f32)
    (hG : GroupOK p s c) (hq : ∀ y, (fq y).toNat < 1024) (O : CellTallies nD τ sig (HIx 1)) (W : Waits sig (HIx 1)) :
    memInv d L s q fbr fq fe O W k.val le
      ⊢ wp frame (wpE (defs₀ (F := F)) 𝒱₀ (V d (cV L) (jV L)) none) Set.univ (memberBody L p s c h1 h2 k le) (memInv d L s q fbr fq fe O W (k.val + 1)) := by
  unfold memInv
  iintro ⟨%hle, Hmw, Hbr, Hq, He, ⟨%fb, Hb⟩, Ha, Hn, Hsem, %W', %hW, HO⟩
  iapply (wp_wand_r Idealize.ShloMosaic.frame (wpE (defs₀ (F := F)) 𝒱₀ (V d (cV L) (jV L)) none) Set.univ)
  isplitl [Hmw Hbr Hq He Hb Ha Hn Hsem HO]
  · iapply (member_trip d L p s c h1 h2 k le q fbr fq fe hG hq fb _ _ O W')
    isplitl [Hmw]; · iexact Hmw
    isplitl [Hbr]; · iexact Hbr
    isplitl [Hq]; · iexact Hq
    isplitl [He]; · iexact He
    isplitl [Hb]; · iexact Hb
    isplitl [Ha]; · iexact Ha
    isplitl [Hn]; · iexact Hn
    isplitl [Hsem]; · iexact Hsem
    iexact HO
  iintro %r ⟨%hr, Hmw, Hbr, Hq, He, Hb, Ha, Hn, Hsem, %W'', %hW', HO⟩
  isplitl []
  · ipureintro
    rw [hr, hle]
    rfl
  isplitl [Hmw]; · iexact Hmw
  isplitl [Hbr]; · iexact Hbr
  isplitl [Hq]; · iexact Hq
  isplitl [He]; · iexact He
  isplitl [Hb]; · iexact Hb
  isplitl [Ha]; · iexact Ha
  isplitl [Hn]; · iexact Hn
  isplitl [Hsem]; · iexact Hsem
  iexists W''
  isplitl []
  · ipureintro
    intro p hp
    rcases hW' p hp with h | h
    · exact hW p h
    · exact .inr h
  iexact HO

/-! ## The row rewritten -/

/-- What holds after `k` trips over the row: `m` its best column, `le` its group's energy. -/
def finInv (m : BitVec 32) (le : F .f32) (fw fa fn : S8192.Idx → Elt F .f32) (k : ℕ) (_ : BitVec 32) : sProp 𝕄 :=
  iprop(∃ fw' fa' fn', psW d L fw' ∗ psA d L fa' ∗ psN d L fn' ∗
    ⌜∀ y : S8192.Idx, fw' y = if (y 0).val < 128 * k then finElt le (fw y) (fa y) (fn y) (Scalar.cmpi .eq (BitVec.ofNat 32 (y 0).val) m) else fw y⌝ ∗
    ⌜∀ y : S8192.Idx, fa' y = if (y 0).val < 128 * k then (fz : F .f32) else fa y⌝ ∗
    ⌜∀ y : S8192.Idx, fn' y = if (y 0).val < 128 * k then (fz : F .f32) else fn y⌝)

theorem row_in {α : Type} {k n : ℕ} {f f' h h' g : α} (hf : f = if n < 128 * k then h else g) (hh : ¬ n < 128 * k → h' = h)
    (hf' : f' = if 128 * k ≤ n ∧ n < 128 * (k + 1) then h' else f) : f' = if n < 128 * (k + 1) then h else g := by
  refine row_if hf (hf'.trans ?_)
  by_cases h1 : 128 * k ≤ n ∧ n < 128 * (k + 1)
  · rw [if_pos h1, if_pos h1, hh (by omega)]
  · rw [if_neg h1, if_neg h1]

theorem fin_step (m : BitVec 32) (le : F .f32) (fw fa fn : S8192.Idx → Elt F .f32) (k : Fin k1_t8_loop.trips) (a : BitVec 32) :
    finInv d L m le fw fa fn k.val a
      ⊢ wp frame (wpE (defs₀ (F := F)) 𝒱₀ (V d (cV L) (jV L)) none) Set.univ (finBody L lanes k1_pay199 m le k a) (finInv d L m le fw fa fn (k.val + 1)) := by
  unfold finInv
  iintro ⟨%fw', %fa', %fn', Hw, Ha, Hn, %hw, %ha, %hn⟩
  iapply (wp_wand_r Idealize.ShloMosaic.frame (wpE (defs₀ (F := F)) 𝒱₀ (V d (cV L) (jV L)) none) Set.univ)
  isplitl [Hw Ha Hn]
  · iapply (fin_trip d L m le k a fw' fa' fn')
    isplitl [Hw]; · iexact Hw
    isplitl [Ha]; · iexact Ha
    iexact Hn
  iintro %_ ⟨%fw'', %fa'', %fn'', Hw, Ha, Hn, %hw', %ha', %hn'⟩
  iexists fw'', fa'', fn''
  isplitl [Hw]; · iexact Hw
  isplitl [Ha]; · iexact Ha
  isplitl [Hn]; · iexact Hn
  isplitl []
  · ipureintro
    intro y
    refine row_in (hw y) (fun hy => ?_) (hw' y)
    rw [hw y, ha y, hn y, if_neg hy, if_neg hy, if_neg hy]
  isplitl []
  · ipureintro
    exact fun y => row_in (ha y) (fun _ => rfl) (ha' y)
  · ipureintro
    exact fun y => row_in (hn y) (fun _ => rfl) (hn' y)

end Cert.Proof.Run

end
-- ==== Proof.Lanes.lean ====
module

public import proofs.«01_k».proof.Proof.Loops

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F] (d : Dev nD) (L : grid1.Coords)

/-! ## The best of sixteen lanes -/

theorem slice_lane (n : ℕ) : S16.Slices ![n % 16] S1 :=
  ⟨rfl, fun a => by match a with | 0 => exact Nat.mod_lt n (show 0 < 16 by decide)⟩

/-- Lane `n` of sixteen, -/
abbrev pick {α : Type} (b : S16.Idx → α) (n : ℕ) : α := extractAt ![0] (extractStridedSlice S1 ![n % 16] b (slice_lane n)) inpos_S1_p0

theorem pick_eq {α : Type} (b : S16.Idx → α) (n : ℕ) : pick b n = b (lane n) :=
  congrArg b (funext fun a => by match a with | 0 => rfl)

/-- set against the best lane so far: the larger score, the smaller position at equal ones. -/
def laneStep (v : F .f32) (j : BitVec 32) (c : F .f32 × BitVec 32) : F .f32 × BitVec 32 :=
  (Scalar.select (Scalar.ori (Scalar.cmpf .ogt v c.1) (Scalar.andi (Scalar.cmpf .oeq v c.1) (Scalar.cmpi .slt j c.2))) v c.1,
   Scalar.select (Scalar.ori (Scalar.cmpf .ogt v c.1) (Scalar.andi (Scalar.cmpf .oeq v c.1) (Scalar.cmpi .slt j c.2))) j c.2)

theorem step_fst (v c : F .f32) (j e : BitVec 32) :
    Scalar.select (Scalar.ori (Scalar.cmpf .ogt v c) (Scalar.andi (Scalar.cmpf .oeq v c) (Scalar.cmpi .slt j e))) v c = (laneStep v j (c, e)).1 := rfl

theorem step_snd (v c : F .f32) (j e : BitVec 32) :
    Scalar.select (Scalar.ori (Scalar.cmpf .ogt v c) (Scalar.andi (Scalar.cmpf .oeq v c) (Scalar.cmpi .slt j e))) j e = (laneStep v j (c, e)).2 := rfl

/-- The best of the first `n + 1` lanes. -/
def laneFold (b : FVec F S16 .f32) (i : IVec S16 32) : ℕ → F .f32 × BitVec 32
  | 0 => (pick b 0, pick i 0)
  | n + 1 => laneStep (pick b (n + 1)) (pick i (n + 1)) (laneFold b i n)

/-- Row `p`'s column of the weights. -/
abbrev rowAt (p : ℕ) (y : S8192.Idx) : S8192x8192.Idx := fun | 0 => ⟨p % 8192, Nat.mod_lt p (show 0 < 8192 by decide)⟩ | 1 => y 0

/-- What a row of the weights reads, its unit axis dropped. -/
theorem read_row (f : S8192x8192.Idx → Elt F .f32) (p : BitVec 32) (hp : p.toNat < 8192) (inb : ∀ a, k1_off4 p a + S1x8192.size a ≤ S8192x8192.size a) (y : S8192.Idx) :
    ((wV.slice (Rect.unit (s := S8192x8192) (k1_off4 p) S1x8192.size inb) (fun _ => rfl)).squeeze S8192 squeezes_S1x8192_S8192).view.read (Elt F) f y
      = f (rowAt p.toNat y) := by
  have e : Shape.reshapeEquiv squeezes_S1x8192_S8192.numel_eq y = (Fin.cons ⟨0, Nat.one_pos⟩ y : S1x8192.Idx) :=
    Shape.reshapeEquiv_cons_one (n := 1) (d := ![8192]) squeezes_S1x8192_S8192.numel_eq y
  refine congrArg f ?_
  show (Rect.unit (s := S8192x8192) (k1_off4 p) S1x8192.size inb).emb (Shape.reshapeEquiv squeezes_S1x8192_S8192.numel_eq y) = _
  rw [e]
  refine Rect.emb_eq_of_coords _ _ _ fun a => ?_
  match a with
  | 0 => show p.toNat % 8192 = p.toNat + 1 * 0; omega
  | 1 => show (y 0).val = 0 + 1 * (y 0).val; omega

theorem read_sW (g : S8192.Idx → Elt F .f32) : View.read (Elt F) sW.view g = g := rfl

theorem write_sW (f w : S8192.Idx → Elt F .f32) : View.write (Elt F) sW.view f w Finset.univ = w :=
  (read_sW (View.write (Elt F) sW.view f w Finset.univ)).symm.trans (View.read_write_univ (v := sW.view) (Val := Elt F) f w)

theorem t3_trips : k1_t3_loop.trips = 64 := by decide

/-- The first four lanes. -/
theorem part24_run (p s c : BitVec 32) (h1 : k1_chk1 p s c) (h2 : k1_cond1 c = 1#1) (hG : GroupOK p s c)
    (q : PosShare TreeShare) (f : S8192x8192.Idx → Elt F .f32) (fw : S8192.Idx → Elt F .f32)
    (O : CellTallies nD τ sig (HIx 1)) (W : Waits sig (HIx 1)) :
    (iprop(Transfers.MayWaits (V d (cV L) (jV L)) (default : HIx 1) O
        ∗ ((wV).view.loc (V d (cV L) (jV L)) ↦{q} f)
        ∗ psW d L fw
        ∗ semVal (V d (cV L) (jV L), SemLoc.dma cc1_scoped5.sem) 0
        ∗ owes (V d (cV L) (jV L)) O W) : sProp 𝕄)
      ⊢ wp frame (wpE (defs₀ (F := F)) 𝒱₀ (V d (cV L) (jV L)) none) Set.univ (k1_part24 (F := F) L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8 lanes p s c h1 h2)
          fun r => iprop(⌜(∀ x, (r.1 x, r.2.1 x) = maxLane (F := F) (fun y => f (rowAt p.toNat y)) x 512)
              ∧ (r.2.2.2.2.2, Scalar.select r.2.2.2.2.1 r.2.2.2.1 r.2.2.1) = laneFold r.1 r.2.1 3⌝
            ∗ Transfers.MayWaits (V d (cV L) (jV L)) (default : HIx 1) O
            ∗ ((wV).view.loc (V d (cV L) (jV L)) ↦{q} f)
            ∗ psW d L (fun y => f (rowAt p.toNat y))
            ∗ semVal (V d (cV L) (jV L), SemLoc.dma cc1_scoped5.sem) 0
            ∗ ownWaits d L O W) := by
  rw [k1_part24_eq_skeleton]
  unfold k1_part24_skel
  have hp := (hG.2 ((cond1_iff hG.1).mp h2)).1
  iintro ⟨Hmw, Hf, Hw, Hsem, HO⟩
  sl_exec
  sl_for (maxInv d L (fun y => f (rowAt p.toNat y))) $$ [Hw]
  case region =>
    intro k a
    exact max_step d L p s c h1 h2 k a _
  · unfold maxInv
    isplitl [Hw]
    · iapply (Entails.of_eq (congrArg (fun g => psW d L g) (funext fun y => ?_))) $$ Hw
      exact (congrFun (write_sW (F := F) fw _) y).trans (read_row f p hp (k1_off4_inb p s c h1 h2) y)
    · ipureintro
      exact fun x => rfl
  iintro %b HI
  unfold maxInv
  icases HI with ⟨Hw, %hb⟩
  replace hb : ∀ x, (b.1 x, b.2 x) = maxLane (F := F) (fun y => f (rowAt p.toNat y)) x (8 * k1_t3_loop.trips) := hb
  rw [t3_trips] at hb
  rcases b with ⟨b, i⟩
  iapply (show _ ⊢ _ from le_wp_ret Idealize.ShloMosaic.frame (wpE (defs₀ (F := F)) 𝒱₀ (V d (cV L) (jV L)) none) Set.univ _ _)
  isplitl []
  · ipureintro
    exact ⟨hb, rfl⟩
  isplitl [Hmw]; · iexact Hmw
  isplitl [Hf]; · iexact Hf
  isplitl [Hw]; · iexact Hw
  isplitl [Hsem]; · iexact Hsem
  iexists _
  isplitr [HO]
  rotate_left
  · iexact HO
  · ipureintro
    intro p' hp
    rcases Finset.mem_insert.mp hp with hp | hp
    · exact .inr (hp ▸ rfl)
    · exact .inl hp

/-- Lanes four to eight; the ninth is read. -/
theorem part25_run (b : FVec F S16 .f32) (i : IVec S16 32) (v56 v60 : BitVec 32) (v65 : BitVec 1) (v66 : F .f32)
    (h : (v66, Scalar.select v65 v60 v56) = laneFold b i 3) :
    (iprop(emp) : sProp 𝕄)
      ⊢ wp frame (wpE (defs₀ (F := F)) 𝒱₀ (V d (cV L) (jV L)) none) Set.univ (k1_part25 (F := F) L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8 b i v56 v60 v65 v66)
          fun r => iprop(⌜(r.1, r.2.1) = laneFold b i 8 ∧ r.2.2.1 = pick b 9 ∧ r.2.2.2 = pick i 9⌝) := by
  rw [k1_part25_eq_skeleton]
  unfold k1_part25_skel
  refine Entails.trans (pure_intro ?_) (le_wp_ret Idealize.ShloMosaic.frame (wpE (defs₀ (F := F)) 𝒱₀ (V d (cV L) (jV L)) none) Set.univ _ _)
  refine ⟨?_, rfl, rfl⟩
  simp only [k1_pay181, k1_pay178, k1_pay175, k1_pay172, k1_pay169, k1_pay167, k1_pay168, k1_pay170, k1_pay171, k1_pay173, k1_pay174, k1_pay176, k1_pay177, k1_pay179, k1_pay180, step_fst, step_snd, Prod.mk.eta]
  rw [h]
  rfl

/-- Lanes nine to thirteen; the fourteenth is read, and whether it is the better one. -/
theorem part26_run (b : FVec F S16 .f32) (i : IVec S16 32) (v121 : F .f32) (v122 : BitVec 32) (v124 : F .f32) (v126 : BitVec 32)
    (h : (v121, v122) = laneFold b i 8) (h1 : v124 = pick b 9) (h2 : v126 = pick i 9) :
    (iprop(emp) : sProp 𝕄)
      ⊢ wp frame (wpE (defs₀ (F := F)) 𝒱₀ (V d (cV L) (jV L)) none) Set.univ (k1_part26 (F := F) L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8 b i v121 v122 v124 v126)
          fun r => iprop(⌜(Scalar.select r.2.2.2.2 r.2.2.1 r.1, Scalar.select r.2.2.2.2 r.2.2.2.1 r.2.1) = laneFold b i 14⌝) := by
  rw [k1_part26_eq_skeleton]
  unfold k1_part26_skel
  refine Entails.trans (pure_intro ?_) (le_wp_ret Idealize.ShloMosaic.frame (wpE (defs₀ (F := F)) 𝒱₀ (V d (cV L) (jV L)) none) Set.univ _ _)
  subst h1 h2
  simp only [k1_pay184, k1_pay185, k1_pay186, k1_pay187, k1_pay188, k1_pay189, k1_pay190, k1_pay191, k1_pay192, k1_pay193, k1_pay194, k1_pay195, k1_pay196, k1_pay197, k1_pay198, step_fst, step_snd, Prod.mk.eta]
  rw [h]
  rfl

end Cert.Proof.Run

end
-- ==== Proof.Group.lean ====
module

public import proofs.«01_k».proof.Proof.Lanes

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F] (d : Dev nD) (L : grid1.Coords)

theorem pay3_eq (v : Vec F S16 .i32) : extractAt ![0] (k1_pay3 v) inpos_S1_p0 = v (lane 0) := by
  simp only [k1_pay3, shapeCast_self]
  exact congrArg v (funext fun i => by match i with | 0 => rfl)
theorem pay4_eq (v : Vec F S16 .i32) : extractAt ![0] (k1_pay4 v) inpos_S1_p0 = v (lane 0) := by
  simp only [k1_pay4, shapeCast_self]
  exact congrArg v (funext fun i => by match i with | 0 => rfl)
theorem pay5_eq (v : Vec F S16 .i32) : extractAt ![0] (k1_pay5 v) inpos_S1_p0 = v (lane 0) := by
  simp only [k1_pay5, shapeCast_self]
  exact congrArg v (funext fun i => by match i with | 0 => rfl)

/-- A place of a tile's own list of 48 entries. -/
abbrev at48 (i : ℕ) : S48.Idx := fun | 0 => ⟨i % 48, Nat.mod_lt i (show 0 < 48 by decide)⟩

theorem off3_eq (k : Fin k1_t2_loop.trips) : k1_off3 k = ![k.val] := by
  have hk : k.val < 32 := Nat.lt_of_lt_of_le k.isLt k1_t2_abs.2.1
  show ![(Scf.iv 0#32 1#32 k.val).toNat] = _
  have : (Scf.iv 0#32 1#32 k.val : BitVec 32).toNat = k.val := by
    show (0#32 + BitVec.ofNat 32 k.val * 1#32).toNat = _
    rw [BitVec.zero_add, BitVec.mul_one, BitVec.toNat_ofNat, Nat.mod_eq_of_lt (by omega : k.val < 2 ^ 32)]
  rw [this]

theorem at48_eq (k : Fin k1_t2_loop.trips) : (Rect.unit (s := S48) (k1_off3 k) S16.size (k1_off3_inb k)).emb (lane 0) = at48 k.val := by
  have hk : k.val < 32 := Nat.lt_of_lt_of_le k.isLt k1_t2_abs.2.1
  refine Rect.emb_eq_of_coords _ _ _ fun a => ?_
  match a with
  | 0 =>
    show k.val % 48 = k1_off3 k 0 + 1 * 0
    rw [off3_eq]
    show _ = k.val + 1 * 0
    omega

/-! ## A group's row -/

/-- The column of an element of the weights. -/
abbrev colOf (i : S8192x8192.Idx) : S8192.Idx := fun | 0 => i 1

/-- The best column of a row. -/
def bestCol (fw : S8192.Idx → F .f32) : BitVec 32 :=
  (laneFold (fun x => (maxLane fw x 512).1) (fun x => (maxLane fw x 512).2) 15).2

/-- Row `p`'s new weights, its group's members the `c` from `s` on. -/
def rowElt (f : S8192x8192.Idx → F .f32) (fbr : S1024x8192.Idx → F .f32) (fq : S1040.Idx → BitVec 32) (fe : S1040.Idx → F .f32)
    (p s c : ℕ) (y : S8192.Idx) : F .f32 :=
  finElt (sumLe fe s c) (f (rowAt p y)) (accRow fe fbr fq s c y) (anyRow fbr fq s c y)
    (Scalar.cmpi .eq (BitVec.ofNat 32 (y 0).val) (bestCol fun y => f (rowAt p y)))

/-- The elements of row `p`. -/
def rowSet (p : ℕ) : Finset S8192x8192.Idx := Finset.univ.filter fun i => (i 0).val = p

theorem mem_rowSet {p : ℕ} {i : S8192x8192.Idx} : i ∈ rowSet p ↔ (i 0).val = p := by simp [rowSet]

theorem set_row (p : BitVec 32) (inb : ∀ a, k1_off13 p a + S1x8192.size a ≤ S8192x8192.size a) :
    ((oV.slice (Rect.unit (s := S8192x8192) (k1_off13 p) S1x8192.size inb) (fun _ => rfl)).squeeze S8192 squeezes_S1x8192_S8192).view.set = rowSet p.toNat := by
  have e : ((oV.slice (Rect.unit (s := S8192x8192) (k1_off13 p) S1x8192.size inb) (fun _ => rfl)).squeeze S8192 squeezes_S1x8192_S8192).view.set
      = (Rect.unit (s := S8192x8192) (k1_off13 p) S1x8192.size inb).set :=
    (View.set_reshape _ _).trans (View.set_slice_whole main_v79_scv (Rect.unit (s := S8192x8192) (k1_off13 p) S1x8192.size inb))
  rw [e]
  ext i
  rw [Rect.mem_set_unit, mem_rowSet]
  have h0 : k1_off13 p 0 = p.toNat := rfl
  have h1 : k1_off13 p 1 = 0 := rfl
  have hi : (i 1).val < 8192 := (i 1).isLt
  constructor
  · intro h
    have := h 0
    rw [h0] at this
    have h2 : (i 0).val < p.toNat + 1 := this.2
    omega
  · intro h a
    match a with
    | 0 => exact ⟨by rw [h0]; omega, by rw [h0]; show _ < p.toNat + 1; omega⟩
    | 1 => exact ⟨by rw [h1]; omega, by rw [h1]; show _ < 0 + 8192; omega⟩

end Cert.Proof.Run

end
-- ==== Proof.Active.lean ====
module

public import proofs.«01_k».proof.Proof.Group

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F] (d : Dev nD) (L : grid1.Coords)

/-- A group's row of the output, held by the tile the group belongs to: nothing for a group with no members. -/
abbrev rowPiece (p c : BitVec 32) (g : S8192x8192.Idx → Elt F .f32) : sProp 𝕄 :=
  if 0 < c.toNat then ((oV).view.loc (V d (cV L) (jV L)) ↦[rowSet p.toNat]{fullShare} g : sProp 𝕄) else iprop(emp)

/-- What a tile holds between two groups. -/
def tileHeld (qw qb : PosShare TreeShare) (f : S8192x8192.Idx → Elt F .f32) (fbr : S1024x8192.Idx → Elt F .f32)
    (fq : S1040.Idx → BitVec 32) (fe : S1040.Idx → F .f32) (fP fS fC : S48.Idx → BitVec 32)
    (O : CellTallies nD τ sig (HIx 1)) (W : Waits sig (HIx 1)) : sProp 𝕄 :=
  iprop(Transfers.MayWaits (V d (cV L) (jV L)) (default : HIx 1) O
    ∗ ((wV).view.loc (V d (cV L) (jV L)) ↦{qw} f)
    ∗ ((bV).view.loc (V d (cV L) (jV L)) ↦{qb} fbr)
    ∗ psQ d L fq ∗ psE d L fe ∗ psP d L fP ∗ psS d L fS ∗ psC d L fC
    ∗ (∃ fw, psW d L fw) ∗ (∃ fb, psB d L fb)
    ∗ psA d L (fun _ => (fz : F .f32)) ∗ psN d L (fun _ => (fz : F .f32))
    ∗ semVal (V d (cV L) (jV L), SemLoc.dma cc1_scoped5.sem) 0
    ∗ semVal (V d (cV L) (jV L), SemLoc.dma cc1_scoped6.sem) 0
    ∗ semVal (V d (cV L) (jV L), SemLoc.dma cc1_scoped8.sem) 0
    ∗ ownWaits d L O W)

theorem own_trans {O : CellTallies nD τ sig (HIx 1)} {W W' : Waits sig (HIx 1)} (h : ∀ p ∈ W', p ∈ W ∨ p.2 = none) :
    ownWaits (F := F) d L O W' ⊢ ownWaits d L O W := by
  iintro ⟨%W'', %hW, HO⟩
  iexists W''
  isplitl []
  · ipureintro
    intro p hp
    rcases hW p hp with h' | h'
    · exact h p h'
    · exact .inr h'
  iexact HO

/-- A column of a row's view is the row's element there. -/
theorem emb_row (p : BitVec 32) (inb : ∀ a, k1_off13 p a + S1x8192.size a ≤ S8192x8192.size a) (i : S8192x8192.Idx) (hi : i ∈ rowSet p.toNat) :
    ((oV.slice (Rect.unit (s := S8192x8192) (k1_off13 p) S1x8192.size inb) (fun _ => rfl)).squeeze S8192 squeezes_S1x8192_S8192).view.emb (colOf i) = i := by
  have e : Shape.reshapeEquiv squeezes_S1x8192_S8192.numel_eq (colOf i) = (Fin.cons ⟨0, Nat.one_pos⟩ (colOf i) : S1x8192.Idx) :=
    Shape.reshapeEquiv_cons_one (n := 1) (d := ![8192]) squeezes_S1x8192_S8192.numel_eq (colOf i)
  show (Rect.unit (s := S8192x8192) (k1_off13 p) S1x8192.size inb).emb (Shape.reshapeEquiv squeezes_S1x8192_S8192.numel_eq (colOf i)) = _
  rw [e]
  refine Rect.emb_eq_of_coords _ _ _ fun a => ?_
  match a with
  | 0 => show (i 0).val = p.toNat + 1 * 0; rw [mem_rowSet.mp hi]; omega
  | 1 => show (i 1).val = 0 + 1 * (i 1).val; omega

/-- A row sent through its view lands column by column. -/
theorem write_row (p : BitVec 32) (inb : ∀ a, k1_off13 p a + S1x8192.size a ≤ S8192x8192.size a)
    (g : S8192x8192.Idx → Elt F .f32) (w : S8192.Idx → Elt F .f32) (i : S8192x8192.Idx) (hi : i ∈ rowSet p.toNat) :
    ((oV.slice (Rect.unit (s := S8192x8192) (k1_off13 p) S1x8192.size inb) (fun _ => rfl)).squeeze S8192 squeezes_S1x8192_S8192).view.writes (Elt F) g [⟨Rect.whole S8192, w⟩] i = w (colOf i) := by
  have h : (((oV.slice (Rect.unit (s := S8192x8192) (k1_off13 p) S1x8192.size inb) (fun _ => rfl)).squeeze S8192 squeezes_S1x8192_S8192).view.slice (Rect.whole S8192)).emb (colOf i) = i := by
    show ((oV.slice (Rect.unit (s := S8192x8192) (k1_off13 p) S1x8192.size inb) (fun _ => rfl)).squeeze S8192 squeezes_S1x8192_S8192).view.emb ((Rect.whole S8192).emb (colOf i)) = i
    rw [Rect.emb_whole_apply]
    exact emb_row p inb i hi
  rw [View.writes_singleton]
  exact (congrArg _ h.symm).trans (View.write_emb_of_mem _ _ (Finset.mem_univ _))

theorem pts_row (p : BitVec 32) (inb : ∀ a, k1_off13 p a + S1x8192.size a ≤ S8192x8192.size a) (g : S8192x8192.Idx → Elt F .f32) :
    (((oV.slice (Rect.unit (s := S8192x8192) (k1_off13 p) S1x8192.size inb) (fun _ => rfl)).squeeze S8192 squeezes_S1x8192_S8192).view.loc (V d (cV L) (jV L))
      ↦[((oV.slice (Rect.unit (s := S8192x8192) (k1_off13 p) S1x8192.size inb) (fun _ => rfl)).squeeze S8192 squeezes_S1x8192_S8192).view.set]{fullShare} g : sProp 𝕄)
      = ((oV).view.loc (V d (cV L) (jV L)) ↦[rowSet p.toNat]{fullShare} g : sProp 𝕄) :=
  congrArg (fun I => ((oV).view.loc (V d (cV L) (jV L)) ↦[I]{fullShare} g : sProp 𝕄)) (set_row p inb)

theorem row_done (p r : BitVec 32) (e : p = r) (inb : ∀ a, k1_off13 p a + S1x8192.size a ≤ S8192x8192.size a) (g h : S8192x8192.Idx → Elt F .f32)
    (w : S8192.Idx → Elt F .f32) (hw : ∀ i ∈ rowSet r.toNat, w (colOf i) = h i) :
    (((oV.slice (Rect.unit (s := S8192x8192) (k1_off13 p) S1x8192.size inb) (fun _ => rfl)).squeeze S8192 squeezes_S1x8192_S8192).view.loc (V d (cV L) (jV L)) ↦[((oV.slice (Rect.unit (s := S8192x8192) (k1_off13 p) S1x8192.size inb) (fun _ => rfl)).squeeze S8192 squeezes_S1x8192_S8192).view.set]{fullShare} ((oV.slice (Rect.unit (s := S8192x8192) (k1_off13 p) S1x8192.size inb) (fun _ => rfl)).squeeze S8192 squeezes_S1x8192_S8192).view.writes (Elt F) g [⟨Rect.whole S8192, w⟩] : sProp 𝕄)
      = ((oV).view.loc (V d (cV L) (jV L)) ↦[rowSet r.toNat]{fullShare} h : sProp 𝕄) := by
  subst e
  rw [pts_row]
  exact pointsTo_congr fun i hi => (write_row p inb g w i hi).trans (hw i hi)

theorem t8_trips : k1_t8_loop.trips = 64 := by decide

theorem group_run (qw qb : PosShare TreeShare) (f : S8192x8192.Idx → Elt F .f32) (fbr : S1024x8192.Idx → Elt F .f32)
    (fq : S1040.Idx → BitVec 32) (fe : S1040.Idx → F .f32) (fP fS fC : S48.Idx → BitVec 32)
    (O : CellTallies nD τ sig (HIx 1)) (W : Waits sig (HIx 1)) (k : Fin k1_t2_loop.trips) (a : BitVec 32)
    (hG : GroupOK (fP (at48 k.val)) (fS (at48 k.val)) (fC (at48 k.val))) (hq : ∀ y, (fq y).toNat < 1024)
    (g : S8192x8192.Idx → Elt F .f32) :
    iprop(tileHeld (F := F) d L qw qb f fbr fq fe fP fS fC O W ∗ rowPiece d L (fP (at48 k.val)) (fC (at48 k.val)) g)
      ⊢ wp frame (wpE (defs₀ (F := F)) 𝒱₀ (V d (cV L) (jV L)) none) Set.univ (groupBody L lanes k1_pay199 k a)
          fun _ => iprop(tileHeld (F := F) d L qw qb f fbr fq fe fP fS fC O W
            ∗ rowPiece d L (fP (at48 k.val)) (fC (at48 k.val)) (fun i => rowElt f fbr fq fe (fP (at48 k.val)).toNat (fS (at48 k.val)).toNat (fC (at48 k.val)).toNat (colOf i))) := by
  unfold groupBody k1_t2_body tileHeld
  iintro ⟨⟨Hmw, Hf, Hbr, Hq, He, HP, HS, HC, ⟨%fw, Hw⟩, ⟨%fb, Hb⟩, Ha, Hn, Hs5, Hs6, Hs8, %W0, %hW0, HO⟩, Hr⟩
  have eP : extractAt ![0] (k1_pay3 (F := F) (View.readAt (Elt F) sP.view (Rect.unit (s := S48) (k1_off3 k) S16.size (k1_off3_inb k)).toLoadRect fP)) inpos_S1_p0 = fP (at48 k.val) :=
    (pay3_eq _).trans (congrArg fP (at48_eq k))
  have eS : extractAt ![0] (k1_pay4 (F := F) (View.readAt (Elt F) sS.view (Rect.unit (s := S48) (k1_off3 k) S16.size (k1_off3_inb k)).toLoadRect fS)) inpos_S1_p0 = fS (at48 k.val) :=
    (pay4_eq _).trans (congrArg fS (at48_eq k))
  have eC : extractAt ![0] (k1_pay5 (F := F) (View.readAt (Elt F) sC.view (Rect.unit (s := S48) (k1_off3 k) S16.size (k1_off3_inb k)).toLoadRect fC)) inpos_S1_p0 = fC (at48 k.val) :=
    (pay5_eq _).trans (congrArg fC (at48_eq k))
  have hG' : GroupOK (extractAt ![0] (k1_pay3 (F := F) (View.readAt (Elt F) sP.view (Rect.unit (s := S48) (k1_off3 k) S16.size (k1_off3_inb k)).toLoadRect fP)) inpos_S1_p0)
      (extractAt ![0] (k1_pay4 (F := F) (View.readAt (Elt F) sS.view (Rect.unit (s := S48) (k1_off3 k) S16.size (k1_off3_inb k)).toLoadRect fS)) inpos_S1_p0)
      (extractAt ![0] (k1_pay5 (F := F) (View.readAt (Elt F) sC.view (Rect.unit (s := S48) (k1_off3 k) S16.size (k1_off3_inb k)).toLoadRect fC)) inpos_S1_p0) := by
    rw [eP, eS, eC]
    exact hG
  by_cases h2 : k1_cond1 (extractAt ![0] (k1_pay5 (F := F) (View.readAt (Elt F) sC.view (Rect.unit (s := S48) (k1_off3 k) S16.size (k1_off3_inb k)).toLoadRect fC)) inpos_S1_p0) = 1#1
  · set_option sl_exec.maxSteps 5 in sl_exec (disch := exact chk1_of hG')
    rw [wp_bind]
    iapply (wp_wand_r Idealize.ShloMosaic.frame (wpE (defs₀ (F := F)) 𝒱₀ (V d (cV L) (jV L)) none) Set.univ)
    isplitl [Hmw Hf Hw Hs5 HO]
    · iapply (part24_run d L _ _ _ _ _ hG' qw f fw O W0)
      isplitl [Hmw]; · iexact Hmw
      isplitl [Hf]; · iexact Hf
      isplitl [Hw]; · iexact Hw
      isplitl [Hs5]; · iexact Hs5
      iexact HO
    iintro %r ⟨%h24, Hmw, Hf, Hw, Hs5, %W1, %hW1, HO⟩
    rcases r with ⟨b, i, v56, v60, v65, v66⟩
    dsimp only at h24 ⊢
    rw [wp_bind]
    iapply (wp_wand_r Idealize.ShloMosaic.frame (wpE (defs₀ (F := F)) 𝒱₀ (V d (cV L) (jV L)) none) Set.univ)
    isplitl []
    · iapply (part25_run d L b i v56 v60 v65 v66 h24.2)
      iempintro
    iintro %r %h25
    rcases r with ⟨v121, v122, v124, v126⟩
    dsimp only at h25 ⊢
    rw [wp_bind]
    iapply (wp_wand_r Idealize.ShloMosaic.frame (wpE (defs₀ (F := F)) 𝒱₀ (V d (cV L) (jV L)) none) Set.univ)
    isplitl []
    · iapply (part26_run d L b i v121 v122 v124 v126 h25.1 h25.2.1 h25.2.2)
      iempintro
    iintro %r %h26
    rcases r with ⟨v176, v177, v179, v181, v186⟩
    dsimp only at h26 ⊢
    have hc : 0 < (fC (at48 k.val)).toNat := by
      rw [← eC]
      exact (cond1_iff hG'.1).mp h2
    have hbi : b = (fun x => (maxLane (F := F) (fun y => f (rowAt (fP (at48 k.val)).toNat y)) x 512).1) ∧ i = (fun x => (maxLane (F := F) (fun y => f (rowAt (fP (at48 k.val)).toNat y)) x 512).2) := by
      rw [← eP]
      exact ⟨funext fun x => congrArg Prod.fst (h24.1 x), funext fun x => congrArg Prod.snd (h24.1 x)⟩
    ihave Hw := (Entails.of_eq (congrArg (fun r : BitVec 32 => psW d L fun y => f (rowAt r.toNat y)) eP)) $$ Hw
    sl_for (memInv d L (extractAt ![0] (k1_pay4 (F := F) (View.readAt (Elt F) sS.view (Rect.unit (s := S48) (k1_off3 k) S16.size (k1_off3_inb k)).toLoadRect fS)) inpos_S1_p0) qb fbr fq fe O W1) $$ [Hmw Hbr Hq He Hb Ha Hn Hs6 HO]
    case region =>
      intro k' a'
      exact mem_step d L _ _ _ _ h2 k' a' qb fbr fq fe hG' hq O W1
    · unfold memInv
      isplitl []; · ipureintro; rfl
      isplitl [Hmw]; · iexact Hmw
      isplitl [Hbr]; · iexact Hbr
      isplitl [Hq]; · iexact Hq
      isplitl [He]; · iexact He
      isplitl [Hb]; · iexists _; iexact Hb
      isplitl [Ha]; · iexact Ha
      isplitl [Hn]; · iexact Hn
      isplitl [Hs6]; · iexact Hs6
      iexists W1
      isplitl []
      · ipureintro
        exact fun p hp => .inl hp
      iexact HO
    iintro %le HI
    unfold memInv
    icases HI with ⟨%hle, Hmw, Hbr, Hq, He, Hb, Ha, Hn, Hs6, %W2, %hW2, HO⟩
    have hle' : sumLe fe (extractAt ![0] (k1_pay4 (F := F) (View.readAt (Elt F) sS.view (Rect.unit (s := S48) (k1_off3 k) S16.size (k1_off3_inb k)).toLoadRect fS)) inpos_S1_p0).toNat (k1_t4_loop (extractAt ![0] (k1_pay5 (F := F) (View.readAt (Elt F) sC.view (Rect.unit (s := S48) (k1_off3 k) S16.size (k1_off3_inb k)).toLoadRect fC)) inpos_S1_p0)).trips = sumLe fe (fS (at48 k.val)).toNat (fC (at48 k.val)).toNat := by
      rw [t4_trips hG'.1, eS, eC]
    have hA : accRow fe fbr fq (extractAt ![0] (k1_pay4 (F := F) (View.readAt (Elt F) sS.view (Rect.unit (s := S48) (k1_off3 k) S16.size (k1_off3_inb k)).toLoadRect fS)) inpos_S1_p0).toNat (k1_t4_loop (extractAt ![0] (k1_pay5 (F := F) (View.readAt (Elt F) sC.view (Rect.unit (s := S48) (k1_off3 k) S16.size (k1_off3_inb k)).toLoadRect fC)) inpos_S1_p0)).trips = accRow fe fbr fq (fS (at48 k.val)).toNat (fC (at48 k.val)).toNat := by
      rw [t4_trips hG'.1, eS, eC]
    have hN : anyRow fbr fq (extractAt ![0] (k1_pay4 (F := F) (View.readAt (Elt F) sS.view (Rect.unit (s := S48) (k1_off3 k) S16.size (k1_off3_inb k)).toLoadRect fS)) inpos_S1_p0).toNat (k1_t4_loop (extractAt ![0] (k1_pay5 (F := F) (View.readAt (Elt F) sC.view (Rect.unit (s := S48) (k1_off3 k) S16.size (k1_off3_inb k)).toLoadRect fC)) inpos_S1_p0)).trips = anyRow fbr fq (fS (at48 k.val)).toNat (fC (at48 k.val)).toNat := by
      rw [t4_trips hG'.1, eS, eC]
    have hM : (Scalar.select (Scalar.ori (Scalar.cmpf .ogt (k1_pay7 b) (k1_pay6 v176 v179 v186)) (Scalar.andi (Scalar.cmpf .oeq (k1_pay7 b) (k1_pay6 v176 v179 v186)) (Scalar.cmpi .slt (extractAt ![0] (k1_pay8 i) inpos_S1_p0) (Scalar.select v186 v181 v177)))) (extractAt ![0] (k1_pay8 i) inpos_S1_p0) (Scalar.select v186 v181 v177)) = bestCol (fun y => f (rowAt (fP (at48 k.val)).toNat y)) := by
      refine (congrArg (fun c => (laneStep (pick b 15) (pick i 15) c).2) h26).trans ?_
      rw [hbi.1, hbi.2]
      rfl
    sl_exec
    sl_for (finInv d L (Scalar.select (Scalar.ori (Scalar.cmpf .ogt (k1_pay7 b) (k1_pay6 v176 v179 v186)) (Scalar.andi (Scalar.cmpf .oeq (k1_pay7 b) (k1_pay6 v176 v179 v186)) (Scalar.cmpi .slt (extractAt ![0] (k1_pay8 i) inpos_S1_p0) (Scalar.select v186 v181 v177)))) (extractAt ![0] (k1_pay8 i) inpos_S1_p0) (Scalar.select v186 v181 v177)) le (fun y => f (rowAt (fP (at48 k.val)).toNat y)) (accRow fe fbr fq (fS (at48 k.val)).toNat (fC (at48 k.val)).toNat) (anyRow fbr fq (fS (at48 k.val)).toNat (fC (at48 k.val)).toNat)) $$ [Hw Ha Hn]
    case region =>
      intro k' a'
      exact fin_step d L _ le _ _ _ k' a'
    · unfold finInv
      iexists _, _, _
      isplitl [Hw]; · iexact Hw
      isplitl [Ha]; · iexact Ha
      isplitl [Hn]; · iexact Hn
      isplitl []
      · ipureintro; intro y; rw [if_neg (by omega)]
      isplitl []
      · ipureintro; intro y; rw [if_neg (by omega)]; exact congrFun hA y
      · ipureintro; intro y; rw [if_neg (by omega)]; exact congrFun hN y
    iintro %_ HI
    unfold finInv
    icases HI with ⟨%fw', %fa', %fn', Hw, Ha, Hn, %hw', %ha', %hn'⟩
    ihave Hr := (Entails.of_eq (show rowPiece (F := F) d L (fP (at48 k.val)) (fC (at48 k.val)) g = _ from (if_pos hc).trans
      (congrArg (fun r : BitVec 32 => ((oV).view.loc (V d (cV L) (jV L)) ↦[rowSet r.toNat]{fullShare} g : sProp 𝕄)) eP.symm))) $$ Hr
    ihave Hr := (Entails.of_eq (pts_row (F := F) d L _ (k1_off13_inb _ _ _ (chk1_of hG') h2) g).symm) $$ Hr
    sl_exec
    sl_step
    isplitr [Hr]
    · isplitl [Hmw]; · iexact Hmw
      isplitl [Hf]; · iexact Hf
      isplitl [Hbr]; · iexact Hbr
      isplitl [Hq]; · iexact Hq
      isplitl [He]; · iexact He
      isplitl [HP]; · iexact HP
      isplitl [HS]; · iexact HS
      isplitl [HC]; · iexact HC
      isplitl [Hw]; · iexists _; iexact Hw
      isplitl [Hb]; · iexact Hb
      isplitl [Ha]
      · iapply (Entails.of_eq (congrArg (fun f => psA d L f) (funext fun y => ?_))) $$ Ha
        have hy : (y 0).val < 8192 := (y 0).isLt
        rw [ha' y, if_pos (show (y 0).val < 128 * k1_t8_loop.trips by rw [t8_trips]; omega)]
      isplitl [Hn]
      · iapply (Entails.of_eq (congrArg (fun f => psN d L f) (funext fun y => ?_))) $$ Hn
        have hy : (y 0).val < 8192 := (y 0).isLt
        rw [hn' y, if_pos (show (y 0).val < 128 * k1_t8_loop.trips by rw [t8_trips]; omega)]
      isplitl [Hs5]; · iexact Hs5
      isplitl [Hs6]; · iexact Hs6
      isplitl [Hs8]; · iexact Hs8
      iexists _
      isplitr [HO]
      rotate_left
      · iexact HO
      · ipureintro
        intro p' hp
        rcases Finset.mem_insert.mp hp with hp | hp
        · exact .inr (hp ▸ rfl)
        · rcases hW2 p' hp with hp | hp
          · rcases hW1 p' hp with hp | hp
            · exact hW0 p' hp
            · exact .inr hp
          · exact .inr hp
    · have hval : ∀ i ∈ rowSet (fP (at48 k.val)).toNat, fw' (colOf i) = rowElt f fbr fq fe (fP (at48 k.val)).toNat (fS (at48 k.val)).toNat (fC (at48 k.val)).toNat (colOf i) := by
        intro i _
        have hy : (colOf i 0).val < 8192 := (colOf i 0).isLt
        rw [hw' (colOf i), if_pos (show (colOf i 0).val < 128 * k1_t8_loop.trips by rw [t8_trips]; omega), hM]
        rw [show le = sumLe fe (fS (at48 k.val)).toNat (fC (at48 k.val)).toNat from hle.trans hle']
        rfl
      iapply (Entails.of_eq ((row_done (F := F) d L _ _ eP (k1_off13_inb _ _ _ (chk1_of hG') h2) g _ _ ?_).trans (if_pos hc).symm)) $$ Hr
      exact hval
  · have hc : ¬ 0 < (fC (at48 k.val)).toNat := by
      rw [← eC]
      exact fun h => h2 ((cond1_iff hG'.1).mpr h)
    sl_exec (disch := exact chk1_of hG')
    sl_step
    isplitr [Hr]
    · isplitl [Hmw]; · iexact Hmw
      isplitl [Hf]; · iexact Hf
      isplitl [Hbr]; · iexact Hbr
      isplitl [Hq]; · iexact Hq
      isplitl [He]; · iexact He
      isplitl [HP]; · iexact HP
      isplitl [HS]; · iexact HS
      isplitl [HC]; · iexact HC
      isplitl [Hw]; · iexists _; iexact Hw
      isplitl [Hb]; · iexists _; iexact Hb
      isplitl [Ha]; · iexact Ha
      isplitl [Hn]; · iexact Hn
      isplitl [Hs5]; · iexact Hs5
      isplitl [Hs6]; · iexact Hs6
      isplitl [Hs8]; · iexact Hs8
      iexists W0
      isplitl []
      · ipureintro; exact hW0
      iexact HO
    · iapply (Entails.of_eq ((if_neg hc : rowPiece (F := F) d L (fP (at48 k.val)) (fC (at48 k.val)) g = _).trans (if_neg hc).symm)) $$ Hr

end Cert.Proof.Run

end
-- ==== Proof.Tile.lean ====
module

public import proofs.«01_k».proof.Proof.Active

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F] (d : Dev nD) (L : grid1.Coords)

/-- A tile's number among the 32. -/
abbrev tileNo (L : grid1.Coords) : ℕ := (L 1).val * 2 + (L 0).val

theorem tileNo_lt : tileNo L < 32 := by
  have h0 : (L 0).val < 2 := (L 0).isLt
  have h1 : (L 1).val < 16 := (L 1).isLt
  show (L 1).val * 2 + (L 0).val < 32
  omega

theorem off1_eq : k1_off1 L = ![32 * tileNo L] := by
  have h0 : (L 0).val < 2 := (L 0).isLt
  have h1 : (L 1).val < 16 := (L 1).isLt
  show ![(Scalar.muli (Scalar.addi (Scalar.muli (BitVec.ofNat 32 (L 1).val) 2#32) (BitVec.ofNat 32 (L 0).val)) 32#32).toNat] = _
  congr 1
  simp only [Scalar.muli, Scalar.addi, IntOp.muli, IntOp.addi, BitVec.toNat_mul, BitVec.toNat_add, BitVec.toNat_ofNat, tileNo]
  omega

/-- What a tile's copy of a list of 1040 words leaves in the first 32 entries of its own list. -/
abbrev Copied (g : S1040.Idx → BitVec 32) (f : S48.Idx → BitVec 32) : Prop := ∀ i, i < 32 → f (at48 i) = g (at1040 (32 * tileNo L + i))

theorem copied_of {g : S1040.Idx → BitVec 32} {f : S48.Idx → BitVec 32} {w : S32.Idx → BitVec 32}
    (hf : ∀ x : S32.Idx, f ((Rect.unit (s := S48) ![0] S32.size inb_S48_S32_0).emb x) = w x)
    (hw : ∀ x : S32.Idx, w x = g ((Rect.unit (s := S1040) (k1_off1 L) S32.size (k1_off1_inb L)).emb x)) : Copied L g f := by
  intro i hi
  have ht := tileNo_lt L
  let x : S32.Idx := fun | 0 => ⟨i, hi⟩
  have h1 : (Rect.unit (s := S48) ![0] S32.size inb_S48_S32_0).emb x = at48 i := by
    refine Rect.emb_eq_of_coords _ _ _ fun a => ?_
    match a with
    | 0 => show i % 48 = 0 + 1 * i; omega
  have h2 : (Rect.unit (s := S1040) (k1_off1 L) S32.size (k1_off1_inb L)).emb x = at1040 (32 * tileNo L + i) := by
    refine Rect.emb_eq_of_coords _ _ _ fun a => ?_
    match a with
    | 0 =>
      show (32 * tileNo L + i) % 1040 = k1_off1 L 0 + 1 * i
      rw [off1_eq]
      show (32 * tileNo L + i) % 1040 = 32 * tileNo L + 1 * i
      omega
  rw [← h1, hf x, hw x, h2]

theorem write_sQ (f w : S1040.Idx → BitVec 32) : View.write (Elt F) sQ.view f w Finset.univ = w := by
  have h : ∀ g : S1040.Idx → BitVec 32, View.read (Elt F) sQ.view g = g := fun _ => rfl
  exact (h (View.write (Elt F) sQ.view f w Finset.univ)).symm.trans (View.read_write_univ (v := sQ.view) (Val := Elt F) f w)

theorem write_sE (f w : S1040.Idx → F .f32) : View.write (Elt F) sE.view f w Finset.univ = w := by
  have h : ∀ g : S1040.Idx → F .f32, View.read (Elt F) sE.view g = g := fun _ => rfl
  exact (h (View.write (Elt F) sE.view f w Finset.univ)).symm.trans (View.read_write_univ (v := sE.view) (Val := Elt F) f w)

/-- The tile's five copies of the host's lists. -/
theorem part27_run (q0 q1 q2 q3 q4 : PosShare TreeShare) (gp gs gc sp : S1040.Idx → BitVec 32) (sl : S1040.Idx → F .f32)
    (fP fS fC : S48.Idx → BitVec 32) (fq : S1040.Idx → BitVec 32) (fe : S1040.Idx → F .f32)
    (O : CellTallies nD τ sig (HIx 1)) (W : Waits sig (HIx 1)) :
    iprop(Transfers.MayWaits (V d (cV L) (jV L)) (default : HIx 1) O
        ∗ ((gpV).view.loc (V d (cV L) (jV L)) ↦{q0} gp) ∗ ((gsV).view.loc (V d (cV L) (jV L)) ↦{q1} gs)
        ∗ ((gcV).view.loc (V d (cV L) (jV L)) ↦{q2} gc) ∗ ((spV).view.loc (V d (cV L) (jV L)) ↦{q3} sp)
        ∗ ((slV).view.loc (V d (cV L) (jV L)) ↦{q4} sl)
        ∗ psP d L fP ∗ psS d L fS ∗ psC d L fC ∗ psQ d L fq ∗ psE d L fe
        ∗ semVal (V d (cV L) (jV L), SemLoc.dma cc1_scoped0.sem) 0 ∗ semVal (V d (cV L) (jV L), SemLoc.dma cc1_scoped1.sem) 0
        ∗ semVal (V d (cV L) (jV L), SemLoc.dma cc1_scoped2.sem) 0 ∗ semVal (V d (cV L) (jV L), SemLoc.dma cc1_scoped3.sem) 0
        ∗ semVal (V d (cV L) (jV L), SemLoc.dma cc1_scoped4.sem) 0
        ∗ owes (V d (cV L) (jV L)) O W)
      ⊢ wp frame (wpE (defs₀ (F := F)) 𝒱₀ (V d (cV L) (jV L)) none) Set.univ
          (k1_part27 L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8)
          fun r => iprop(⌜r = ⟨lanes, k1_pay199, 0#32, 0#32⟩⌝
        ∗ Transfers.MayWaits (V d (cV L) (jV L)) (default : HIx 1) O
        ∗ ((gpV).view.loc (V d (cV L) (jV L)) ↦{q0} gp) ∗ ((gsV).view.loc (V d (cV L) (jV L)) ↦{q1} gs)
        ∗ ((gcV).view.loc (V d (cV L) (jV L)) ↦{q2} gc) ∗ ((spV).view.loc (V d (cV L) (jV L)) ↦{q3} sp)
        ∗ ((slV).view.loc (V d (cV L) (jV L)) ↦{q4} sl)
        ∗ (∃ f, psP d L f ∗ ⌜Copied L gp f⌝) ∗ (∃ f, psS d L f ∗ ⌜Copied L gs f⌝) ∗ (∃ f, psC d L f ∗ ⌜Copied L gc f⌝)
        ∗ psQ d L sp ∗ psE d L sl
        ∗ semVal (V d (cV L) (jV L), SemLoc.dma cc1_scoped0.sem) 0 ∗ semVal (V d (cV L) (jV L), SemLoc.dma cc1_scoped1.sem) 0
        ∗ semVal (V d (cV L) (jV L), SemLoc.dma cc1_scoped2.sem) 0 ∗ semVal (V d (cV L) (jV L), SemLoc.dma cc1_scoped3.sem) 0
        ∗ semVal (V d (cV L) (jV L), SemLoc.dma cc1_scoped4.sem) 0
        ∗ ownWaits d L O W) := by
  unfold k1_part27
  iintro ⟨Hmw, H0, H1, H2, H3, H4, HP, HS, HC, HQ, HE, Hs0, Hs1, Hs2, Hs3, Hs4, HO⟩
  sl_exec
  sl_step
  isplitl []; · ipureintro; rfl
  isplitl [Hmw]; · iexact Hmw
  isplitl [H0]; · iexact H0
  isplitl [H1]; · iexact H1
  isplitl [H2]; · iexact H2
  isplitl [H3]; · iexact H3
  isplitl [H4]; · iexact H4
  isplitl [HP]
  · iexists _
    isplitl [HP]; · iexact HP
    ipureintro
    exact copied_of L (fun x => View.write_emb_of_mem (v := sP.view.slice (Rect.unit (s := S48) ![0] S32.size inb_S48_S32_0)) (Val := Elt F) _ _ (Finset.mem_univ x)) fun _ => rfl
  isplitl [HS]
  · iexists _
    isplitl [HS]; · iexact HS
    ipureintro
    exact copied_of L (fun x => View.write_emb_of_mem (v := sS.view.slice (Rect.unit (s := S48) ![0] S32.size inb_S48_S32_0)) (Val := Elt F) _ _ (Finset.mem_univ x)) fun _ => rfl
  isplitl [HC]
  · iexists _
    isplitl [HC]; · iexact HC
    ipureintro
    exact copied_of L (fun x => View.write_emb_of_mem (v := sC.view.slice (Rect.unit (s := S48) ![0] S32.size inb_S48_S32_0)) (Val := Elt F) _ _ (Finset.mem_univ x)) fun _ => rfl
  isplitl [HQ]
  · iapply (Entails.of_eq (congrArg (fun f => psQ (F := F) d L f) ((write_sQ _ _).trans ?_))) $$ HQ
    rfl
  isplitl [HE]
  · iapply (Entails.of_eq (congrArg (fun f => psE (F := F) d L f) ((write_sE _ _).trans ?_))) $$ HE
    rfl
  isplitl [Hs0]; · iexact Hs0
  isplitl [Hs1]; · iexact Hs1
  isplitl [Hs2]; · iexact Hs2
  isplitl [Hs3]; · iexact Hs3
  isplitl [Hs4]; · iexact Hs4
  iexists _
  isplitr [HO]
  rotate_left
  · iexact HO
  · ipureintro
    intro p hp
    simp only [Finset.mem_insert] at hp
    rcases hp with hp | hp | hp | hp | hp | hp
    all_goals first | exact .inl hp | exact .inr (hp ▸ rfl)

theorem t1_trips : k1_t1_loop.trips = 64 := by decide
theorem t2_trips : k1_t2_loop.trips = 32 := by decide

/-- The host's tables, as every tile reads them: the weights, the draws, the groups' positions, starts and counts, the
    members' spark numbers and energies. -/
structure Tab (F : FTy → Type) where
  f : S8192x8192.Idx → F .f32
  fbr : S1024x8192.Idx → F .f32
  gp : S1040.Idx → BitVec 32
  gs : S1040.Idx → BitVec 32
  gc : S1040.Idx → BitVec 32
  sp : S1040.Idx → BitVec 32
  sl : S1040.Idx → F .f32

/-- What the tiles ask of the tables. -/
structure Tab.OK (X : Tab F) : Prop where
  group : ∀ n, n < 1024 → GroupOK (X.gp (at1040 n)) (X.gs (at1040 n)) (X.gc (at1040 n))
  member : ∀ y, (X.sp y).toNat < 1024

/-- Group `n`'s row once its tile is done with it. -/
def Tab.newRow (X : Tab F) (n : ℕ) (i : S8192x8192.Idx) : F .f32 :=
  rowElt X.f X.fbr X.sp X.sl (X.gp (at1040 n)).toNat (X.gs (at1040 n)).toNat (X.gc (at1040 n)).toNat (colOf i)

/-- A tile's rows of the output: the first `k` done, the others as they were. -/
def rowsAt (X : Tab F) (g : S8192x8192.Idx → F .f32) (k : ℕ) : sProp 𝕄 :=
  bigSep (Finset.univ : Finset (Fin 32)) fun n =>
    rowPiece d L (X.gp (at1040 (32 * tileNo L + n.val))) (X.gc (at1040 (32 * tileNo L + n.val))) (if n.val < k then X.newRow (32 * tileNo L + n.val) else g)

/-- What holds after `k` groups. -/
def groupInv (X : Tab F) (qw qb : PosShare TreeShare) (fP fS fC : S48.Idx → BitVec 32) (g : S8192x8192.Idx → F .f32)
    (O : CellTallies nD τ sig (HIx 1)) (W : Waits sig (HIx 1)) (k : ℕ) (_ : BitVec 32) : sProp 𝕄 :=
  iprop(tileHeld (F := F) d L qw qb X.f X.fbr X.sp X.sl fP fS fC O W ∗ rowsAt d L X g k)

theorem group_step (X : Tab F) (hX : X.OK) (qw qb : PosShare TreeShare) (fP fS fC : S48.Idx → BitVec 32) (g : S8192x8192.Idx → F .f32)
    (hP : Copied L X.gp fP) (hS : Copied L X.gs fS) (hC : Copied L X.gc fC)
    (O : CellTallies nD τ sig (HIx 1)) (W : Waits sig (HIx 1)) (k : Fin k1_t2_loop.trips) (a : BitVec 32) :
    groupInv d L X qw qb fP fS fC g O W k.val a
      ⊢ wp frame (wpE (defs₀ (F := F)) 𝒱₀ (V d (cV L) (jV L)) none) Set.univ (groupBody L lanes k1_pay199 k a)
          (groupInv d L X qw qb fP fS fC g O W (k.val + 1)) := by
  have hk : k.val < 32 := Nat.lt_of_lt_of_eq k.isLt t2_trips
  have ht := tileNo_lt L
  have eP := hP k.val hk
  have eS := hS k.val hk
  have eC := hC k.val hk
  have hG : GroupOK (fP (at48 k.val)) (fS (at48 k.val)) (fC (at48 k.val)) := by
    rw [eP, eS, eC]
    exact hX.group _ (by omega)
  have hsplit : ∀ j, rowsAt (F := F) d L X g j = iprop(rowPiece d L (X.gp (at1040 (32 * tileNo L + k.val))) (X.gc (at1040 (32 * tileNo L + k.val))) (if k.val < j then X.newRow (32 * tileNo L + k.val) else g)
      ∗ bigSep (Finset.univ.erase (⟨k.val, hk⟩ : Fin 32)) fun n =>
        rowPiece d L (X.gp (at1040 (32 * tileNo L + n.val))) (X.gc (at1040 (32 * tileNo L + n.val))) (if n.val < j then X.newRow (32 * tileNo L + n.val) else g)) := fun j =>
    SparseCore.bigSep_erase' (Finset.mem_univ (⟨k.val, hk⟩ : Fin 32))
  have hrest : (bigSep (Finset.univ.erase (⟨k.val, hk⟩ : Fin 32)) fun n =>
        rowPiece (F := F) d L (X.gp (at1040 (32 * tileNo L + n.val))) (X.gc (at1040 (32 * tileNo L + n.val))) (if n.val < k.val then X.newRow (32 * tileNo L + n.val) else g))
      = bigSep (Finset.univ.erase (⟨k.val, hk⟩ : Fin 32)) fun n =>
        rowPiece d L (X.gp (at1040 (32 * tileNo L + n.val))) (X.gc (at1040 (32 * tileNo L + n.val))) (if n.val < k.val + 1 then X.newRow (32 * tileNo L + n.val) else g) :=
    bigSep_congr fun n hn => by
      have hne : n.val ≠ k.val := fun e => (Finset.mem_erase.mp hn).1 (Fin.ext e)
      by_cases h : n.val < k.val
      · rw [if_pos h, if_pos (show n.val < k.val + 1 by omega)]
      · rw [if_neg h, if_neg (show ¬ n.val < k.val + 1 by omega)]
  unfold groupInv
  rw [hsplit k.val, hsplit (k.val + 1), if_neg (Nat.lt_irrefl _), if_pos (Nat.lt_succ_self _), hrest]
  iintro ⟨Hh, Hr, Hrest⟩
  iapply (wp_wand_r Idealize.ShloMosaic.frame (wpE (defs₀ (F := F)) 𝒱₀ (V d (cV L) (jV L)) none) Set.univ)
  isplitl [Hh Hr]
  · iapply (group_run d L qw qb X.f X.fbr X.sp X.sl fP fS fC O W k a hG hX.member g)
    isplitl [Hh]; · iexact Hh
    rw [eP, eC]
    iexact Hr
  rw [eP, eS, eC]
  iintro %_ ⟨Hh, Hr⟩
  isplitl [Hh]; · iexact Hh
  isplitl [Hr]; · iexact Hr
  iexact Hrest

/-- A tile's whole run. -/
theorem tile_run (X : Tab F) (hX : X.OK) (q : PosShare TreeShare) (g : S8192x8192.Idx → F .f32)
    fw fb fa fn fP fS fC fq fe
    (O : CellTallies nD τ sig (HIx 1)) (W : Waits sig (HIx 1)) :
    iprop(Transfers.MayWaits (V d (cV L) (jV L)) (default : HIx 1) O
        ∗ ((wV).view.loc (V d (cV L) (jV L)) ↦{q} X.f) ∗ ((bV).view.loc (V d (cV L) (jV L)) ↦{q} X.fbr)
        ∗ ((gpV).view.loc (V d (cV L) (jV L)) ↦{q} X.gp) ∗ ((gsV).view.loc (V d (cV L) (jV L)) ↦{q} X.gs)
        ∗ ((gcV).view.loc (V d (cV L) (jV L)) ↦{q} X.gc) ∗ ((spV).view.loc (V d (cV L) (jV L)) ↦{q} X.sp)
        ∗ ((slV).view.loc (V d (cV L) (jV L)) ↦{q} X.sl)
        ∗ psW d L fw ∗ psB d L fb ∗ psA d L fa ∗ psN d L fn
        ∗ psP d L fP ∗ psS d L fS ∗ psC d L fC ∗ psQ d L fq ∗ psE d L fe
        ∗ semVal (V d (cV L) (jV L), SemLoc.dma cc1_scoped0.sem) 0 ∗ semVal (V d (cV L) (jV L), SemLoc.dma cc1_scoped1.sem) 0
        ∗ semVal (V d (cV L) (jV L), SemLoc.dma cc1_scoped2.sem) 0 ∗ semVal (V d (cV L) (jV L), SemLoc.dma cc1_scoped3.sem) 0
        ∗ semVal (V d (cV L) (jV L), SemLoc.dma cc1_scoped4.sem) 0 ∗ semVal (V d (cV L) (jV L), SemLoc.dma cc1_scoped5.sem) 0
        ∗ semVal (V d (cV L) (jV L), SemLoc.dma cc1_scoped6.sem) 0 ∗ semVal (V d (cV L) (jV L), SemLoc.dma cc1_scoped8.sem) 0
        ∗ owes (V d (cV L) (jV L)) O W ∗ rowsAt d L X g 0)
      ⊢ wp frame (wpE (defs₀ (F := F)) 𝒱₀ (V d (cV L) (jV L)) none) Set.univ
          (cc1__sc_body L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8)
          fun _ => iprop(((gpV).view.loc (V d (cV L) (jV L)) ↦{q} X.gp) ∗ ((gsV).view.loc (V d (cV L) (jV L)) ↦{q} X.gs)
        ∗ ((gcV).view.loc (V d (cV L) (jV L)) ↦{q} X.gc) ∗ ((spV).view.loc (V d (cV L) (jV L)) ↦{q} X.sp)
        ∗ ((slV).view.loc (V d (cV L) (jV L)) ↦{q} X.sl)
        ∗ semVal (V d (cV L) (jV L), SemLoc.dma cc1_scoped0.sem) 0 ∗ semVal (V d (cV L) (jV L), SemLoc.dma cc1_scoped1.sem) 0
        ∗ semVal (V d (cV L) (jV L), SemLoc.dma cc1_scoped2.sem) 0 ∗ semVal (V d (cV L) (jV L), SemLoc.dma cc1_scoped3.sem) 0
        ∗ semVal (V d (cV L) (jV L), SemLoc.dma cc1_scoped4.sem) 0
        ∗ (∃ fP fS fC, tileHeld (F := F) d L q q X.f X.fbr X.sp X.sl fP fS fC O W) ∗ rowsAt d L X g 32) := by
  unfold cc1__sc_body
  iintro ⟨Hmw, Hf, Hbr, H0, H1, H2, H3, H4, Hw, Hb, Ha, Hn, HP, HS, HC, HQ, HE, Hs0, Hs1, Hs2, Hs3, Hs4, Hs5, Hs6, Hs8, HO, Hr⟩
  rw [wp_bind]
  iapply (wp_wand_r Idealize.ShloMosaic.frame (wpE (defs₀ (F := F)) 𝒱₀ (V d (cV L) (jV L)) none) Set.univ)
  isplitl [Hmw H0 H1 H2 H3 H4 HP HS HC HQ HE Hs0 Hs1 Hs2 Hs3 Hs4 HO]
  · iapply (part27_run d L q q q q q X.gp X.gs X.gc X.sp X.sl fP fS fC fq fe O W)
    isplitl [Hmw]; · iexact Hmw
    isplitl [H0]; · iexact H0
    isplitl [H1]; · iexact H1
    isplitl [H2]; · iexact H2
    isplitl [H3]; · iexact H3
    isplitl [H4]; · iexact H4
    isplitl [HP]; · iexact HP
    isplitl [HS]; · iexact HS
    isplitl [HC]; · iexact HC
    isplitl [HQ]; · iexact HQ
    isplitl [HE]; · iexact HE
    isplitl [Hs0]; · iexact Hs0
    isplitl [Hs1]; · iexact Hs1
    isplitl [Hs2]; · iexact Hs2
    isplitl [Hs3]; · iexact Hs3
    isplitl [Hs4]; · iexact Hs4
    iexact HO
  iintro %r ⟨%hr, Hmw, H0, H1, H2, H3, H4, ⟨%fP', HP, %hP⟩, ⟨%fS', HS, %hS⟩, ⟨%fC', HC, %hC⟩, HQ, HE, Hs0, Hs1, Hs2, Hs3, Hs4, HO⟩
  subst hr
  dsimp only
  sl_for (zeroInv d L) $$ [Ha Hn]
  case region =>
    intro k a
    exact zero_step d L k a
  · unfold zeroInv
    iexists _, _
    isplitl [Ha]; · iexact Ha
    isplitl [Hn]; · iexact Hn
    isplitl []
    · ipureintro; intro y hy; exact absurd hy (by omega)
    · ipureintro; intro y hy; exact absurd hy (by omega)
  iintro %_ HI
  unfold zeroInv
  icases HI with ⟨%fa', %fn', Ha, Hn, %ha, %hn⟩
  have ha' : fa' = fun _ => fz := funext fun y => ha y (by
    have hy : (y 0).val < 8192 := (y 0).isLt
    show (y 0).val < 128 * k1_t1_loop.trips
    rw [t1_trips]; omega)
  have hn' : fn' = fun _ => fz := funext fun y => hn y (by
    have hy : (y 0).val < 8192 := (y 0).isLt
    show (y 0).val < 128 * k1_t1_loop.trips
    rw [t1_trips]; omega)
  subst ha' hn'
  sl_for (groupInv d L X q q fP' fS' fC' g O W) $$ [Hmw Hf Hbr HQ HE HP HS HC Hw Hb Ha Hn Hs5 Hs6 Hs8 HO Hr]
  case region =>
    intro k a
    exact group_step d L X hX q q fP' fS' fC' g hP hS hC O W k a
  · unfold groupInv tileHeld
    isplitr [Hr]
    · isplitl [Hmw]; · iexact Hmw
      isplitl [Hf]; · iexact Hf
      isplitl [Hbr]; · iexact Hbr
      isplitl [HQ]; · iexact HQ
      isplitl [HE]; · iexact HE
      isplitl [HP]; · iexact HP
      isplitl [HS]; · iexact HS
      isplitl [HC]; · iexact HC
      isplitl [Hw]; · iexists _; iexact Hw
      isplitl [Hb]; · iexists _; iexact Hb
      isplitl [Ha]; · iexact Ha
      isplitl [Hn]; · iexact Hn
      isplitl [Hs5]; · iexact Hs5
      isplitl [Hs6]; · iexact Hs6
      isplitl [Hs8]; · iexact Hs8
      iexact HO
    · iexact Hr
  iintro %_ HI
  unfold groupInv
  icases HI with ⟨Hh, Hr⟩
  sl_step
  isplitl [H0]; · iexact H0
  isplitl [H1]; · iexact H1
  isplitl [H2]; · iexact H2
  isplitl [H3]; · iexact H3
  isplitl [H4]; · iexact H4
  isplitl [Hs0]; · iexact Hs0
  isplitl [Hs1]; · iexact Hs1
  isplitl [Hs2]; · iexact Hs2
  isplitl [Hs3]; · iexact Hs3
  isplitl [Hs4]; · iexact Hs4
  isplitl [Hh]
  · iexists _, _, _
    iexact Hh
  · iapply (Entails.of_eq (congrArg (fun n => rowsAt (F := F) d L X g n) t2_trips)) $$ Hr

end Cert.Proof.Run

end
-- ==== Proof.Call.lean ====
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F]

/-! ## A tile's own cells and buffers -/

section Own
variable (d : Dev nD) (L : grid1.Coords)

/-- The tile's transfer cells. -/
abbrev dcell (d : Dev nD) (c : Fin τ.nSC) (i : Fin τ.nSub) (k : Fin 9) : GSem nD τ sig :=
  (V d c i, .dma ⟨11 + k.val, Nat.lt_of_lt_of_le (Nat.add_lt_add_left k.isLt 11) (by decide)⟩)

theorem dcell_mem (c : Fin τ.nSC) (i : Fin τ.nSub) (k : Fin 9) : dcell d c i k ∈ ownCells (V d c i) :=
  mem_ownCells.mpr ⟨rfl, (show ∀ s : DmaSem sig, 11 ≤ s.val → (SemLoc.dma s : SemLoc sig).isScoped .scVector = true by decide) _ (Nat.le_add_right 11 k.val)⟩

theorem ownSems0_V :
    (ownSems0 (V d (cV L) (jV L)) : sProp 𝕄)
      = iprop((semVal (V d (cV L) (jV L), SemLoc.dma cc1_scoped0.sem) 0 ∗ semVal (V d (cV L) (jV L), SemLoc.dma cc1_scoped1.sem) 0
        ∗ semVal (V d (cV L) (jV L), SemLoc.dma cc1_scoped2.sem) 0 ∗ semVal (V d (cV L) (jV L), SemLoc.dma cc1_scoped3.sem) 0
        ∗ semVal (V d (cV L) (jV L), SemLoc.dma cc1_scoped4.sem) 0 ∗ semVal (V d (cV L) (jV L), SemLoc.dma cc1_scoped5.sem) 0
        ∗ semVal (V d (cV L) (jV L), SemLoc.dma cc1_scoped6.sem) 0 ∗ semVal (V d (cV L) (jV L), SemLoc.dma cc1_scoped7.sem) 0
        ∗ semVal (V d (cV L) (jV L), SemLoc.dma cc1_scoped8.sem) 0)
          ∗ bigSep ((ownCells (V d (cV L) (jV L))) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this
      exact Fin.ext (by omega))]
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- The tile's scratch buffers. -/
def scr : Fin 9 → Ref sig .scVector
  | 0 => cc1_scratch0 | 1 => cc1_scratch1 | 2 => cc1_scratch2 | 3 => cc1_scratch3 | 4 => cc1_scratch4 | 5 => cc1_scratch5 | 6 => cc1_scratch6 | 7 => cc1_scratch7 | 8 => cc1_scratch8

theorem scr_injective : Function.Injective scr := by decide

theorem ownBufs_V :
    (ownBufs (V d (cV L) (jV L)) : sProp 𝕄)
      = iprop(((∃ f, psW d L f) ∗ (∃ f, psB d L f) ∗ (∃ f, psA d L f) ∗ (∃ f, psN d L f) ∗ (∃ f, psP d L f) ∗ (∃ f, psS d L f)
          ∗ (∃ f, psC d L f) ∗ (∃ f, psQ d L f) ∗ (∃ f, psE d L f))
          ∗ bigSep ((ownRefs (τ := τ) (.scVector (cV L) (jV L))) \ Finset.univ.image fun k => (Proc.scVector (cV L) (jV L)).devRef (scr k))
              fun b => iprop(∃ f, ((d, b) : Loc nD τ sig) ↦{fullShare} f)) := by
  unfold SparseCore.Cfg.ownBufs
  rw [SparseCore.bigSep_sdiff_split' (t := Finset.univ.image fun k => (Proc.scVector (cV L) (jV L)).devRef (scr k))
      (Finset.image_subset_iff.mpr fun k _ => SparseCore.Cfg.mem_ownRefs_of_owner (p := Proc.scVector (cV L) (jV L))
        (b := (Proc.scVector (cV L) (jV L)).devRef (scr k)) (match k with | 0 => rfl | 1 => rfl | 2 => rfl | 3 => rfl | 4 => rfl | 5 => rfl | 6 => rfl | 7 => rfl | 8 => rfl)),
    SparseCore.bigSep_image_of_injOn (fun a _ b _ h => scr_injective (Proc.devRef_injective _ h))]
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

end Own

/-! ## What the call hands each tile and takes back -/

/-- A tile's coordinates. -/
def coordsV (c : Fin (grid1.bound 0)) (s : Fin (grid1.bound 1)) : grid1.Coords :=
  fun | 0 => c | 1 => s | ⟨_ + 2, h⟩ => absurd h (Nat.not_lt.2 (Nat.le_add_left _ _))

section Payload
variable (X : Dev nD → Tab F) (g : Dev nD → S8192x8192.Idx → F .f32)

/-- A tile's read share of the tables. -/
def tabShare (d : Dev nD) (L : grid1.Coords) (q : PosShare TreeShare) : sProp 𝕄 :=
  iprop(((wV).view.loc (V d (cV L) (jV L)) ↦{q} (X d).f) ∗ ((bV).view.loc (V d (cV L) (jV L)) ↦{q} (X d).fbr)
        ∗ ((gpV).view.loc (V d (cV L) (jV L)) ↦{q} (X d).gp) ∗ ((gsV).view.loc (V d (cV L) (jV L)) ↦{q} (X d).gs)
        ∗ ((gcV).view.loc (V d (cV L) (jV L)) ↦{q} (X d).gc) ∗ ((spV).view.loc (V d (cV L) (jV L)) ↦{q} (X d).sp)
        ∗ ((slV).view.loc (V d (cV L) (jV L)) ↦{q} (X d).sl))

/-- What a tile holds of the call's operands, `k` of its groups done. -/
def tilePart (d : Dev nD) (L : grid1.Coords) (k : ℕ) : sProp 𝕄 :=
  iprop(tabShare X d L (Transfers.shareTokN fullShare (tileNo L)) ∗ rowsAt d L (X d) (g d) k)

instance tilePart_storable (d : Dev nD) (L : grid1.Coords) (k : ℕ) : BI.Storable (upEmb : UEmb _ 𝕄) (tilePart X g d L k) := by
  unfold tilePart tabShare rowsAt
  have : ∀ n : Fin 32, BI.Storable (upEmb : UEmb _ 𝕄) (rowPiece d L ((X d).gp (at1040 (32 * tileNo L + n.val))) ((X d).gc (at1040 (32 * tileNo L + n.val))) (if n.val < k then (X d).newRow (32 * tileNo L + n.val) else g d)) := by
    intro n
    unfold rowPiece
    split <;> infer_instance
  infer_instance

theorem nCore_zero : (K (F := F)).nCore 0 = grid1.bound 0 := rfl
theorem nSub_zero : (K (F := F)).nSub 0 = grid1.bound 1 := rfl

/-- Tile `(c, i)`'s coordinates. -/
abbrev tileAt (c : Fin ((K (F := F)).nCore 0)) (i : Fin ((K (F := F)).nSub 0)) : grid1.Coords :=
  coordsV (Fin.cast nCore_zero c) (Fin.cast nSub_zero i)

/-- A SparseCore's part: its tiles' parts. -/
def corePart (d : Dev nD) (c : Fin ((K (F := F)).nCore 0)) (k : ℕ) : sProp 𝕄 :=
  bigSep Finset.univ fun i : Fin ((K (F := F)).nSub 0) => tilePart X g d (tileAt (F := F) c i) k

instance corePart_storable (d : Dev nD) (c : Fin ((K (F := F)).nCore 0)) (k : ℕ) : BI.Storable (upEmb : UEmb _ 𝕄) (corePart X g d c k) := by
  unfold corePart
  infer_instance

/-- The call's payloads: each SparseCore is handed its tiles' parts. -/
def P : (K (F := F)).Pay (nD := nD) (Val := Elt F) (Name := ℕ) (U := UU) where
  st := fun q d c => match q with | 0 => corePart X g d c 0
  dn := fun q d c => match q with | 0 => corePart X g d c 32
  go := fun q d c i => match q with | 0 => tilePart X g d (tileAt (F := F) c i) 0
  td := fun q d c i => match q with | 0 => tilePart X g d (tileAt (F := F) c i) 32
  x := fun _ _ => iprop(emp)

instance P_storable : (P X g).IsStorable where
  st q d c := match q with | 0 => corePart_storable X g d c 0
  dn q d c := match q with | 0 => corePart_storable X g d c 32
  go q d c i := match q with | 0 => tilePart_storable X g d (tileAt (F := F) c i) 0
  td q d c i := match q with | 0 => tilePart_storable X g d (tileAt (F := F) c i) 32

theorem vecSplit : (K (F := F)).VecSplit' (P X g) 0 := by
  intro d c
  have h : ∀ A B : sProp 𝕄, A ⊢ |={Set.univ}=> iprop(A ∗ (B -∗ B)) := by
    intro A B
    iintro H
    imodintro
    isplitl [H]; · iexact H
    iintro H
    iexact H
  exact h (corePart X g d c 0) (corePart X g d c 32)

variable (d : Dev nD) (L : grid1.Coords)

set_option maxRecDepth 4096 in
/-- A tile's task, from what the call hands it to what it hands back. -/
theorem tile_body (hF : (K (F := F)).Facts) (hX : (X d).OK) (O : CellTallies nD τ sig (HIx 1)) (W : Waits sig (HIx 1)) (hO : ∀ g, O g none = 0) :
    iprop(levAts (K (F := F)).L (K (F := F)).lev ∗ emp ∗ tilePart X g d L 0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8)
          fun _ => iprop(tilePart X g d L 32 ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold tilePart tabShare
  iintro ⟨#Hlv, -, ⟨⟨Hf, Hbr, H0, H1, H2, H3, H4⟩, Hr⟩,
    ⟨⟨⟨%fw, Hw⟩, ⟨%fb, Hb⟩, ⟨%fa, Ha⟩, ⟨%fn, Hn⟩, ⟨%fP, HP⟩, ⟨%fS, HS⟩, ⟨%fC, HC⟩, ⟨%fq, HQ⟩, ⟨%fe, HE⟩⟩, Hbufs⟩,
    ⟨⟨Hs0, Hs1, Hs2, Hs3, Hs4, Hs5, Hs6, Hs7, Hs8⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r Idealize.ShloMosaic.frame (wpE (defs₀ (F := F)) 𝒱₀ (V d (cV L) (jV L)) none) Set.univ)
  isplitr [Hbufs Hsems Hs7]
  · iapply (tile_run d L (X d) hX (Transfers.shareTokN fullShare (tileNo L)) (g d) fw fb fa fn fP fS fC fq fe O W)
    isplitl [Hmw]; · iexact Hmw
    isplitl [Hf]; · iexact Hf
    isplitl [Hbr]; · iexact Hbr
    isplitl [H0]; · iexact H0
    isplitl [H1]; · iexact H1
    isplitl [H2]; · iexact H2
    isplitl [H3]; · iexact H3
    isplitl [H4]; · iexact H4
    isplitl [Hw]; · iexact Hw
    isplitl [Hb]; · iexact Hb
    isplitl [Ha]; · iexact Ha
    isplitl [Hn]; · iexact Hn
    isplitl [HP]; · iexact HP
    isplitl [HS]; · iexact HS
    isplitl [HC]; · iexact HC
    isplitl [HQ]; · iexact HQ
    isplitl [HE]; · iexact HE
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs8]; · iexact Hs8
    isplitl [HO]; · iexact HO
    iexact Hr
  unfold tileHeld
  iintro %_ ⟨H0, H1, H2, H3, H4, Hs0, Hs1, Hs2, Hs3, Hs4, ⟨%fP, %fS, %fC, -, Hf, Hbr, HQ, HE, HP, HS, HC, Hw, Hb, Ha, Hn, Hs5, Hs6, Hs8, %W', %hW, HO⟩, Hr⟩
  isplitl [Hf Hbr H0 H1 H2 H3 H4 Hr]
  · isplitr [Hr]
    · isplitl [Hf]; · iexact Hf
      isplitl [Hbr]; · iexact Hbr
      isplitl [H0]; · iexact H0
      isplitl [H1]; · iexact H1
      isplitl [H2]; · iexact H2
      isplitl [H3]; · iexact H3
      iexact H4
    iexact Hr
  isplitl [HQ HE HP HS HC Hw Hb Ha Hn Hbufs]
  · isplitr [Hbufs]
    · isplitl [Hw]; · iexact Hw
      isplitl [Hb]; · iexact Hb
      isplitl [Ha]; · iexists _; iexact Ha
      isplitl [Hn]; · iexists _; iexact Hn
      isplitl [HP]; · iexists _; iexact HP
      isplitl [HS]; · iexists _; iexact HS
      isplitl [HC]; · iexists _; iexact HC
      isplitl [HQ]; · iexists _; iexact HQ
      iexists _; iexact HE
    iexact Hbufs
  isplitr [HO]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    iexact Hsems
  iexists W'
  isplitr
  · ipureintro
    intro p hp
    rcases hW p hp with h | h
    · exact .inl h
    · exact .inr (.inl h)
  · iexact HO

theorem defs₀_vector (c : Fin τ.nSC) (s : Fin τ.nSub) :
    defs₀ (F := F) (.scVector c s) 1 ()
      = SparseCore.onTile hcore1 hsub1 (fun c s => cc1__sc_body (coordsV c s) wV (Memref.isWhole_whole _) bV (Memref.isWhole_whole _) gpV (Memref.isWhole_whole _) gsV (Memref.isWhole_whole _) gcV (Memref.isWhole_whole _) spV (Memref.isWhole_whole _) slV (Memref.isWhole_whole _) oV (Memref.isWhole_whole _) oV (Memref.isWhole_whole _) sW (Memref.isWhole_whole _) sB (Memref.isWhole_whole _) sA (Memref.isWhole_whole _) sN (Memref.isWhole_whole _) sP (Memref.isWhole_whole _) sS (Memref.isWhole_whole _) sC (Memref.isWhole_whole _) sQ (Memref.isWhole_whole _) sE (Memref.isWhole_whole _) cc1_scoped0 cc1_scoped1 cc1_scoped2 cc1_scoped3 cc1_scoped4 cc1_scoped5 cc1_scoped6 cc1_scoped7 cc1_scoped8) ⟨⟩ c s := rfl

theorem tileObl (hF : (K (F := F)).Facts) (hX : ∀ d, (X d).OK) : (K (F := F)).TileObl (D (F := F)) 𝒱 (P X g) v₀ 0 := by
  intro d c i O W hO _ _
  simp only [show (P X g).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body X g d (coordsV ⟨_, hci.1⟩ ⟨_, hci.2⟩) hF (hX d) O W hO

end Payload

end Cert.Proof.Run

end
-- ==== Proof.Split.lean ====
module

public import proofs.«01_k».proof.Proof.Call

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F]

/-! ## Reindexing by tile and by group -/

theorem deal_tiles (Φ : ℕ → sProp 𝕄) :
    (bigSep Finset.univ fun c : Fin ((K (F := F)).nCore 0) => bigSep Finset.univ fun i : Fin ((K (F := F)).nSub 0) => Φ (tileNo (tileAt (F := F) c i)))
      = bigSep Finset.univ fun t : Fin 32 => Φ t.val := by
  rw [bigSep_univ_comm (fun (c : Fin ((K (F := F)).nCore 0)) (i : Fin ((K (F := F)).nSub 0)) => Φ (tileNo (tileAt (F := F) c i))),
    bigSep_univ_equiv (finProdFinEquiv : Fin 16 × Fin 2 ≃ Fin 32) (fun t : Fin 32 => Φ t.val), bigSep_univ_prod]
  refine bigSep_congr fun i _ => bigSep_congr fun c _ => congrArg Φ ?_
  show i.val * 2 + c.val = c.val + 2 * i.val
  omega

theorem deal_groups (Φ : ℕ → sProp 𝕄) :
    (bigSep Finset.univ fun t : Fin 32 => bigSep Finset.univ fun n : Fin 32 => Φ (32 * t.val + n.val))
      = bigSep Finset.univ fun n : Fin 1024 => Φ n.val := by
  rw [bigSep_univ_equiv (finProdFinEquiv : Fin 32 × Fin 32 ≃ Fin 1024) (fun t : Fin 1024 => Φ t.val), bigSep_univ_prod]
  refine bigSep_congr fun t _ => bigSep_congr fun n _ => congrArg Φ ?_
  show 32 * t.val + n.val = n.val + 32 * t.val
  omega

theorem deal_range (n : ℕ) (Φ : ℕ → sProp 𝕄) : bigSep (Finset.range n) Φ = bigSep Finset.univ fun t : Fin n => Φ t.val := by
  rw [← Nat.Iio_eq_range, ← Fin.map_valEmbedding_univ, bigSep_map]
  rfl

theorem bigSep_swap {I : Type} [DecidableEq I] (B : Finset I) {n : ℕ} (Φ : I → Fin n → sProp 𝕄) :
    (bigSep B fun b => bigSep Finset.univ fun t => Φ b t) = bigSep Finset.univ fun t => bigSep B fun b => Φ b t := by
  induction B using Finset.induction_on with
  | empty =>
    simp only [bigSep_empty]
    exact (bigSep_emp_const _).symm
  | insert i B hi ih =>
    rw [SparseCore.bigSep_insert' hi, ih, ← bigSep_sep']
    exact bigSep_congr fun t _ => (SparseCore.bigSep_insert' hi (Φ := fun b => Φ b t)).symm

/-! ## The tables' read shares -/

abbrev tW : DevRef τ sig := Proc.devRef .tc (main_arg0 : Ref sig .tc)
abbrev tB : DevRef τ sig := Proc.devRef .tc (main_arg6 : Ref sig .tc)
abbrev tGp : DevRef τ sig := Proc.devRef .tc (main_v56 : Ref sig .tc)
abbrev tGs : DevRef τ sig := Proc.devRef .tc (main_v57 : Ref sig .tc)
abbrev tGc : DevRef τ sig := Proc.devRef .tc (main_v58 : Ref sig .tc)
abbrev tSp : DevRef τ sig := Proc.devRef .tc (main_v59 : Ref sig .tc)
abbrev tSl : DevRef τ sig := Proc.devRef .tc (main_v61 : Ref sig .tc)
abbrev tO : DevRef τ sig := Proc.devRef .tc (main_v79 : Ref sig .tc)

/-- The tables of the call, of the arrays' contents. -/
def tabOf (v : Valuation τ sig (Elt F)) : Tab F := ⟨v tW, v tB, v tGp, v tGs, v tGc, v tSp, v tSl⟩

/-- The seven arrays the tiles read. -/
def tabs : Finset (DevRef τ sig) := {tW, tB, tGp, tGs, tGc, tSp, tSl}

/-- A share of each of a set of arrays. -/
def sharesOf (d : Dev nD) (B : Finset (DevRef τ sig)) (v : Valuation τ sig (Elt F)) (q : PosShare TreeShare) : sProp 𝕄 :=
  bigSep B fun b => ((d, b) : Loc nD τ sig) ↦{q} v b

theorem shares_toks (d : Dev nD) (B : Finset (DevRef τ sig)) (v : Valuation τ sig (Elt F)) :
    sharesOf d B v fullShare
      = iprop(sharesOf d B v (Transfers.shareDrop fullShare 32) ∗ bigSep Finset.univ fun t : Fin 32 => sharesOf d B v (Transfers.shareTokN fullShare t.val)) := by
  unfold sharesOf
  have h : ∀ b ∈ B, (((d, b) : Loc nD τ sig) ↦{fullShare} v b : sProp 𝕄)
      = iprop((((d, b) : Loc nD τ sig) ↦{Transfers.shareDrop fullShare 32} v b)
        ∗ bigSep Finset.univ fun t : Fin 32 => ((d, b) : Loc nD τ sig) ↦{Transfers.shareTokN fullShare t.val} v b) := fun b _ => by
    have e := Transfers.pointsTo_toks_range (Ix := HIx 1) (Name := ℕ) (U := UU) (Lvl := ℕ) (ℓ := ((d, b) : Loc nD τ sig)) (S := Finset.univ) (f := v b) fullShare 32
    rw [deal_range 32 fun t => ((d, b) : Loc nD τ sig) ↦{Transfers.shareTokN fullShare t} v b] at e
    exact Entails.antisymm e.1 e.2
  rw [bigSep_congr h, bigSep_sep', bigSep_swap]

theorem tabShare_eq (v : Dev nD → Valuation τ sig (Elt F)) (d : Dev nD) (L : grid1.Coords) (q : PosShare TreeShare) :
    tabShare (fun d => tabOf (v d)) d L q = sharesOf d tabs (v d) q := by
  unfold sharesOf tabs tabShare
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-! ## The output's rows -/

/-- Two groups that have sparks have different rows. -/
def Tab.Distinct (X : Tab F) : Prop := ∀ n n' : Fin 1024, 0 < (X.gc (at1040 n.val)).toNat → 0 < (X.gc (at1040 n'.val)).toNat →
  (X.gp (at1040 n.val)).toNat = (X.gp (at1040 n'.val)).toNat → n = n'

/-- The output after the call: a group's row where a group has it, else as it was. -/
def Tab.newW (X : Tab F) (g : S8192x8192.Idx → F .f32) (i : S8192x8192.Idx) : F .f32 := by
  classical
  exact if h : ∃ n : Fin 1024, 0 < (X.gc (at1040 n.val)).toNat ∧ (X.gp (at1040 n.val)).toNat = (i 0).val then X.newRow h.choose.val i else g i

theorem Tab.newW_hit (X : Tab F) (hd : X.Distinct) (g : S8192x8192.Idx → F .f32) (n : Fin 1024) (hn : 0 < (X.gc (at1040 n.val)).toNat)
    (i : S8192x8192.Idx) (hi : (X.gp (at1040 n.val)).toNat = (i 0).val) : X.newW g i = X.newRow n.val i := by
  have h : ∃ n : Fin 1024, 0 < (X.gc (at1040 n.val)).toNat ∧ (X.gp (at1040 n.val)).toNat = (i 0).val := ⟨n, hn, hi⟩
  unfold Tab.newW
  rw [dif_pos h, hd h.choose n h.choose_spec.1 hn (h.choose_spec.2.trans hi.symm)]

theorem Tab.newW_miss (X : Tab F) (g : S8192x8192.Idx → F .f32) (i : S8192x8192.Idx)
    (h : ∀ n : Fin 1024, 0 < (X.gc (at1040 n.val)).toNat → (X.gp (at1040 n.val)).toNat ≠ (i 0).val) : X.newW g i = g i := by
  unfold Tab.newW
  rw [dif_neg (by rintro ⟨n, hn, hi⟩; exact h n hn hi)]

/-- A row's piece of the output, of its array. -/
def rowT (d : Dev nD) (p c : BitVec 32) (g : S8192x8192.Idx → Elt F .f32) : sProp 𝕄 :=
  if 0 < c.toNat then (((d, tO) : Loc nD τ sig) ↦[rowSet p.toNat]{fullShare} g : sProp 𝕄) else iprop(emp)

theorem rowPiece_eq (d : Dev nD) (L : grid1.Coords) (p c : BitVec 32) (g : S8192x8192.Idx → Elt F .f32) :
    rowPiece d L p c g = rowT d p c g := rfl

/-- The groups that have sparks. -/
def Tab.active (X : Tab F) : Finset (Fin 1024) := Finset.univ.filter fun n => 0 < (X.gc (at1040 n.val)).toNat

/-- The rows the call rewrites. -/
def Tab.touched (X : Tab F) : Finset (S8192x8192.Idx) := X.active.biUnion fun n => rowSet (X.gp (at1040 n.val)).toNat

theorem Tab.mem_touched (X : Tab F) (i : S8192x8192.Idx) :
    i ∈ X.touched ↔ ∃ n : Fin 1024, 0 < (X.gc (at1040 n.val)).toNat ∧ (X.gp (at1040 n.val)).toNat = (i 0).val := by
  unfold Tab.touched Tab.active
  simp only [Finset.mem_biUnion, Finset.mem_filter, Finset.mem_univ, true_and]
  exact exists_congr fun n => and_congr_right fun _ => mem_rowSet.trans eq_comm

theorem rows_whole (d : Dev nD) (X : Tab F) (hd : X.Distinct) (h : ℕ → S8192x8192.Idx → Elt F .f32) (w : S8192x8192.Idx → Elt F .f32)
    (hw : ∀ n : Fin 1024, 0 < (X.gc (at1040 n.val)).toNat → ∀ i, (X.gp (at1040 n.val)).toNat = (i 0).val → h n.val i = w i) :
    (bigSep Finset.univ fun n : Fin 1024 => rowT d (X.gp (at1040 n.val)) (X.gc (at1040 n.val)) (h n.val))
      = (((d, tO) : Loc nD τ sig) ↦[X.touched]{fullShare} w : sProp 𝕄) := by
  have e : ∀ n : Fin 1024, n ∈ Finset.univ → rowT d (X.gp (at1040 n.val)) (X.gc (at1040 n.val)) (h n.val)
      = if 0 < (X.gc (at1040 n.val)).toNat then (((d, tO) : Loc nD τ sig) ↦[rowSet (X.gp (at1040 n.val)).toNat]{fullShare} w : sProp 𝕄) else iprop(emp) := by
    intro n _
    unfold rowT
    by_cases hc : 0 < (X.gc (at1040 n.val)).toNat
    · rw [if_pos hc, if_pos hc]
      exact pointsTo_congr fun i hi => hw n hc i (mem_rowSet.mp hi).symm
    · rw [if_neg hc, if_neg hc]
  rw [bigSep_congr e]
  refine (bigSep_filter _ (fun n : Fin 1024 => 0 < (X.gc (at1040 n.val)).toNat) _).symm.trans ?_
  refine (pointsTo_biUnion (ℓ := ((d, tO) : Loc nD τ sig)) X.active (fun n => rowSet (X.gp (at1040 n.val)).toNat) ?_).symm
  intro n hn n' hn' hne
  refine Finset.disjoint_left.mpr fun i hi hi' => hne (hd n n' (Finset.mem_filter.mp hn).2 (Finset.mem_filter.mp hn').2 ?_)
  exact (mem_rowSet.mp hi).symm.trans (mem_rowSet.mp hi')

theorem rows_begin (d : Dev nD) (X : Tab F) (hd : X.Distinct) (g : S8192x8192.Idx → F .f32) :
    (bigSep Finset.univ fun c : Fin ((K (F := F)).nCore 0) => bigSep Finset.univ fun i : Fin ((K (F := F)).nSub 0) => rowsAt d (tileAt (F := F) c i) X g 0)
      = (((d, tO) : Loc nD τ sig) ↦[X.touched]{fullShare} g : sProp 𝕄) := by
  rw [← rows_whole d X hd (fun _ => g) g (fun _ _ _ _ => rfl), ← deal_groups fun n => rowT d (X.gp (at1040 n)) (X.gc (at1040 n)) g,
    ← deal_tiles fun t => bigSep Finset.univ fun n : Fin 32 => rowT d (X.gp (at1040 (32 * t + n.val))) (X.gc (at1040 (32 * t + n.val))) g]
  refine bigSep_congr fun c _ => bigSep_congr fun i _ => bigSep_congr fun n _ => ?_
  rw [if_neg (Nat.not_lt_zero _), rowPiece_eq]

theorem rows_end (d : Dev nD) (X : Tab F) (hd : X.Distinct) (g : S8192x8192.Idx → F .f32) :
    (bigSep Finset.univ fun c : Fin ((K (F := F)).nCore 0) => bigSep Finset.univ fun i : Fin ((K (F := F)).nSub 0) => rowsAt d (tileAt (F := F) c i) X g 32)
      = (((d, tO) : Loc nD τ sig) ↦[X.touched]{fullShare} X.newW g : sProp 𝕄) := by
  rw [← rows_whole d X hd X.newRow (X.newW g) (fun n hn i hi => (X.newW_hit hd g n hn i hi).symm),
    ← deal_groups fun n => rowT d (X.gp (at1040 n)) (X.gc (at1040 n)) (X.newRow n),
    ← deal_tiles fun t => bigSep Finset.univ fun n : Fin 32 => rowT d (X.gp (at1040 (32 * t + n.val))) (X.gc (at1040 (32 * t + n.val))) (X.newRow (32 * t + n.val))]
  refine bigSep_congr fun c _ => bigSep_congr fun i _ => bigSep_congr fun n _ => ?_
  rw [if_pos n.isLt, rowPiece_eq]

/-- The payloads' halves apart. -/
theorem parts_eq (v : Dev nD → Valuation τ sig (Elt F)) (g : Dev nD → S8192x8192.Idx → F .f32) (d : Dev nD) (k : ℕ) :
    (bigSep Finset.univ fun c : Fin ((K (F := F)).nCore 0) => corePart (fun d => tabOf (v d)) g d c k)
      = iprop((bigSep Finset.univ fun t : Fin 32 => sharesOf d tabs (v d) (Transfers.shareTokN fullShare t.val))
        ∗ bigSep Finset.univ fun c : Fin ((K (F := F)).nCore 0) => bigSep Finset.univ fun i : Fin ((K (F := F)).nSub 0) =>
            rowsAt d (tileAt (F := F) c i) (tabOf (v d)) (g d) k) := by
  rw [← deal_tiles fun t => sharesOf d tabs (v d) (Transfers.shareTokN fullShare t), ← bigSep_sep']
  refine bigSep_congr fun c _ => ?_
  unfold corePart
  rw [← bigSep_sep']
  refine bigSep_congr fun i _ => ?_
  unfold tilePart
  rw [tabShare_eq]

/-- The arrays to the call and back: the tables' shares and the rewritten rows go out, and come back with the rows done. -/
theorem call_split (v v' : Dev nD → Valuation τ sig (Elt F)) (d : Dev nD) (B : Finset (DevRef τ sig)) (hB : insert tO tabs ⊆ B)
    (hd : (tabOf (v d)).Distinct) (ho : v' d tO = (tabOf (v d)).newW (v d tO)) (hne : ∀ b, b ≠ tO → v' d b = v d b) :
    (StableHlo.held (T d) B (v d) : sProp 𝕄)
      ⊢ iprop((bigSep Finset.univ fun c : Fin ((K (F := F)).nCore 0) => corePart (fun d => tabOf (v d)) (fun d => v d tO) d c 0)
        ∗ ((bigSep Finset.univ fun c : Fin ((K (F := F)).nCore 0) => corePart (fun d => tabOf (v d)) (fun d => v d tO) d c 32)
            -∗ StableHlo.held (T d) B (v' d))) := by
  have hn : tO ∉ tabs := by decide
  have hs : ∀ w : Valuation τ sig (Elt F), (StableHlo.held (T d) B w : sProp 𝕄)
      = iprop(((((d, tO) : Loc nD τ sig) ↦{fullShare} w tO) ∗ sharesOf d tabs w fullShare)
        ∗ sharesOf d (B \ insert tO tabs) w fullShare) := by
    intro w
    unfold StableHlo.held sharesOf
    rw [SparseCore.bigSep_sdiff_split' hB, SparseCore.bigSep_insert' hn]
  have ht : sharesOf (F := F) d tabs (v' d) fullShare = sharesOf d tabs (v d) fullShare :=
    bigSep_congr fun b hb => by rw [hne b fun e => hn (e ▸ hb)]
  have hr : sharesOf (F := F) d (B \ insert tO tabs) (v' d) fullShare = sharesOf d (B \ insert tO tabs) (v d) fullShare :=
    bigSep_congr fun b hb => by rw [hne b fun e => (Finset.mem_sdiff.mp hb).2 (e ▸ Finset.mem_insert_self _ _)]
  rw [hs, hs, ht, hr, shares_toks, parts_eq, parts_eq, rows_begin d _ hd, rows_end d _ hd, ho]
  have hu : ∀ f : S8192x8192.Idx → Elt F .f32, (((d, tO) : Loc nD τ sig) ↦{fullShare} f : sProp 𝕄)
      = iprop((((d, tO) : Loc nD τ sig) ↦[(tabOf (v d)).touched]{fullShare} f) ∗ ((d, tO) : Loc nD τ sig) ↦[Finset.univ \ (tabOf (v d)).touched]{fullShare} f) := by
    intro f
    have e := pointsTo_split_subset (Ix := HIx 1) (Name := ℕ) (U := UU) (Lvl := ℕ) (ℓ := ((d, tO) : Loc nD τ sig)) (q := fullShare) (f := f)
      (Finset.subset_univ (tabOf (v d)).touched)
    exact Entails.antisymm e.1 e.2
  rw [hu, hu ((tabOf (v d)).newW (v d tO))]
  have hk : (((d, tO) : Loc nD τ sig) ↦[Finset.univ \ (tabOf (v d)).touched]{fullShare} (tabOf (v d)).newW (v d tO) : sProp 𝕄)
      = ((d, tO) : Loc nD τ sig) ↦[Finset.univ \ (tabOf (v d)).touched]{fullShare} v d tO :=
    pointsTo_congr fun i hi => (tabOf (v d)).newW_miss _ i fun n hn hp =>
      (Finset.mem_sdiff.mp hi).2 (((tabOf (v d)).mem_touched i).mpr ⟨n, hn, hp⟩)
  rw [hk]
  iintro ⟨⟨⟨Hr, Hk⟩, Hd, Ht⟩, Hx⟩
  isplitl [Hr Ht]
  · isplitl [Ht]; · iexact Ht
    iexact Hr
  iintro ⟨Ht, Hr⟩
  isplitr [Hx]
  · isplitl [Hr Hk]
    · isplitl [Hr]; · iexact Hr
      iexact Hk
    isplitl [Hd]; · iexact Hd
    iexact Ht
  iexact Hx

end Cert.Proof.Run
end
-- ==== Proof.Host.lean ====
module

public import proofs.«01_k».proof.Proof.Base
public import Idealize.ShloMosaic.Lib.StableHlo.RunHlo

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F]

/-! ## The host operations, as lists -/

abbrev HProg (F : FTy → Type) [FloatOps F] : Type _ := Prog (TpuEff nD τ sig (Elt F) (SparseCore.Sig (Pipeline.Sig Λ₀ (Fin 1) fun p => (pcfgs (F := F) p).Adm) 1) .tc) PUnit

/-- `p` runs the operations `ops`, then `k`. -/
def RunsThen (p : HProg F) (ops : List (HloOp τ sig (Elt F))) (k : HProg F) : Prop := p = (StableHlo.seq ops >>= fun _ => k)

theorem RunsThen.nil (k : HProg F) : RunsThen k [] k := rfl

theorem RunsThen.cons {op : HloOp τ sig (Elt F)} {p k : HProg F} {ops : List (HloOp τ sig (Elt F))}
    (h : RunsThen p ops k) : RunsThen ((hlo rfl op fun _ => .ret (⟨⟩ : PUnit)) >>= fun _ => p) (op :: ops) k := by
  unfold RunsThen at h ⊢
  rw [h]; rfl

theorem seq_append' (a b : List (HloOp τ sig (Elt F))) (k : HProg F) :
    (StableHlo.seq a >>= fun _ => (StableHlo.seq b >>= fun _ => k)) = (StableHlo.seq (a ++ b) >>= fun _ => k : HProg F) := by
  induction a with
  | nil => rfl
  | cons x l ih => exact congrArg (fun p : HProg F => (hlo rfl x fun _ => .ret (⟨⟩ : PUnit)) >>= fun _ => p) ih

theorem RunsThen.call {p q k : HProg F} {ops ops' : List (HloOp τ sig (Elt F))} (h : StableHlo.IsSeq q ops)
    (h' : RunsThen p ops' k) : RunsThen (q >>= fun _ => p) (ops ++ ops') k := by
  unfold RunsThen at h' ⊢
  unfold StableHlo.IsSeq at h
  rw [h, h', seq_append']

def argsortOps : {l : List (HloOp τ sig (Elt F)) // StableHlo.IsSeq (fn_argsort.body (F := F) (.of main_arg3) main_call0) l} := by
  apply Subtype.mk
  case property => hlo_seq

def cumsumOps' : {l : List (HloOp τ sig (Elt F)) // StableHlo.IsSeq (fn_cumsum_0.body (F := F) (.of main_v13) main_call1_call0) l} := by
  apply Subtype.mk
  case property => hlo_seq

theorem cumsum_body : StableHlo.IsSeq (fn_cumsum.body (F := F) (.of main_v13) main_call1) cumsumOps'.1 :=
  (bind_pure (fn_cumsum_0.body (F := F) (.of main_v13) main_call1_call0)).trans cumsumOps'.2

def whereOps : {l : List (HloOp τ sig (Elt F)) // StableHlo.IsSeq (fn_where.body (F := F) (.of main_v45) (.of main_v43) (.of main_c_13) main_call2) l} := by
  apply Subtype.mk
  case property => hlo_seq

/-- The operations of the first part of the host program. -/
def part0 : {l : List (HloOp τ sig (Elt F)) // ∀ d, RunsThen (main_part0 (F := F) d) l (pure ⟨⟩)} := by
  apply Subtype.mk
  case property =>
    intro d
    apply RunsThen.call argsortOps.2
    iterate 28 apply RunsThen.cons
    apply RunsThen.call cumsum_body
    repeat apply RunsThen.cons
    exact RunsThen.nil _

/-- What the host program runs after the two kernels. -/
def tailOps : List (HloOp τ sig (Elt F)) :=
  [StableHlo.reshape main_v78_1 main_v80 (rfl : (.f32 : EltTy) = .f32) shapeCasts_S32x1x256_S8192,
   StableHlo.nullary main_cst_24 (constant S_ .f32 0x3F7AE148#32),
   StableHlo.unary main_cst_24 main_v81 (broadcastInDim S1024 ![] bcast_S_S1024),
   StableHlo.binary main_arg4 main_v81 main_v82 mulf]

/-- The second part of the host program from the two kernels on. -/
def afterHost (d : Dev nD) : HProg F := do
  Prog.lift (.customCall (SparseCore.inner (Pipeline.entry 0)) ())
  hlo rfl (StableHlo.unary main_v78_0 main_v79 id) (fun _ => .ret ⟨⟩)
  sc.run d 0
  StableHlo.seq tailOps

def part1 : {l : List (HloOp τ sig (Elt F)) // ∀ d, RunsThen (main_part1 (F := F) d) l (afterHost d)} := by
  apply Subtype.mk
  case property =>
    intro d
    iterate 2 apply RunsThen.cons
    apply RunsThen.call whereOps.2
    iterate 41 apply RunsThen.cons
    exact RunsThen.nil _

theorem main_eq (d : Dev nD) : main (F := F) d = (StableHlo.seq (part0.1 ++ part1.1) >>= fun _ => afterHost d) := by
  have h : main (F := F) d = (main_part0 (F := F) d >>= fun _ => main_part1 (F := F) d) := rfl
  rw [h, part0.2 d, part1.2 d, bind_assoc]
  exact seq_append' _ _ _

end Cert.Proof.Run

end
-- ==== Proof.Tables.lean ====
/-
  What the host program computes before the kernels: the sparks sorted by position, the groups of sparks on one row, and the
  arrays the dense pass reads.
-/
module

public import proofs.«01_k».proof.Proof.Host
public import Idealize.ShloMosaic.Lib.StableHlo.RunRead

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
variable [FloatOps F]
local notation "𝕄" => MT nD τ sig (HIx 1) (Elt F) ℕ UU ℕ

/-! ## The outlined functions' operations, at the buffers themselves -/

section Outlined
open StableHlo (TRef)

theorem nullary_of (y : Ref sig .tc) (h : y.space ≠ .host) (h' : y.isScoped = false) (f : y.ty.Contents (Elt F)) :
    TRef.nullary (τ := τ) (⟨y, rfl, h, h'⟩ : TRef sig y.ty) f = StableHlo.nullary y f ⟨h, h'⟩ := rfl
theorem unary_of (a y : Ref sig .tc) (ha : a.space ≠ .host) (ha' : a.isScoped = false) (h : y.space ≠ .host) (h' : y.isScoped = false)
    (f : a.ty.Contents (Elt F) → y.ty.Contents (Elt F)) :
    TRef.unary (τ := τ) (⟨a, rfl, ha, ha'⟩ : TRef sig a.ty) (⟨y, rfl, h, h'⟩ : TRef sig y.ty) f
      = StableHlo.unary a y f ⟨ha, ha'⟩ ⟨h, h'⟩ := rfl
theorem binary_of (a b y : Ref sig .tc) (ha : a.space ≠ .host) (ha' : a.isScoped = false) (hb : b.space ≠ .host)
    (hb' : b.isScoped = false) (h : y.space ≠ .host) (h' : y.isScoped = false)
    (f : a.ty.Contents (Elt F) → b.ty.Contents (Elt F) → y.ty.Contents (Elt F)) :
    TRef.binary (τ := τ) (⟨a, rfl, ha, ha'⟩ : TRef sig a.ty) (⟨b, rfl, hb, hb'⟩ : TRef sig b.ty) (⟨y, rfl, h, h'⟩ : TRef sig y.ty) f
      = StableHlo.binary a b y f ⟨ha, ha'⟩ ⟨hb, hb'⟩ ⟨h, h'⟩ := rfl
theorem ternary_of (c a b y : Ref sig .tc) (hc : c.space ≠ .host) (hc' : c.isScoped = false) (ha : a.space ≠ .host)
    (ha' : a.isScoped = false) (hb : b.space ≠ .host) (hb' : b.isScoped = false) (h : y.space ≠ .host) (h' : y.isScoped = false)
    (f : c.ty.Contents (Elt F) → a.ty.Contents (Elt F) → b.ty.Contents (Elt F) → y.ty.Contents (Elt F)) :
    TRef.ternary (τ := τ) (⟨c, rfl, hc, hc'⟩ : TRef sig c.ty) (⟨a, rfl, ha, ha'⟩ : TRef sig a.ty) (⟨b, rfl, hb, hb'⟩ : TRef sig b.ty)
        (⟨y, rfl, h, h'⟩ : TRef sig y.ty) f
      = StableHlo.ternary c a b y f ⟨hc, hc'⟩ ⟨ha, ha'⟩ ⟨hb, hb'⟩ ⟨h, h'⟩ := rfl

end Outlined

theorem argsort_list : (argsortOps (F := F)).1 = [StableHlo.nullary main_call0_v0 (iotaInDim S1024 32 0),
    StableHlo.binary main_arg3 main_call0_v0 main_call0_v1_0 (fun x y => (Host.sort2 S1024 0 comparator_i32_i32_d0 x y).1),
    StableHlo.binary main_arg3 main_call0_v0 main_v0 (fun x y => (Host.sort2 S1024 0 comparator_i32_i32_d0 x y).2)] :=
  congrArg₂ List.cons (nullary_of main_call0_v0 _ _ _) <| congrArg₂ List.cons (binary_of main_arg3 main_call0_v0 main_call0_v1_0 _ _ _ _ _ _ _) <|
    congrArg₂ List.cons (binary_of main_arg3 main_call0_v0 main_v0 _ _ _ _ _ _ _) rfl

theorem cumsum_list : (cumsumOps' (F := F)).1 = [StableHlo.nullary main_call1_call0_c (constantI S_ 32 0#32),
    StableHlo.unary main_call1_call0_c main_call1_call0_v0 (broadcastInDim S_ ![] bcast_S_S_),
    StableHlo.binary main_v13 main_call1_call0_v0 main_v23 (fun x v => Host.reduceWindow IntOp.addi ![1024] ![1] ![1023] ![0] x v
      reduceWindows_S1024_S1024_w1024s1p1023_0 h_S_)] :=
  congrArg₂ List.cons (nullary_of main_call1_call0_c _ _ _) <| congrArg₂ List.cons (unary_of main_call1_call0_c main_call1_call0_v0 _ _ _ _ _) <|
    congrArg₂ List.cons (binary_of main_v13 main_call1_call0_v0 main_v23 _ _ _ _ _ _ _) rfl

theorem where_list : (whereOps (F := F)).1 = [StableHlo.unary main_c_13 main_call2_v0 id,
    StableHlo.unary main_call2_v0 main_call2_v1 (broadcastInDim S1024 ![] bcast_S_S1024),
    StableHlo.ternary main_v45 main_v43 main_call2_v1 main_v46 select] :=
  congrArg₂ List.cons (unary_of main_c_13 main_call2_v0 _ _ _ _ _) <| congrArg₂ List.cons (unary_of main_call2_v0 main_call2_v1 _ _ _ _ _) <|
    congrArg₂ List.cons (ternary_of main_v45 main_v43 main_call2_v1 main_v46 _ _ _ _ _ _ _ _ _) rfl

/-! ## The stages, as functions of the arguments -/

abbrev splat (n : BitVec 32) : IVec S1024 32 := broadcastInDim S1024 ![] bcast_S_S1024 (constantI S_ 32 n)

/-- An index column with negative entries moved up by `n`. -/
def column (n : BitVec 32) (x : IVec S1024 32) : IVec S1024x1 32 :=
  broadcastInDim S1024x1 ![0] bcast_S1024_S1024x1_0 (select (cmpi .slt x (splat 0#32)) (addi x (splat n)) x)

/-- The sparks' numbers in the order of their positions. -/
def order (p : IVec S1024 32) : IVec S1024 32 := (Host.sort2 S1024 0 comparator_i32_i32_d0 p (iotaInDim S1024 32 0)).2

/-- The positions in that order. -/
def sorted (p : IVec S1024 32) : IVec S1024 32 :=
  Host.gather gather_S1024_S1024x1_S1024_n_0_n_n_0_1_1 p (column 1024#32 (order p))

/-- One word in front of 1023. -/
def front (a : IVec S1 32) (b : IVec S1023 32) : IVec S1024 32 :=
  concatenate S1024 0 [⟨S1, a⟩, ⟨S1023, b⟩] concatenates_S1_S1023_S1024_d0

/-- One where a group begins. -/
def begins (p : IVec S1024 32) : IVec S1024 32 :=
  front (broadcastInDim S1 ![] bcast_S_S1 (constantI S_ 32 1#32))
    (extui 32 (cmpi .ne (extractStridedSlice S1023 ![1] (sorted p) slices_S1024_S1023_1)
      (extractStridedSlice S1023 ![0] (sorted p) slices_S1024_S1023_0)) natLt_1_32)

/-- The number of the group each sorted spark is in. -/
def groupOf (p : IVec S1024 32) : IVec S1024 32 :=
  subi (Host.reduceWindow IntOp.addi ![1024] ![1] ![1023] ![0] (begins p) (broadcastInDim S_ ![] bcast_S_S_ (constantI S_ 32 0#32))
    reduceWindows_S1024_S1024_w1024s1p1023_0 h_S_) (splat 1#32)

/-- The groups' sizes, first members and positions. -/
def groupSize (p : IVec S1024 32) : IVec S1024 32 :=
  Host.scatter scatter_S1024_S1024x1_S1024_n_0_0_1 IntOp.addi (splat 0#32) (column 1024#32 (groupOf p)) (splat 1#32)
def groupFirst (p : IVec S1024 32) : IVec S1024 32 :=
  Host.scatter scatter_S1024_S1024x1_S1024_n_0_0_1 IntOp.minsi (splat 1024#32) (column 1024#32 (groupOf p)) (iotaInDim S1024 32 0)
def groupStart (p : IVec S1024 32) : IVec S1024 32 :=
  select (cmpi .sgt (groupSize p) (splat 0#32)) (groupFirst p) (splat 0#32)
def groupPos (p : IVec S1024 32) : IVec S1024 32 :=
  Host.scatter scatter_S1024_S1024x1_S1024_n_0_0_1 IntOp.maxsi (splat 0#32) (column 1024#32 (groupOf p)) (sorted p)

/-- Sixteen words behind 1024. -/
def behindI (x : IVec S1024 32) (z : IVec S16 32) : IVec S1040 32 :=
  concatenate S1040 0 [⟨S1024, x⟩, ⟨S16, z⟩] concatenates_S1024_S16_S1040_d0
def behindF (x : FVec F S1024 .f32) (z : FVec F S16 .f32) : FVec F S1040 .f32 :=
  concatenate S1040 0 [⟨S1024, x⟩, ⟨S16, z⟩] concatenates_S1024_S16_S1040_d0

/-- A table of 1024 words with sixteen zeros behind it. -/
def padI (x : IVec S1024 32) : IVec S1040 32 := behindI x (broadcastInDim S16 ![] bcast_S_S16 (constantI S_ 32 0#32))

/-- The learning amounts in the order of the positions. -/
def learned (p : IVec S1024 32) (e : FVec F S1024 .f32) : FVec F S1024 .f32 :=
  Host.gather gather_S1024_S1024x1_S1024_n_0_n_n_0_1_1
    (mulf (broadcastInDim S1024 ![] bcast_S_S1024 (constant S_ .f32 0x3CA3D70A#32)) e) (column 1024#32 (order p))

/-- Those with sixteen zeros behind them. -/
def amounts (p : IVec S1024 32) (e : FVec F S1024 .f32) : FVec F S1040 .f32 :=
  behindF (learned p e) (broadcastInDim S16 ![] bcast_S_S16 (constant S_ .f32 0x00000000#32))

/-- The forced flags: one where the last spark on a row is young. -/
def forced (p a : IVec S1024 32) : FVec F S8192 .f32 :=
  Host.scatter scatter_S8192_S1024x1_S1024_n_0_0_1 (fun _ b => b) (broadcastInDim S8192 ![] bcast_S_S8192 (constant S_ .f32 0x00000000#32))
    (column 8192#32 p) (uitofp .f32 (cmpi .slt a (splat 5#32)))

/-- The state after its leak. -/
def leaked (s : FVec F S8192 .f32) : FVec F S8192 .f32 :=
  mulf s (broadcastInDim S8192 ![] bcast_S_S8192 (constant S_ .f32 0x3F733333#32))

/-! ## The host program's buffers are those stages -/

def hostOps : List (HloOp τ sig (Elt F)) := part0.1 ++ part1.1

theorem front_eq : (fun a b => concatenate S1024 0 [⟨S1, a⟩, ⟨S1023, b⟩] concatenates_S1_S1023_S1024_d0 : IVec S1 32 → IVec S1023 32 → IVec S1024 32) = front := rfl
theorem behindI_eq : (fun a b => concatenate S1040 0 [⟨S1024, a⟩, ⟨S16, b⟩] concatenates_S1024_S16_S1040_d0 : IVec S1024 32 → IVec S16 32 → IVec S1040 32) = behindI := rfl
theorem behindF_eq : (fun a b => concatenate S1040 0 [⟨S1024, a⟩, ⟨S16, b⟩] concatenates_S1024_S16_S1040_d0 : FVec F S1024 .f32 → FVec F S16 .f32 → FVec F S1040 .f32) = behindF := rfl

variable (v : Valuation τ sig (Elt F))

theorem host_v56 : StableHlo.after hostOps v (Proc.devRef .tc main_v56) = padI (groupPos (v (Proc.devRef .tc main_arg3))) := by
  unfold hostOps part0 part1
  simp only [argsort_list, cumsum_list, where_list, List.cons_append, List.nil_append, front_eq, behindI_eq, behindF_eq]
  after_reads_simp
  simp only [padI, groupPos, groupStart, groupSize, groupFirst,
    groupOf, begins, sorted, column, order, splat, amounts, learned, leaked, forced, id_eq]

theorem host_v57 : StableHlo.after hostOps v (Proc.devRef .tc main_v57) = padI (groupStart (v (Proc.devRef .tc main_arg3))) := by
  unfold hostOps part0 part1
  simp only [argsort_list, cumsum_list, where_list, List.cons_append, List.nil_append, front_eq, behindI_eq, behindF_eq]
  after_reads_simp
  simp only [padI, groupPos, groupStart, groupSize, groupFirst,
    groupOf, begins, sorted, column, order, splat, amounts, learned, leaked, forced, id_eq]

theorem host_v58 : StableHlo.after hostOps v (Proc.devRef .tc main_v58) = padI (groupSize (v (Proc.devRef .tc main_arg3))) := by
  unfold hostOps part0 part1
  simp only [argsort_list, cumsum_list, where_list, List.cons_append, List.nil_append, front_eq, behindI_eq, behindF_eq]
  after_reads_simp
  simp only [padI, groupPos, groupStart, groupSize, groupFirst,
    groupOf, begins, sorted, column, order, splat, amounts, learned, leaked, forced, id_eq]

theorem host_v59 : StableHlo.after hostOps v (Proc.devRef .tc main_v59) = padI (order (v (Proc.devRef .tc main_arg3))) := by
  unfold hostOps part0 part1
  simp only [argsort_list, cumsum_list, where_list, List.cons_append, List.nil_append, front_eq, behindI_eq, behindF_eq]
  after_reads_simp
  simp only [padI, groupPos, groupStart, groupSize, groupFirst,
    groupOf, begins, sorted, column, order, splat, amounts, learned, leaked, forced, id_eq]

theorem host_v61 : StableHlo.after hostOps v (Proc.devRef .tc main_v61) = amounts (v (Proc.devRef .tc main_arg3)) (v (Proc.devRef .tc main_arg4)) := by
  unfold hostOps part0 part1
  simp only [argsort_list, cumsum_list, where_list, List.cons_append, List.nil_append, front_eq, behindI_eq, behindF_eq]
  after_reads_simp
  simp only [padI, groupPos, groupStart, groupSize, groupFirst,
    groupOf, begins, sorted, column, order, splat, amounts, learned, leaked, forced, id_eq]

theorem host_v75 : StableHlo.after hostOps v (Proc.devRef .tc main_v75) = shapeCast S1x8192 (leaked (v (Proc.devRef .tc main_arg1))) shapeCasts_S8192_S1x8192 := by
  unfold hostOps part0 part1
  simp only [argsort_list, cumsum_list, where_list, List.cons_append, List.nil_append, front_eq, behindI_eq, behindF_eq]
  after_reads_simp
  simp only [padI, groupPos, groupStart, groupSize, groupFirst,
    groupOf, begins, sorted, column, order, splat, amounts, learned, leaked, forced, id_eq]
  rfl

theorem host_v76 : StableHlo.after hostOps v (Proc.devRef .tc main_v76) = shapeCast S32x1x256 (v (Proc.devRef .tc main_arg2)) shapeCasts_S8192_S32x1x256 := by
  unfold hostOps part0 part1
  simp only [argsort_list, cumsum_list, where_list, List.cons_append, List.nil_append, front_eq, behindI_eq, behindF_eq]
  after_reads_simp
  rfl

theorem host_v77 : StableHlo.after hostOps v (Proc.devRef .tc main_v77) = shapeCast S32x1x256 (forced (v (Proc.devRef .tc main_arg3)) (v (Proc.devRef .tc main_arg5))) shapeCasts_S8192_S32x1x256 := by
  unfold hostOps part0 part1
  simp only [argsort_list, cumsum_list, where_list, List.cons_append, List.nil_append, front_eq, behindI_eq, behindF_eq]
  after_reads_simp
  simp only [padI, groupPos, groupStart, groupSize, groupFirst,
    groupOf, begins, sorted, column, order, splat, amounts, learned, leaked, forced, id_eq]
  rfl

theorem host_other (b : Ref sig .tc) (hb : b ∈ [main_arg0, main_arg1, main_arg2, main_arg3, main_arg4, main_arg5, main_arg6]) :
    StableHlo.after hostOps v (Proc.devRef .tc b) = v (Proc.devRef .tc b) := by
  unfold hostOps part0 part1
  simp only [argsort_list, cumsum_list, where_list, List.cons_append, List.nil_append]
  simp only [List.mem_cons, List.not_mem_nil, or_false] at hb
  rcases hb with rfl | rfl | rfl | rfl | rfl | rfl | rfl <;> after_reads_simp

end Cert.Proof.Run

end
-- ==== Proof.Sparks.lean ====
module

public import proofs.«01_k».proof.Proof.Tables
public import Idealize.ShloMosaic.Lib.Routing.OpsSet
public import Idealize.ShloMosaic.Lib.SortFacts
public import proofs.«01_k».proof.Proof.Member

@[expose] public section

noncomputable section

namespace Cert.Proof.Run

open Cert.KernelIdeal Cert.KernelIdeal.Gen

open Idealize.ShloMosaic Idealize.ShloMosaic.Routing Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

/-! ## Groups of a sorted line, in numbers -/

/-- The number of the group entry `j` of the line `q` is in. -/
def gid (q : ℕ → ℕ) : ℕ → ℕ
  | 0 => 0
  | j + 1 => gid q j + if q (j + 1) = q j then 0 else 1

theorem gid_le (q : ℕ → ℕ) (j : ℕ) : gid q j ≤ j := by
  induction j with
  | zero => exact le_refl _
  | succ j ih => unfold gid; split <;> omega

theorem gid_mono (q : ℕ → ℕ) {i j : ℕ} (h : i ≤ j) : gid q i ≤ gid q j := by
  induction j, h using Nat.le_induction with
  | base => exact le_refl _
  | succ j _ ih => exact ih.trans (Nat.le_add_right _ _)

theorem gid_eq_iff {q : ℕ → ℕ} {N : ℕ} (hq : ∀ i j, i ≤ j → j < N → q i ≤ q j) {i j : ℕ} (h : i ≤ j) (hj : j < N) :
    gid q i = gid q j ↔ q i = q j := by
  induction j, h using Nat.le_induction with
  | base => simp
  | succ j hij ih =>
    have ih := ih (by omega)
    have h1 := hq i j hij (by omega)
    have h2 := hq j (j + 1) (by omega) hj
    have h3 := gid_mono q hij
    rw [gid]
    split
    · rename_i e; rw [Nat.add_zero, ih, e]
    · constructor <;> intro e <;> omega

theorem gid_eq {q : ℕ → ℕ} {N : ℕ} (hq : ∀ i j, i ≤ j → j < N → q i ≤ q j) {i j : ℕ} (hi : i < N) (hj : j < N) :
    gid q i = gid q j ↔ q i = q j := by
  rcases Nat.le_total i j with h | h
  · exact gid_eq_iff hq h hj
  · rw [eq_comm, gid_eq_iff hq h hi, eq_comm]

/-- The running sum of the marks is one more than the group's number. -/
theorem sum_marks (q f : ℕ → ℕ) (h0 : f 0 = 1) (hs : ∀ j, f (j + 1) = if q (j + 1) = q j then 0 else 1) (j : ℕ) :
    ((List.range (j + 1)).map f).sum = gid q j + 1 := by
  induction j with
  | zero => simp [h0, gid]
  | succ j ih =>
    rw [List.range_succ, List.map_append, List.sum_append, ih, gid]
    simp only [List.map_cons, List.map_nil, List.sum_cons, List.sum_nil, hs]
    omega

/-- A group is an interval from its least entry, as long as it has entries. -/
theorem gid_interval (q : ℕ → ℕ) (N g s : ℕ) (hs : s < N) (hg : gid q s = g) (hmin : ∀ j, j < N → gid q j = g → s ≤ j) :
    0 < Nat.count (fun i => gid q i = g) N ∧ s + Nat.count (fun i => gid q i = g) N ≤ N
      ∧ ∀ j, j < N → (gid q j = g ↔ s ≤ j ∧ j < s + Nat.count (fun i => gid q i = g) N) := by
  classical
  rw [Nat.count_eq_card_filter_range]
  have hm : s ∈ (Finset.range N).filter fun i => gid q i = g := Finset.mem_filter.2 ⟨Finset.mem_range.2 hs, hg⟩
  obtain ⟨e, he, hmax⟩ := Finset.exists_max_image _ id ⟨s, hm⟩
  have heN := Finset.mem_range.1 (Finset.mem_filter.1 he).1
  have heg := (Finset.mem_filter.1 he).2
  have hset : ((Finset.range N).filter fun i => gid q i = g) = Finset.Icc s e := by
    ext j
    rw [Finset.mem_Icc]
    constructor
    · intro hj
      exact ⟨hmin j (Finset.mem_range.1 (Finset.mem_filter.1 hj).1) (Finset.mem_filter.1 hj).2, hmax j hj⟩
    · rintro ⟨h1, h2⟩
      refine Finset.mem_filter.2 ⟨Finset.mem_range.2 (by omega), ?_⟩
      have a := gid_mono q h1
      have b := gid_mono q h2
      omega
  have hse : s ≤ e := hmax s hm
  rw [hset, Nat.card_Icc]
  refine ⟨by omega, by omega, fun j hj => ?_⟩
  have : gid q j = g ↔ j ∈ (Finset.range N).filter fun i => gid q i = g := by
    rw [Finset.mem_filter, Finset.mem_range]; exact ⟨fun h => ⟨hj, h⟩, fun h => h.2⟩
  rw [this, hset, Finset.mem_Icc]
  omega

/-- A fold that keeps the lesser of two: no greater than what it met, and one of them. -/
theorem fold_pick {α ι : Type} (le : α → α → Prop) (hr : ∀ a, le a a) (ht : ∀ a b c, le a b → le b c → le a c) (f : α → α → α)
    (hf : ∀ a b, (f a b = a ∨ f a b = b) ∧ le (f a b) a ∧ le (f a b) b) (hit : ι → Prop) [DecidablePred hit] (u : ι → α)
    (l : List ι) (a : α) :
    le (l.foldl (fun a e => if hit e then f a (u e) else a) a) a
      ∧ (∀ e ∈ l, hit e → le (l.foldl (fun a e => if hit e then f a (u e) else a) a) (u e))
      ∧ (l.foldl (fun a e => if hit e then f a (u e) else a) a = a
          ∨ ∃ e ∈ l, hit e ∧ l.foldl (fun a e => if hit e then f a (u e) else a) a = u e) := by
  induction l generalizing a with
  | nil => exact ⟨hr a, nofun, .inl rfl⟩
  | cons e l ih =>
    rw [List.foldl_cons]
    by_cases h : hit e
    · rw [if_pos h]
      obtain ⟨h1, h2, h3⟩ := ih (f a (u e))
      obtain ⟨k1, k2, k3⟩ := hf a (u e)
      refine ⟨ht _ _ _ h1 k2, fun e' he' hh => ?_, ?_⟩
      · rcases List.mem_cons.1 he' with rfl | he'
        · exact ht _ _ _ h1 k3
        · exact h2 e' he' hh
      · rcases h3 with h3 | ⟨e', he', hh, h3⟩
        · rcases k1 with k1 | k1
          · exact .inl (h3.trans k1)
          · exact .inr ⟨e, List.mem_cons_self, h, h3.trans k1⟩
        · exact .inr ⟨e', List.mem_cons_of_mem _ he', hh, h3⟩
    · rw [if_neg h]
      obtain ⟨h1, h2, h3⟩ := ih a
      refine ⟨h1, fun e' he' hh => ?_, ?_⟩
      · rcases List.mem_cons.1 he' with rfl | he'
        · exact absurd hh h
        · exact h2 e' he' hh
      · rcases h3 with h3 | ⟨e', he', hh, h3⟩
        · exact .inl h3
        · exact .inr ⟨e', List.mem_cons_of_mem _ he', hh, h3⟩

theorem minsi_pick (a b : BitVec 32) : (IntOp.minsi a b = a ∨ IntOp.minsi a b = b) ∧ (IntOp.minsi a b).toInt ≤ a.toInt ∧ (IntOp.minsi a b).toInt ≤ b.toInt := by
  unfold IntOp.minsi
  simp only [BitVec.slt, BitVec.sle, decide_eq_true_eq]
  split <;> simp <;> omega

theorem maxsi_pick (a b : BitVec 32) : (IntOp.maxsi a b = a ∨ IntOp.maxsi a b = b) ∧ a.toInt ≤ (IntOp.maxsi a b).toInt ∧ b.toInt ≤ (IntOp.maxsi a b).toInt := by
  unfold IntOp.maxsi
  simp only [BitVec.slt, BitVec.sle, decide_eq_true_eq]
  split <;> simp <;> omega

/-! ## The stages read at an index -/

/-- The spark at place `j` of the sorted order. -/
def perm (p : IVec S1024 32) : Fin 1024 → Fin 1024 := sortedFrom fun k k' => IntOp.cmpi .slt (p (ix1 k)) (p (ix1 k')) == 1#1

/-- The position at place `j` of the sorted order. -/
def qAt (p : IVec S1024 32) (j : ℕ) : ℕ := if h : j < 1024 then (p (ix1 (perm p ⟨j, h⟩))).toNat else 0

theorem qAt_fin (p : IVec S1024 32) (j : Fin 1024) : qAt p j.val = (p (ix1 (perm p j))).toNat := dif_pos j.isLt

theorem iota_along (j : S1024.Idx) (k : Fin 1024) : iotaInDim S1024 32 0 (j.along (0 : Fin 1) k) = BitVec.ofNat 32 k.val := by
  rw [Shape.Idx.along_rank1, ofFin_eq_ix1]
  rfl

theorem order_at (p : IVec S1024 32) (j : Fin 1024) : order p (ix1 j) = BitVec.ofNat 32 (perm p j).val := by
  have h1 : (fun k k' : Fin 1024 => comparator_i32_i32_d0 (p ((ix1 j : S1024.Idx).along (0 : Fin 1) k), iotaInDim S1024 32 0 ((ix1 j : S1024.Idx).along (0 : Fin 1) k))
      (p ((ix1 j : S1024.Idx).along (0 : Fin 1) k'), iotaInDim S1024 32 0 ((ix1 j : S1024.Idx).along (0 : Fin 1) k')) == 1#1)
        = fun k k' => IntOp.cmpi .slt (p (ix1 k)) (p (ix1 k')) == 1#1 := by
    funext k k'
    rw [Shape.Idx.along_rank1, Shape.Idx.along_rank1, ofFin_eq_ix1, ofFin_eq_ix1]
    rfl
  have h2 : order p (ix1 j) = iotaInDim S1024 32 0 ((ix1 j : S1024.Idx).along (0 : Fin 1) (sortedFrom
      (fun k k' : Fin 1024 => comparator_i32_i32_d0 (p ((ix1 j : S1024.Idx).along (0 : Fin 1) k), iotaInDim S1024 32 0 ((ix1 j : S1024.Idx).along (0 : Fin 1) k))
      (p ((ix1 j : S1024.Idx).along (0 : Fin 1) k'), iotaInDim S1024 32 0 ((ix1 j : S1024.Idx).along (0 : Fin 1) k')) == 1#1) j)) := by
    unfold order Host.sort2
    rw [dif_pos (show 0 < S1024.rank from Nat.one_pos)]
    rfl
  have h3 : perm p = _ := congrArg sortedFrom h1.symm
  rw [h2, h3]
  exact iota_along (ix1 j) _

theorem column_at (n : BitVec 32) (x : IVec S1024 32) (j : Fin 1024) (k : ℕ) (hk : k < 2 ^ 31) (hx : x (ix1 j) = BitVec.ofNat 32 k) :
    column n x (ix2 j (0 : Fin 1)) = BitVec.ofNat 32 k := by
  unfold column
  refine (bcCol _ _ _).trans ?_
  show Scalar.select (IntOp.cmpi .slt (x (ix1 j)) (splat 0#32 (ix1 j))) (IntOp.addi (x (ix1 j)) (splat n (ix1 j))) (x (ix1 j)) = _
  rw [show splat 0#32 (ix1 j) = 0#32 from bc0 _ _ _, wrap_of_lt _ _ (by rw [hx, BitVec.toNat_ofNat]; omega), hx]

theorem sorted_at (p : IVec S1024 32) (j : Fin 1024) : sorted p (ix1 j) = p (ix1 (perm p j)) :=
  gather_take1 gather_S1024_S1024x1_S1024_n_0_n_n_0_1_1 rfl rfl rfl rfl p _ j (perm p j) (column_at _ _ j _ (by omega) (order_at p j)) (by decide)

theorem learned_at [FloatOps F] (p : IVec S1024 32) (e : FVec F S1024 .f32) (j : Fin 1024) :
    learned p e (ix1 j) = FloatOps.mulf (FloatOps.ofBits FTy.f32 0x3CA3D70A#32) (e (ix1 (perm p j))) :=
  gather_take1 gather_S1024_S1024x1_S1024_n_0_n_n_0_1_1 rfl rfl rfl rfl _ _ j (perm p j) (column_at _ _ j _ (by omega) (order_at p j)) (by decide)

theorem perm_bijective (p : IVec S1024 32) : Function.Bijective (perm p) := ⟨sortedFrom_injective _, sortedFrom_surjective _⟩

section InRange

variable (p : IVec S1024 32) (hp : ∀ i, (p i).toNat < 8192)
include hp

theorem slt_pos (i j : S1024.Idx) : (IntOp.cmpi .slt (p i) (p j) == 1#1) = decide ((p i).toNat < (p j).toNat) := by
  have hi := hp i
  have hj := hp j
  have := StableHlo.Predicate.slt_iff_toNat (a := p i) (b := p j) (by omega) (by omega)
  rw [beq_eq_decide]
  exact decide_eq_decide.2 this

theorem qAt_mono (i j : ℕ) (hij : i ≤ j) (hj : j < 1024) : qAt p i ≤ qAt p j := by
  rcases Nat.eq_or_lt_of_le hij with rfl | h
  · exact le_refl _
  have hB := fun a b => slt_pos p hp (ix1 a) (ix1 b)
  have := sortedFrom_noInversion (n := 1024) (fun k k' => IntOp.cmpi .slt (p (ix1 k)) (p (ix1 k')) == 1#1)
    (fun k k' => IntOp.cmpi .slt (p (ix1 k)) (p (ix1 k')) == 1#1)
    (fun a b => by simp only [hB, decide_eq_true_eq, decide_eq_false_iff_not]; omega) (fun _ _ h => h)
    (fun a b c => by simp only [hB, decide_eq_false_iff_not]; omega) ⟨i, by omega⟩ ⟨j, hj⟩ h
  have e1 := qAt_fin p ⟨i, by omega⟩
  have e2 := qAt_fin p ⟨j, hj⟩
  change (IntOp.cmpi .slt (p (ix1 (perm p ⟨j, hj⟩))) (p (ix1 (perm p ⟨i, by omega⟩))) == 1#1) = false at this
  rw [hB] at this
  have := of_decide_eq_false this
  simp only at e1 e2
  rw [e1, e2]
  omega

theorem qAt_lt (j : ℕ) : qAt p j < 8192 := by
  unfold qAt
  split
  · exact hp _
  · decide

omit hp in
theorem begins_zero : begins p (ix1 (0 : Fin 1024)) = 1#32 := by
  unfold begins front
  exact (concatenate_pair_apply_left (t := S1024) (s₁ := S1) (s₂ := S1023) 0 _ _ _ _ rfl (ix1 (0 : Fin 1)) fun b => by
    match b with
    | ⟨0, _⟩ => rfl).trans (bc0 _ _ _)

omit hp in
theorem begins_succ (j : ℕ) (hj : j + 1 < 1024) :
    begins p (ix1 (⟨j + 1, hj⟩ : Fin 1024)) = if qAt p (j + 1) = qAt p j then 0#32 else 1#32 := by
  unfold begins front
  refine (concatenate_pair_apply_right (t := S1024) (s₁ := S1) (s₂ := S1023) 0 _ _ _ _ rfl rfl (ix1 (⟨j, by omega⟩ : Fin 1023)) (fun b hb => ?_) rfl).trans ?_
  · match b with
    | ⟨0, _⟩ => exact absurd rfl hb
  have e1 : extractStridedSlice S1023 ![1] (sorted p) slices_S1024_S1023_1 (ix1 (⟨j, by omega⟩ : Fin 1023)) = sorted p (ix1 ⟨j + 1, hj⟩) :=
    (slice1 1 (sorted p) _ _ (show 1 + j < 1024 by omega)).trans (congrArg (fun k => sorted p (ix1 k)) (Fin.ext (Nat.add_comm 1 j)))
  have e2 : extractStridedSlice S1023 ![0] (sorted p) slices_S1024_S1023_0 (ix1 (⟨j, by omega⟩ : Fin 1023)) = sorted p (ix1 ⟨j, by omega⟩) :=
    (slice1 0 (sorted p) _ _ (show 0 + j < 1024 by omega)).trans (congrArg (fun k => sorted p (ix1 k)) (Fin.ext (Nat.zero_add j)))
  show (IntOp.cmpi .ne (extractStridedSlice S1023 ![1] (sorted p) slices_S1024_S1023_1 (ix1 (⟨j, by omega⟩ : Fin 1023)))
    (extractStridedSlice S1023 ![0] (sorted p) slices_S1024_S1023_0 (ix1 (⟨j, by omega⟩ : Fin 1023)))).setWidth 32 = _
  rw [e1, e2, sorted_at, sorted_at]
  have f1 := qAt_fin p ⟨j + 1, hj⟩
  have f2 := qAt_fin p ⟨j, by omega⟩
  simp only at f1 f2
  rw [f1, f2]
  unfold IntOp.cmpi
  by_cases h : p (ix1 (perm p ⟨j + 1, hj⟩)) = p (ix1 (perm p ⟨j, by omega⟩))
  · rw [h]; simp
  · rw [if_neg (fun e => h (BitVec.eq_of_toNat_eq e))]
    have : (p (ix1 (perm p ⟨j + 1, hj⟩)) != p (ix1 (perm p ⟨j, by omega⟩))) = true := bne_iff_ne.2 h
    simp [this]

omit hp in
theorem groupOf_at (j : Fin 1024) : groupOf p (ix1 j) = BitVec.ofNat 32 (gid (qAt p) j.val) := by
  have hx : ∀ i : Fin 1024, begins p (ix1 i) = BitVec.ofNat 32 ((fun j => if j = 0 then 1 else if qAt p j = qAt p (j - 1) then 0 else 1) i.val) := by
    rintro ⟨i, hi⟩
    cases i with
    | zero => exact begins_zero p
    | succ i =>
      rw [begins_succ p i hi]
      simp only [Nat.succ_ne_zero, if_false, Nat.add_sub_cancel]
      split <;> rfl
  have := cumsum1 (N := 1024) (Nm1 := 1023) rfl (begins p) (fun j => if j = 0 then 1 else if qAt p j = qAt p (j - 1) then 0 else 1) hx (broadcastInDim S_ ![] bcast_S_S_ (constantI S_ 32 0#32)) (bc0 _ _ _)
    reduceWindows_S1024_S1024_w1024s1p1023_0 h_S_ j
  rw [sum_marks (qAt p) _ (by simp) (fun j => by simp) j.val] at this
  have hs : splat 1#32 (ix1 j) = 1#32 := bc0 _ _ _
  have hg := gid_le (qAt p) j.val
  have hj := j.isLt
  show IntOp.subi (Host.reduceWindow IntOp.addi ![1024] ![1] ![1023] ![0] (begins p) (broadcastInDim S_ ![] bcast_S_S_ (constantI S_ 32 0#32))
    reduceWindows_S1024_S1024_w1024s1p1023_0 h_S_ (ix1 j)) (splat 1#32 (ix1 j)) = _
  rw [this, hs]
  apply BitVec.eq_of_toNat_eq
  unfold IntOp.subi
  simp only [BitVec.toNat_sub, BitVec.toNat_ofNat]
  omega

omit hp in
theorem groupCol_at (j : Fin 1024) : column 1024#32 (groupOf p) (ix2 j (0 : Fin 1)) = BitVec.ofNat 32 (gid (qAt p) j.val) :=
  column_at _ _ j _ (by have := gid_le (qAt p) j.val; have := j.isLt; omega) (groupOf_at p j)

omit hp in
theorem groupSize_at (g : Fin 1024) : groupSize p (ix1 g) = BitVec.ofNat 32 (Nat.count (fun i => gid (qAt p) i = g.val) 1024) :=
  scatter_hist scatter_S1024_S1024x1_S1024_n_0_0_1 rfl rfl rfl _ (fun i => bc0 _ _ _) _ _ (fun i => bc0 _ _ _) _ (groupCol_at p)
    (fun i => by have := gid_le (qAt p) i.val; have := i.isLt; omega) g

omit hp in
/-- A scatter over the groups, read at one: a fold over the sparks in the group. -/
theorem group_fold (f : BitVec 32 → BitVec 32 → BitVec 32) (x u : IVec S1024 32) (g : Fin 1024) :
    Host.scatter scatter_S1024_S1024x1_S1024_n_0_0_1 f x (column 1024#32 (groupOf p)) u (ix1 g)
      = (List.finRange 1024).foldl (fun a e => if gid (qAt p) e.val = g.val then f a (u (ix1 e)) else a) (x (ix1 g)) := by
  rw [scatter_at]
  have hN : S1024.numel = 1024 := numel1 1024
  have key : ∀ n : Fin S1024.numel, (scatter_S1024_S1024x1_S1024_n_0_0_1.resultIdx? (S1024.rowMajor.symm n) (column 1024#32 (groupOf p)) = some (ix1 g)
      ↔ gid (qAt p) n.val = g.val) := fun n => by
    rw [show S1024.rowMajor.symm n = ix1 (n.cast hN) from symm1 n]
    exact scatter_lands scatter_S1024_S1024x1_S1024_n_0_0_1 rfl rfl rfl _ _ (groupCol_at p)
      (fun i => by have := gid_le (qAt p) i.val; have := i.isLt; omega) (n.cast hN) g
  have e : ∀ (M : ℕ) (hM : M = 1024) (k : BitVec 32 → Fin M → BitVec 32) (k' : BitVec 32 → Fin 1024 → BitVec 32),
      (∀ a n, k a n = k' a (n.cast hM)) → ∀ a, (List.finRange M).foldl k a = (List.finRange 1024).foldl k' a := by
    intro M hM k k' h a
    subst hM
    exact congrArg (fun k => (List.finRange 1024).foldl k a) (funext fun a => funext fun n => h a n)
  refine e _ hN _ _ (fun a n => ?_) _
  rw [show S1024.rowMajor.symm n = ix1 (n.cast hN) from symm1 n]
  have := key n
  rw [show S1024.rowMajor.symm n = ix1 (n.cast hN) from symm1 n] at this
  simp only [this]
  rfl

/-- What the groups' tables hold: a group without sparks has size zero; the sparks of any other are the places from its start on, all
    on its row. -/
theorem groups (g : Fin 1024) :
    ((groupSize p (ix1 g)).toNat = 0 ∧ ∀ j, j < 1024 → gid (qAt p) j ≠ g.val)
    ∨ (0 < (groupSize p (ix1 g)).toNat ∧ (groupStart p (ix1 g)).toNat + (groupSize p (ix1 g)).toNat ≤ 1024
      ∧ (groupPos p (ix1 g)).toNat < 8192
      ∧ (∀ j, j < 1024 → (gid (qAt p) j = g.val ↔ (groupStart p (ix1 g)).toNat ≤ j ∧ j < (groupStart p (ix1 g)).toNat + (groupSize p (ix1 g)).toNat))
      ∧ ∀ j, j < 1024 → (gid (qAt p) j = g.val ↔ qAt p j = (groupPos p (ix1 g)).toNat)) := by
  have hle : Nat.count (fun i => gid (qAt p) i = g.val) 1024 ≤ 1024 := by
    rw [Nat.count_eq_card_filter_range]
    exact (Finset.card_filter_le _ _).trans (by rw [Finset.card_range])
  have hsz : (groupSize p (ix1 g)).toNat = Nat.count (fun i => gid (qAt p) i = g.val) 1024 := by
    rw [groupSize_at, BitVec.toNat_ofNat]; omega
  by_cases hex : ∃ j, j < 1024 ∧ gid (qAt p) j = g.val
  · right
    obtain ⟨j, hj, hjg⟩ := hex
    -- the first member
    have hF : groupFirst p (ix1 g) = _ := group_fold p IntOp.minsi (splat 1024#32) (iotaInDim S1024 32 0) g
    obtain ⟨f1, f2, f3⟩ := fold_pick (fun a b : BitVec 32 => a.toInt ≤ b.toInt) (fun _ => le_refl _) (fun _ _ _ h k => h.trans k) IntOp.minsi minsi_pick
      (fun e : Fin 1024 => gid (qAt p) e.val = g.val) (fun e => iotaInDim S1024 32 0 (ix1 e)) (List.finRange 1024) (splat 1024#32 (ix1 g))
    rw [← hF] at f1 f2 f3
    have iota : ∀ e : Fin 1024, iotaInDim S1024 32 0 (ix1 e) = BitVec.ofNat 32 e.val := fun e => rfl
    have iotaI : ∀ e : Fin 1024, (iotaInDim S1024 32 0 (ix1 e)).toInt = e.val := fun e => by
      rw [iota, StableHlo.Predicate.toInt_ofNat_small _ (by have := e.isLt; omega)]
    have top : splat 1024#32 (ix1 g) = 1024#32 := bc0 _ _ _
    have hfirst : ∃ s : ℕ, s < 1024 ∧ gid (qAt p) s = g.val ∧ (∀ i, i < 1024 → gid (qAt p) i = g.val → s ≤ i) ∧ (groupFirst p (ix1 g)) = BitVec.ofNat 32 s := by
      rcases f3 with f3 | ⟨e, _, he, f3⟩
      · exfalso
        have := f2 ⟨j, hj⟩ (List.mem_finRange _) hjg
        rw [f3, top, iotaI, show (1024#32 : BitVec 32).toInt = 1024 from rfl] at this
        simp only at this
        omega
      · refine ⟨e.val, e.isLt, he, fun i hi hig => ?_, f3.trans (iota e)⟩
        have := f2 ⟨i, hi⟩ (List.mem_finRange _) hig
        rw [f3, iotaI, iotaI] at this
        simp only at this
        omega
    obtain ⟨s, hs, hsg, hmin, hsF⟩ := hfirst
    obtain ⟨i1, i2, i3⟩ := gid_interval (qAt p) 1024 g.val s hs hsg hmin
    have hst : (groupStart p (ix1 g)).toNat = s := by
      have : groupStart p (ix1 g) = Scalar.select (IntOp.cmpi .sgt (groupSize p (ix1 g)) (splat 0#32 (ix1 g))) (groupFirst p (ix1 g)) (splat 0#32 (ix1 g)) := rfl
      rw [this, show splat 0#32 (ix1 g) = 0#32 from bc0 _ _ _]
      have c : IntOp.cmpi .sgt (groupSize p (ix1 g)) 0#32 = 1#1 :=
        (StableHlo.Predicate.sgt_iff_toNat (by omega) (by decide)).2 (by rw [hsz]; exact i1)
      rw [c, hsF]
      show (BitVec.ofNat 32 s).toNat = s
      rw [BitVec.toNat_ofNat]; omega
    -- the row
    have hP : groupPos p (ix1 g) = _ := group_fold p IntOp.maxsi (splat 0#32) (sorted p) g
    obtain ⟨_, p2, p3⟩ := fold_pick (fun a b : BitVec 32 => b.toInt ≤ a.toInt) (fun _ => le_refl _) (fun _ _ _ h k => k.trans h) IntOp.maxsi maxsi_pick
      (fun e : Fin 1024 => gid (qAt p) e.val = g.val) (fun e => sorted p (ix1 e)) (List.finRange 1024) (splat 0#32 (ix1 g))
    rw [← hP] at p2 p3
    have srt : ∀ e : Fin 1024, sorted p (ix1 e) = BitVec.ofNat 32 (qAt p e.val) := fun e => by
      rw [sorted_at, qAt_fin, BitVec.ofNat_toNat, BitVec.setWidth_eq]
    have srtI : ∀ e : Fin 1024, (sorted p (ix1 e)).toInt = qAt p e.val := fun e => by
      rw [srt, StableHlo.Predicate.toInt_ofNat_small _ (by have := qAt_lt p hp e.val; omega)]
    have same : ∀ i k, i < 1024 → k < 1024 → gid (qAt p) i = g.val → (gid (qAt p) k = g.val ↔ qAt p k = qAt p i) := fun i k hi hk h => by
      rw [← h]; exact gid_eq (qAt_mono p hp) hk hi
    have hpos : (groupPos p (ix1 g)).toNat = qAt p s := by
      rcases p3 with p3 | ⟨e, _, he, p3⟩
      · have := p2 ⟨s, hs⟩ (List.mem_finRange _) hsg
        rw [p3, show splat 0#32 (ix1 g) = 0#32 from bc0 _ _ _, srtI, show (0#32 : BitVec 32).toInt = 0 from rfl] at this
        rw [p3, show splat 0#32 (ix1 g) = 0#32 from bc0 _ _ _]
        simp only at this
        show 0 = _
        omega
      · rw [p3, srt, BitVec.toNat_ofNat, (same s e.val hs e.isLt hsg).1 he]
        have := qAt_lt p hp s
        omega
    rw [hst, hsz, hpos]
    exact ⟨i1, i2, qAt_lt p hp s, i3, fun k hk => same s k hs hk hsg⟩
  · left
    have hno : ∀ j, j < 1024 → gid (qAt p) j ≠ g.val := fun j hj h => hex ⟨j, hj, h⟩
    refine ⟨?_, hno⟩
    rw [hsz, Nat.count_eq_card_filter_range, Finset.card_eq_zero, Finset.filter_eq_empty_iff]
    exact fun j hj => hno j (Finset.mem_range.1 hj)

end InRange

/-! ## The padded tables -/

theorem at1040_pad (n : ℕ) (hn : n < 1024) (x : IVec S1024 32) : padI x (at1040 n) = x (ix1 ⟨n, hn⟩) := by
  unfold padI behindI
  exact concatenate_pair_apply_left (t := S1040) (s₁ := S1024) (s₂ := S16) 0 _ _ _ _ rfl (ix1 (⟨n, hn⟩ : Fin 1024)) fun b => by
    match b with
    | ⟨0, _⟩ => exact (Nat.mod_eq_of_lt (show n < 1040 by omega)).symm

theorem padI_forall {P : BitVec 32 → Prop} (x : IVec S1024 32) (h : ∀ i, P (x i)) (h0 : P 0#32) (i : S1040.Idx) : P (padI x i) := by
  unfold padI behindI
  by_cases hi : (i 0).val < 1024
  · rw [concatenate_pair_apply_left (t := S1040) (s₁ := S1024) (s₂ := S16) 0 _ _ _ i rfl (ix1 (⟨(i 0).val, hi⟩ : Fin 1024)) fun b => by
      match b with
      | ⟨0, _⟩ => rfl]
    exact h _
  · have h1 : (i 0).val < 1040 := (i 0).isLt
    rw [concatenate_pair_apply_right (t := S1040) (s₁ := S1024) (s₂ := S16) 0 _ _ _ i rfl rfl
      (ix1 (⟨(i 0).val - 1024, by omega⟩ : Fin 16)) (fun b hb => by
        match b with
        | ⟨0, _⟩ => exact absurd rfl hb) (show (i 0).val - 1024 + 1024 = (i 0).val by omega),
      show broadcastInDim S16 ![] bcast_S_S16 (constantI S_ 32 0#32) _ = 0#32 from bc0 _ _ _]
    exact h0

end Cert.Proof.Run

end
-- ==== Proof.Region.lean ====
/-
  The dense pass: the kernel's TensorCore call, a grid of thirty-two row blocks. Its body run once at any point, what the call
  leaves in its two results, and the call as one step of the host program.
-/
module

public import proofs.«01_k».proof.Proof.Host
public import proofs.«01_k».proof.Proof.Gen.KernelIdeal.Points
public import Idealize.ShloMosaic.Lib.Pipeline.FrameBody
public import Idealize.ShloMosaic.Lib.Pipeline.RegionsLoop

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Rounds
open Idealize.ShloMosaic.Pipeline (Dat Window cellOf BodyObligation)

variable {F : FTy → Type}
local notation "𝕄" => MT nD τ sig (HIx 1) (Elt F) ℕ UU ℕ

variable [FloatOps F]

/-! ## The body, on whole buffers -/

abbrev rBlock : Rect S256x8192 := Rect.unit (s := S256x8192) ![0, 0] S256x8192.size inb_S256x8192_S256x8192_0_0
abbrev rState : Rect S1x8192 := Rect.unit (s := S1x8192) ![0, 0] S1x8192.size inb_S1x8192_S1x8192_0_0
abbrev rVec : Rect S1x1x256 := Rect.unit (s := S1x1x256) ![0, 0, 0] S1x1x256.size inb_S1x1x256_S1x1x256_0_0_0

/-- What the body leaves in the block of decayed weights, -/
def outW (w : Vec F S256x8192 .f32) : Vec F S256x8192 .f32 :=
  View.canon [⟨rBlock, k0_pay2 (View.ld w rBlock)⟩]

/-- and in the block of the new state. -/
def outS (s : Vec F S1x8192 .f32) (z f : Vec F S1x1x256 .f32) (w : Vec F S256x8192 .f32) : Vec F S1x1x256 .f32 :=
  View.canon [⟨rVec, k0_pay1 (View.ld w rBlock) (View.ld s rState) (View.ld z rVec) (View.ld f rVec)⟩]

theorem coverW (p : Vec F S256x8192 .f32) (y : S256x8192.Idx) :
    ∃ pc ∈ ([⟨rBlock, p⟩] : List (View.Piece (Elt F) S256x8192 .f32)), y ∈ pc.1.set :=
  View.cover_of_tiled [⟨rBlock, p⟩] S256x8192.size (by rfl) y

theorem coverS (p : Vec F S1x1x256 .f32) (y : S1x1x256.Idx) :
    ∃ pc ∈ ([⟨rVec, p⟩] : List (View.Piece (Elt F) S1x1x256 .f32)), y ∈ pc.1.set :=
  View.cover_of_tiled [⟨rVec, p⟩] S1x1x256.size (by rfl) y

/-- The body on whole buffers: the four inputs come back as they were, the two results at `outW` and `outS`. -/
theorem dense_body (c : Dev nD) (i : grid0.Coords) (a1 : Memref sig .tc .vmem S1x8192 .f32) (h1 : a1.IsWhole) (a2 : Memref sig .tc .vmem S1x1x256 .f32) (h2 : a2.IsWhole)
    (a3 : Memref sig .tc .vmem S1x1x256 .f32) (h3 : a3.IsWhole) (a4 : Memref sig .tc .vmem S256x8192 .f32) (h4 : a4.IsWhole)
    (a5 : Memref sig .tc .vmem S256x8192 .f32) (h5 : a5.IsWhole) (a6 : Memref sig .tc .vmem S1x1x256 .f32) (h6 : a6.IsWhole)
    (s : Vec F S1x8192 .f32) (z f : Vec F S1x1x256 .f32) (w : Vec F S256x8192 .f32) (Q : PUnit → sProp 𝕄) :
    iprop(owns (c : Thread nD τ) a1 fullShare s ∗ owns (c : Thread nD τ) a2 fullShare z ∗ owns (c : Thread nD τ) a3 fullShare f ∗ owns (c : Thread nD τ) a4 fullShare w
        ∗ (∃ x, owns (c : Thread nD τ) a5 fullShare x) ∗ (∃ x, owns (c : Thread nD τ) a6 fullShare x)
        ∗ (iprop(owns (c : Thread nD τ) a1 fullShare s ∗ owns (c : Thread nD τ) a2 fullShare z ∗ owns (c : Thread nD τ) a3 fullShare f ∗ owns (c : Thread nD τ) a4 fullShare w
            ∗ owns (c : Thread nD τ) a5 fullShare (outW w) ∗ owns (c : Thread nD τ) a6 fullShare (outS s z f w)) -∗ Q ⟨⟩))
      ⊢ wp frame (wpE (defs₀ (F := F)) 𝒱₀ c none) Set.univ (cc0__pass1_body i a1 h1 a2 h2 a3 h3 a4 h4 a5 h5 a6 h6) Q := by
  simp only [cc0__pass1_body_eq_skeleton]; unfold cc0__pass1_body_skel
  unfold owns
  iintro ⟨⟨%f1, %e1, H1⟩, ⟨%f2, %e2, H2⟩, ⟨%f3, %e3, H3⟩, ⟨%f4, %e4, H4⟩, ⟨%x5, %f5, -, H5⟩, ⟨%x6, %f6, -, H6⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverW _)
  iexists _; isplitr
  swap; · iexact H6
  ipureintro
  exact View.read_writes_eq_canon _ _ _ (coverS _)

/-! ## The proof data, from the buffers' contents when the call is reached -/

variable (v : Dev nD → Valuation τ sig (Elt F))

abbrev arrOf (c : Dev nD) (b : Ref sig .tc) : Buf (Elt F) ((c : Thread nD τ).loc b) := v c b

/-- The inputs' blocks at point `t`: the state's row, the noise, the forced flags, the weights. -/
abbrev blk0 (c : Dev nD) (t : Fin cfg0.N) : Vec F S1x8192 .f32 := ((cfg0.win 0).blk t).view.read (Elt F) (arrOf v c main_v75)
abbrev blk1 (c : Dev nD) (t : Fin cfg0.N) : Vec F S1x1x256 .f32 := ((cfg0.win 1).blk t).view.read (Elt F) (arrOf v c main_v76)
abbrev blk2 (c : Dev nD) (t : Fin cfg0.N) : Vec F S1x1x256 .f32 := ((cfg0.win 2).blk t).view.read (Elt F) (arrOf v c main_v77)
abbrev blk3 (c : Dev nD) (t : Fin cfg0.N) : Vec F S256x8192 .f32 := ((cfg0.win 3).blk t).view.read (Elt F) (arrOf v c main_arg0)

/-- The waits the TensorCore may have recorded before its first SparseCore call. -/
abbrev lowWaits (c : Dev nD) : Set (SemLoc sig × HIx 1) := {p | (K (F := F)).lev (T c, p.1) p.2 ≤ 0}

def dat (c : Dev nD) : Dat τ (Elt F) (HIx 1) ℕ UU ℕ cfg0 c where
  A w := arrOf v c (Pipeline.arrRef spec0 w)
  after w t := match w with
    | ⟨0, _⟩ => blk0 v c t
    | ⟨1, _⟩ => blk1 v c t
    | ⟨2, _⟩ => blk2 v c t
    | ⟨3, _⟩ => blk3 v c t
    | ⟨4, _⟩ => outW (blk3 v c t)
    | ⟨5, _⟩ => outS (blk0 v c t) (blk1 v c t) (blk2 v c t) (blk3 v c t)
  Φ _ := Pipeline.scopedRest (Ix := HIx 1) (Name := ℕ) (U := UU) (Lvl := ℕ) (Val := Elt F) spec0 c
  q _ := fullShare
  owed _ := (K (F := F)).Otc c 0
  recorded _ := lowWaits (F := F) c

abbrev adm : (p : Fin 1) → (pcfgs (F := F) p).Adm := fun p => (cfgs p).toPCfg_adm

def pdats (p : Fin 1) (c : Dev nD) : Dat τ (Elt F) (HIx 1) ℕ UU ℕ (Pipeline.pin (pcfgs (F := F)) adm p) c := dat v c

theorem dat_after0 (c : Dev nD) (t : Fin cfg0.N) : (dat v c).after 0 t = blk0 v c t := by dsimp only [dat]
theorem dat_after1 (c : Dev nD) (t : Fin cfg0.N) : (dat v c).after 1 t = blk1 v c t := by dsimp only [dat]
theorem dat_after2 (c : Dev nD) (t : Fin cfg0.N) : (dat v c).after 2 t = blk2 v c t := by dsimp only [dat]
theorem dat_after3 (c : Dev nD) (t : Fin cfg0.N) : (dat v c).after 3 t = blk3 v c t := by dsimp only [dat]
theorem dat_after4 (c : Dev nD) (t : Fin cfg0.N) : (dat v c).after 4 t = outW (blk3 v c t) := by dsimp only [dat]
theorem dat_after5 (c : Dev nD) (t : Fin cfg0.N) :
    (dat v c).after 5 t = outS (blk0 v c t) (blk1 v c t) (blk2 v c t) (blk3 v c t) := by dsimp only [dat]

/-- An input's staging buffer holds its block at every point. -/
theorem dat_before0 (c : Dev nD) (t : Fin cfg0.N) (e) : (dat v c).before 0 t e = blk0 v c t :=
  ((dat v c).before_in_eq_fetched 0 rfl (fun _ => rfl) (fun _ _ _ => rfl) (fun t => by rw [dat_after0]; rfl) t e).trans rfl
theorem dat_before1 (c : Dev nD) (t : Fin cfg0.N) (e) : (dat v c).before 1 t e = blk1 v c t :=
  ((dat v c).before_in_eq_fetched 1 rfl (fun _ => rfl) (fun _ _ _ => rfl) (fun t => by rw [dat_after1]; rfl) t e).trans rfl
theorem dat_before2 (c : Dev nD) (t : Fin cfg0.N) (e) : (dat v c).before 2 t e = blk2 v c t :=
  ((dat v c).before_in_eq_fetched 2 rfl (fun _ => rfl) (fun _ _ _ => rfl) (fun t => by rw [dat_after2]; rfl) t e).trans rfl
theorem dat_before3 (c : Dev nD) (t : Fin cfg0.N) (e) : (dat v c).before 3 t e = blk3 v c t :=
  ((dat v c).before_in_eq_fetched 3 rfl (fun _ => rfl) (fun _ _ _ => rfl) (fun t => by rw [dat_after3]; rfl) t e).trans rfl

/-! ## The body obligation -/

def densePre (c : Dev nD) (t : Fin cfg0.N) : sProp 𝕄 :=
  iprop((dat v c).Φ t.castSucc ∗ (dat v c).owesAt none t.castSucc
    ∗ (∃ e, owns (c : Thread nD τ) (st0_0 t) fullShare ((dat v c).before 0 t e))
    ∗ (∃ e, owns (c : Thread nD τ) (st0_1 t) fullShare ((dat v c).before 1 t e))
    ∗ (∃ e, owns (c : Thread nD τ) (st0_2 t) fullShare ((dat v c).before 2 t e))
    ∗ (∃ e, owns (c : Thread nD τ) (st0_3 t) fullShare ((dat v c).before 3 t e))
    ∗ (∃ e, owns (c : Thread nD τ) (st0_4 t) fullShare ((dat v c).before 4 t e))
    ∗ (∃ e, owns (c : Thread nD τ) (st0_5 t) fullShare ((dat v c).before 5 t e)))

def densePost (c : Dev nD) (t : Fin cfg0.N) : sProp 𝕄 :=
  iprop((dat v c).Φ t.succ ∗ (dat v c).owesAt none t.succ
    ∗ owns (c : Thread nD τ) (st0_0 t) fullShare ((dat v c).after 0 t)
    ∗ owns (c : Thread nD τ) (st0_1 t) fullShare ((dat v c).after 1 t)
    ∗ owns (c : Thread nD τ) (st0_2 t) fullShare ((dat v c).after 2 t)
    ∗ owns (c : Thread nD τ) (st0_3 t) fullShare ((dat v c).after 3 t)
    ∗ owns (c : Thread nD τ) (st0_4 t) fullShare ((dat v c).after 4 t)
    ∗ owns (c : Thread nD τ) (st0_5 t) fullShare ((dat v c).after 5 t))

theorem dense_at (c : Dev nD) (t : Fin cfg0.N) :
    densePre v c t ⊢ wp frame (wpE (defs₀ (F := F)) 𝒱₀ c none) Set.univ (bodyAt0 t) (fun _ => densePost v c t) := by
  unfold densePre densePost bodyAt0
  simp only [dat_before0, dat_before1, dat_before2, dat_before3]
  rw [show (dat v c).Φ t.succ = (dat v c).Φ t.castSucc from rfl,
    show (dat v c).owesAt none t.succ = (dat v c).owesAt none t.castSucc from rfl,
    dat_after0, dat_after1, dat_after2, dat_after3, dat_after4, dat_after5]
  iintro ⟨HΦ, Ho, ⟨%e0, H0⟩, ⟨%e1, H1⟩, ⟨%e2, H2⟩, ⟨%e3, H3⟩, ⟨%e4, H4⟩, ⟨%e5, H5⟩⟩
  iapply (dense_body c _ _ _ _ _ _ _ _ _ _ _ _ _ (blk0 v c t) (blk1 v c t) (blk2 v c t) (blk3 v c t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem dense_row (t : Fin cfg0.N) :
    defs₀ (F := F) .tc cfg0.body (cfg0.bodyArgs t (cfg0.slots t)) = bodyAt0 t := by
  rfl

theorem dense_obligation (c : Dev nD) : BodyObligation (dat v c) (defs₀ (F := F)) 𝒱₀ none Set.univ := fun t => by
  rw [bigSep_W0, bigSep_W0, dense_row]
  exact triple_restated (dense_at v c t) rfl .rfl fun _ => .rfl

/-! ## The call over the host's buffers -/

/-- The contents the call leaves in its two results. -/
def denseW (c : Dev nD) : Buf (Elt F) ((c : Thread nD τ).loc main_v78_0) := (dat v c).arrAt 4 cfg0.N
def denseS (c : Dev nD) : Buf (Elt F) ((c : Thread nD τ).loc main_v78_1) := (dat v c).arrAt 5 cfg0.N

/-- The TensorCore's debts at a point of the host program before its SparseCore call. -/
abbrev tcOwes (c : Dev nD) : sProp 𝕄 :=
  iprop(∃ W, ⌜(K (F := F)).WBelow (T c) W 0⌝ ∗ owes (T c) ((K (F := F)).Otc c 0) W)

variable (v' : Dev nD → Valuation τ sig (Elt F))

set_option backward.isDefEq.respectTransparency.types false in
def reg (hW : ∀ c, v' c (Proc.devRef .tc main_v78_0) = denseW v c) (hS : ∀ c, v' c (Proc.devRef .tc main_v78_1) = denseS v c)
    (hne : ∀ c (b : Ref sig .tc), b ≠ main_v78_0 → b ≠ main_v78_1 → v' c b = v c b) :
    Pipeline.RegionSeg (pcfgs (F := F)) adm (pdats v) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (dense_obligation v c).loose
  hwaits c := Pipeline.cellsWaits_of_cut (Pipeline.pin (pcfgs (F := F)) adm) (pdats v) none 0 c 0 ((K (F := F)).Otc c 0) (fun _ => rfl)
    (fun _ _ => Finset.mem_univ _) (fun _ _ => le_refl _)
    (fun g i h => ⟨Finset.mem_univ _, lt_of_lt_of_le (by omega) (SparseCore.Cfg.lev_of_Otc_pos h)⟩)
  pre c := iprop(unscopedBufs c (fun b => v c b) ∗ tcOwes (F := F) c)
  post c := iprop(unscopedBufs c (fun b => v' c b) ∗ tcOwes (F := F) c)
  X _ := BI.emp
  Y _ := BI.emp
  Z c := Pipeline.unscopedRest (Ix := HIx 1) (Name := ℕ) (U := UU) (Lvl := ℕ) spec0 c (fun b => v c b)
  hentry c := by
    rw [Pipeline.ownSems0_none]
    have hsplit := Pipeline.arrays_of_unscopedBufs (p := 0) (pcfgs (F := F)) adm (pdats v) launch0.win launch0.arr_whole c
      ((pdats v 0 c).share_full fun _ => rfl) (fun b => v c b) fun _ => rfl
    iintro ⟨⟨Hub, %W, %hlow, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hlow p hp)
      iexact HO
    isplitr; · iempintro
    iexact Hrest
  hin c := by
    rw [show (pdats v 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats v 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats v) ((pdats v 0 c).share_full fun _ => rfl) (fun b => v c b) (fun b => v' c b) ((pdats v 0 c).arrAt · cfg0.N)
      (fun w => by
        fin_cases w
        · exact ((pdats v 0 c).arrAt_in 0 rfl _).trans (hne c main_v75 (by decide) (by decide)).symm
        · exact ((pdats v 0 c).arrAt_in 1 rfl _).trans (hne c main_v76 (by decide) (by decide)).symm
        · exact ((pdats v 0 c).arrAt_in 2 rfl _).trans (hne c main_v77 (by decide) (by decide)).symm
        · exact ((pdats v 0 c).arrAt_in 3 rfl _).trans (hne c main_arg0 (by decide) (by decide)).symm
        · exact (hW c).symm
        · exact (hS c).symm)
      (fun b hb => hne c b (fun h => hb (h ▸ Finset.mem_image.mpr ⟨4, Finset.mem_univ _, rfl⟩)) (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact le_refl _
    iexact HO

/-! ## The call as a step of the host program -/

def EP : Emb UB 𝕄 :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb

instance : (EP : Emb UB 𝕄).LandsIn (upEmb : UEmb _ 𝕄) := by unfold EP; infer_instance

/-- The pipeline's protocol state, as the launch hands it over. -/
def pipeGhost (c : Dev nD) : sProp 𝕄 :=
  iprop(Pipeline.cellsGhost (Pipeline.pin (pcfgs (F := F)) adm) EP 0 c ∗ Pipeline.toksInit (Pipeline.pin (pcfgs (F := F)) adm) EP 0 c)

theorem dense_step₀ [∀ e, Nonempty (Elt F e)] (hW : ∀ c, v' c (Proc.devRef .tc main_v78_0) = denseW v c) (hS : ∀ c, v' c (Proc.devRef .tc main_v78_1) = denseS v c)
    (hne : ∀ c (b : Ref sig .tc), b ≠ main_v78_0 → b ≠ main_v78_1 → v' c b = v c b) (c : Dev nD) (Q : PUnit → sProp 𝕄) :
    iprop((iprop(boundary (c.tc : Thread nD τ) ∗ unscopedBufs c (fun b => v' c b) ∗ tcOwes (F := F) c) -∗ Q ⟨⟩)
        ∗ boundary (c.tc : Thread nD τ) ∗ (unscopedBufs c (fun b => v c b) ∗ tcOwes (F := F) c) ∗ levAts (K (F := F)).L (K (F := F)).lev
        ∗ pipeGhost (F := F) c)
      ⊢ wp frame (wpE (D (F := F)) 𝒱 (c.tc : Thread nD τ) none) Set.univ (.op (.customCall (Pipeline.entry 0) ()) fun _ => .ret ⟨⟩) Q := by
  have h := Pipeline.RegionSeg.wp (pcfgs (F := F)) adm (pdats v) none cellOf_inj EP defs₀ 𝒱₀ (K (F := F)).L (K (F := F)).lev
    (reg v v' hW hS hne) c none (fun _ h => nomatch h) (fun _ => .ret ⟨⟩) Q
  rw [show (reg v v' hW hS hne).pre c = iprop(unscopedBufs c (fun b => v c b) ∗ tcOwes (F := F) c) from rfl,
    show (reg v v' hW hS hne).post c = iprop(unscopedBufs c (fun b => v' c b) ∗ tcOwes (F := F) c) from rfl] at h
  unfold pipeGhost
  iintro ⟨Hk, Hb, Hp, HL, Hg, Ht⟩
  iapply h
  isplitl [Hk]
  · iintro ⟨Hb, Hp⟩
    iapply (Idealize.SL.Sem.le_wp_ret _ _ _)
    iapply Hk
    isplitl [Hb]; · iexact Hb
    iexact Hp
  isplitl [Hb]; · iexact Hb
  isplitl [Hp]; · iexact Hp
  isplitl [HL]; · iexact HL
  isplitl [Hg] <;> iassumption

theorem dense_step [∀ e, Nonempty (Elt F e)] (hW : ∀ c, v' c (Proc.devRef .tc main_v78_0) = denseW v c) (hS : ∀ c, v' c (Proc.devRef .tc main_v78_1) = denseS v c)
    (hne : ∀ c (b : Ref sig .tc), b ≠ main_v78_0 → b ≠ main_v78_1 → v' c b = v c b) (c : Dev nD) (Q : PUnit → sProp 𝕄) :
    iprop((iprop(boundary (c.tc : Thread nD τ) ∗ unscopedBufs c (fun b => v' c b) ∗ tcOwes (F := F) c) -∗ Q ⟨⟩)
        ∗ boundary (c.tc : Thread nD τ) ∗ (unscopedBufs c (fun b => v c b) ∗ tcOwes (F := F) c) ∗ levAts (K (F := F)).L (K (F := F)).lev
        ∗ pipeGhost (F := F) c)
      ⊢ wp frame (wpE ((K (F := F)).defs (D (F := F))) 𝒱 (T c) none) Set.univ (Prog.lift (.customCall (SparseCore.inner (Pipeline.entry 0)) ())) Q :=
  by
  have h := ((K (F := F)).wp_liftProg (D (F := F)) 𝒱 (T c) Set.univ none (.op (.customCall (Pipeline.entry 0) ()) fun _ => .ret ⟨⟩) Q)
  exact (dense_step₀ v v' hW hS hne c Q).trans h

end Cert.Proof.Run

end
-- ==== Proof.Launch.lean ====
module

public import proofs.«01_k».proof.Proof.Split
public import proofs.«01_k».proof.Proof.Sparks
public import proofs.«01_k».proof.Proof.Region
public import Idealize.ShloMosaic.Lib.SparseCore.Quiescent

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ

variable [FloatOps F]
open Idealize.ShloMosaic.Rounds Idealize.ShloMosaic.Routing Idealize.ShloMosaic.ValueIdx

/-! ## The arrays the host program holds -/

/-- The arrays outside every kernel's own scope. -/
def ucRefs : Finset (DevRef τ sig) := (StableHlo.tcRefs τ sig).filter fun b => ¬ b.isScoped

theorem unscoped_held (c : Dev nD) (w : Valuation τ sig (Elt F)) :
    (unscopedBufs c (fun b => w (Proc.devRef .tc b)) : sProp 𝕄) = StableHlo.held (T c) ucRefs w := by
  unfold unscopedBufs StableHlo.held ucRefs StableHlo.tcRefs
  rw [Finset.filter_map, bigSep_map]
  rfl

theorem sub_uc (op : HloOp τ sig (Elt F)) (h : op.bufs ⊆ StableHlo.tcRefs τ sig) : op.bufs ⊆ ucRefs := fun b hb =>
  Finset.mem_filter.mpr ⟨h hb, by rw [op.no_scoped b hb]; exact Bool.false_ne_true⟩

theorem hostOps_sub : ∀ op ∈ (hostOps (F := F)), op.bufs ⊆ ucRefs := by
  refine fun op hop => sub_uc op ?_
  revert op
  unfold hostOps part0 part1
  simp only [argsort_list, cumsum_list, where_list, List.cons_append, List.nil_append, List.forall_mem_cons,
    StableHlo.nullary_bufs_sub, StableHlo.unary_bufs_sub, StableHlo.binary_bufs_sub, StableHlo.ternary_bufs_sub, StableHlo.reshape_bufs_sub,
    StableHlo.nary_bufs_sub, true_and]
  exact List.forall_mem_nil _

theorem hostOps_fresh : ∀ op ∈ (hostOps (F := F)), op.fresh = ∅ := by
  unfold hostOps part0 part1
  simp only [argsort_list, cumsum_list, where_list, List.cons_append, List.nil_append, List.forall_mem_cons]
  and_intros <;> first | rfl | exact List.forall_mem_nil _

theorem tailOps_sub : ∀ op ∈ (tailOps (F := F)), op.bufs ⊆ ucRefs := by
  refine fun op hop => sub_uc op ?_
  revert op
  unfold tailOps
  simp only [List.forall_mem_cons, StableHlo.nullary_bufs_sub, StableHlo.unary_bufs_sub, StableHlo.binary_bufs_sub,
    StableHlo.reshape_bufs_sub, true_and]
  exact List.forall_mem_nil _

theorem tailOps_fresh : ∀ op ∈ (tailOps (F := F)), op.fresh = ∅ := by
  unfold tailOps
  simp only [List.forall_mem_cons]
  and_intros <;> first | rfl | exact List.forall_mem_nil _

/-! ## The tables the sparks' positions make -/

variable (v : Valuation τ sig (Elt F))

/-- The spark positions are rows of the weights. -/
def InRange (p : IVec S1024 32) : Prop := ∀ i, (p i).toNat < 8192

theorem order_lt (p : IVec S1024 32) (i : S1024.Idx) : (order p i).toNat < 1024 := by
  obtain ⟨j, rfl⟩ : ∃ j : Fin 1024, i = ix1 j := ⟨i 0, funext fun a => match a with | ⟨0, _⟩ => rfl⟩
  rw [order_at, BitVec.toNat_ofNat]
  have := (perm p j).isLt
  omega

section Sorted
variable (X : Tab F) (p : IVec S1024 32) (hp : InRange p) (hgp : X.gp = padI (groupPos p)) (hgs : X.gs = padI (groupStart p))
  (hgc : X.gc = padI (groupSize p)) (hsp : X.sp = padI (order p))

include hp hgp hgs hgc hsp in
theorem tab_ok : X.OK where
  group n hn := by
    rw [hgp, hgs, hgc, at1040_pad n hn, at1040_pad n hn, at1040_pad n hn]
    rcases groups p hp ⟨n, hn⟩ with ⟨h, -⟩ | ⟨h1, h2, h3, -⟩
    · exact ⟨by omega, fun h' => absurd h' (by omega)⟩
    · exact ⟨by omega, fun _ => ⟨h3, h2⟩⟩
  member y := by
    rw [hsp]
    exact padI_forall (P := fun x => x.toNat < 1024) (order p) (order_lt p) (by decide) y

include hp hgp hgc in
theorem tab_distinct : X.Distinct := by
  intro n n' hn hn' e
  rw [hgc, at1040_pad _ n.isLt] at hn
  rw [hgc, at1040_pad _ n'.isLt] at hn'
  rw [hgp, at1040_pad _ n.isLt, at1040_pad _ n'.isLt] at e
  rcases groups p hp n with ⟨h, -⟩ | ⟨-, h2, -, h4, h5⟩
  · exact absurd hn (by rw [show (ix1 (⟨n.val, n.isLt⟩ : Fin 1024) : S1024.Idx) = ix1 n from rfl, h]; exact Nat.lt_irrefl 0)
  rcases groups p hp n' with ⟨h, -⟩ | ⟨-, -, -, -, h5'⟩
  · exact absurd hn' (by rw [show (ix1 (⟨n'.val, n'.isLt⟩ : Fin 1024) : S1024.Idx) = ix1 n' from rfl, h]; exact Nat.lt_irrefl 0)
  have hn : 0 < (groupSize p (ix1 n)).toNat := hn
  have e : (groupPos p (ix1 n)).toNat = (groupPos p (ix1 n')).toNat := e
  have hj : (groupStart p (ix1 n)).toNat < 1024 := by omega
  have hg := (h4 _ hj).mpr ⟨Nat.le_refl _, by omega⟩
  have hq := ((h5 _ hj).mp hg).trans e
  exact Fin.ext (hg.symm.trans ((h5' _ hj).mpr hq))

end Sorted

/-! ## The contents through the host program -/

section Run
variable (m : (ℓ : Loc nD τ sig) → Buf (Elt F) ℓ) (ρ : Dev nD → PrngReg)

abbrev opCopy : HloOp τ sig (Elt F) := StableHlo.unary main_v78_0 main_v79 id

/-- At the launch; before the dense pass; after it; its copy made; the sparse pass done; at the end. -/
def V0 (d : Dev nD) : Valuation τ sig (Elt F) := fun b => m (d, b)
def V1 (d : Dev nD) : Valuation τ sig (Elt F) := StableHlo.after hostOps (V0 m d)
def V2 (d : Dev nD) : Valuation τ sig (Elt F) :=
  Function.update (Function.update (V1 m d) (Proc.devRef .tc main_v78_0) (denseW (V1 m) d)) (Proc.devRef .tc main_v78_1) (denseS (V1 m) d)
def V3 (d : Dev nD) : Valuation τ sig (Elt F) := (opCopy (F := F)).result (V2 m d)
def V4 (d : Dev nD) : Valuation τ sig (Elt F) := Function.update (V3 m d) tO ((tabOf (V3 m d)).newW (V3 m d tO))
def V5 (d : Dev nD) : Valuation τ sig (Elt F) := StableHlo.after tailOps (V4 m d)

theorem devRef_ne {a b : Ref sig .tc} (h : a ≠ b) : Proc.devRef (τ := τ) .tc a ≠ Proc.devRef .tc b := fun e => h (Proc.devRef_injective _ e)

theorem V2_W (d : Dev nD) : V2 m d (Proc.devRef .tc main_v78_0) = denseW (V1 m) d :=
  (Function.update_of_ne (devRef_ne (by decide)) _ _).trans (Function.update_self _ _ _)
theorem V2_S (d : Dev nD) : V2 m d (Proc.devRef .tc main_v78_1) = denseS (V1 m) d := Function.update_self _ _ _
theorem V2_ne (d : Dev nD) (b : Ref sig .tc) (h0 : b ≠ main_v78_0) (h1 : b ≠ main_v78_1) : V2 m d (Proc.devRef .tc b) = V1 m d (Proc.devRef .tc b) :=
  (Function.update_of_ne (devRef_ne h1) _ _).trans (Function.update_of_ne (devRef_ne h0) _ _)
theorem V3_ne (d : Dev nD) (b : Ref sig .tc) (h : b ≠ main_v79) : V3 m d (Proc.devRef .tc b) = V2 m d (Proc.devRef .tc b) :=
  (opCopy (F := F)).result_of_not_mem _ (show _ ∉ ({Proc.devRef .tc main_v79} : Finset (DevRef τ sig)) from fun e => devRef_ne h (Finset.mem_singleton.mp e))
/-- The dense pass's array, and its copy. -/
def dW (d : Dev nD) : S8192x8192.Idx → F .f32 := denseW (V1 m) d
theorem V2_dW (d : Dev nD) : (V2 m d (Proc.devRef .tc main_v78_0) : S8192x8192.Idx → F .f32) = dW m d := V2_W m d
theorem copy_at (w : Valuation τ sig (Elt F)) :
    ((opCopy (F := F)).result w tO : S8192x8192.Idx → F .f32) = (w (Proc.devRef .tc main_v78_0) : S8192x8192.Idx → F .f32) :=
  StableHlo.unary_result _ _ _ _ _ _
theorem V3_O (d : Dev nD) : (V3 m d tO : S8192x8192.Idx → F .f32) = dW m d := (copy_at _).trans (V2_dW m d)
theorem V3_V1 (d : Dev nD) (b : Ref sig .tc) (h : b ≠ main_v78_0 ∧ b ≠ main_v78_1 ∧ b ≠ main_v79) : V3 m d (Proc.devRef .tc b) = V1 m d (Proc.devRef .tc b) :=
  (V3_ne m d b h.2.2).trans (V2_ne m d b h.1 h.2.1)
theorem V4_ne (d : Dev nD) (b : DevRef τ sig) (h : b ≠ tO) : V4 m d b = V3 m d b := Function.update_of_ne h _ _

/-- The tables the sparse pass reads. -/
abbrev tab (d : Dev nD) : Tab F := tabOf (V3 m d)

theorem tab_gp (d : Dev nD) : (tab m d).gp = padI (groupPos (m (d, Proc.devRef .tc main_arg3))) := (V3_V1 m d main_v56 (by decide)).trans (host_v56 _)
theorem tab_gs (d : Dev nD) : (tab m d).gs = padI (groupStart (m (d, Proc.devRef .tc main_arg3))) := (V3_V1 m d main_v57 (by decide)).trans (host_v57 _)
theorem tab_gc (d : Dev nD) : (tab m d).gc = padI (groupSize (m (d, Proc.devRef .tc main_arg3))) := (V3_V1 m d main_v58 (by decide)).trans (host_v58 _)
theorem tab_sp (d : Dev nD) : (tab m d).sp = padI (order (m (d, Proc.devRef .tc main_arg3))) := (V3_V1 m d main_v59 (by decide)).trans (host_v59 _)
theorem tab_sl (d : Dev nD) : (tab m d).sl = amounts (m (d, Proc.devRef .tc main_arg3)) (m (d, Proc.devRef .tc main_arg4)) := (V3_V1 m d main_v61 (by decide)).trans (host_v61 _)
theorem tab_f (d : Dev nD) : (tab m d).f = m (d, Proc.devRef .tc main_arg0) := (V3_V1 m d main_arg0 (by decide)).trans (host_other _ main_arg0 (by simp))
theorem tab_fbr (d : Dev nD) : (tab m d).fbr = m (d, Proc.devRef .tc main_arg6) := (V3_V1 m d main_arg6 (by decide)).trans (host_other _ main_arg6 (by simp))

abbrev PP : (K (F := F)).Pay (nD := nD) (Val := Elt F) (Name := ℕ) (U := UU) := P (tab m) (fun d => V3 m d tO)

theorem st0_eq (d : Dev nD) : (bigSep Finset.univ fun c : Fin ((K (F := F)).nCore 0) => (PP m).st 0 d c)
    = bigSep Finset.univ fun c : Fin ((K (F := F)).nCore 0) => corePart (tab m) (fun d => V3 m d tO) d c 0 := rfl
theorem dn0_eq (d : Dev nD) : (bigSep Finset.univ fun c : Fin ((K (F := F)).nCore 0) => (PP m).dn 0 d c)
    = bigSep Finset.univ fun c : Fin ((K (F := F)).nCore 0) => corePart (tab m) (fun d => V3 m d tO) d c 32 := rfl

/-! ## The launch's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ownU_halves (a : UH) (b : UB) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem pipe_fund : (BI.own (EP (initOf (Pipeline.cells (Pipeline.pin (pcfgs (F := F)) adm) cellOf_inj)
      (Pipeline.launchToks (Pipeline.pin (pcfgs (F := F)) adm) cellOf_inj))) : sProp 𝕄)
    ⊢ iprop(|==> bigSep Finset.univ (pipeGhost (F := F))) := by
  have h : ∀ (Φ Ψ : Dev nD → Fin 1 → sProp 𝕄), iprop((bigSep Finset.univ fun c => bigSep Finset.univ fun p => Φ c p) ∗ bigSep Finset.univ fun c => bigSep Finset.univ fun p => Ψ c p)
      ⊢ bigSep Finset.univ fun c => iprop(Φ c 0 ∗ Ψ c 0) := by
    intro Φ Ψ
    rw [bigSep_sep']
    simp only [bigSep_univ_of_subsingleton (0 : Fin 1)]
    exact Entails.refl _
  iintro H
  imod (Pipeline.fund_ghost (Pipeline.pin (pcfgs (F := F)) adm) EP cellOf_inj) $$ H with H
  imodintro
  iapply (h _ _) $$ H

theorem hu₀ : (ownU (u₀ (F := F)) : sProp 𝕄)
    ⊢ |={Set.univ}=> iprop(BI.own (EH (initOf (K (F := F)).hsCells (K (F := F)).hsToks)) ∗ (bigSep Finset.univ (pipeGhost (F := F)))
        ∗ bigSep Finset.univ fun thr : Thread nD τ => bigSep Finset.univ fun q : Fin 1 => (PP m).x q thr) := by
  unfold u₀
  iintro Hu
  ihave H := (ownU_halves _ _) $$ Hu
  icases H with ⟨HH, HP⟩
  imod (pipe_fund (F := F)) $$ HP with HP
  imodintro
  isplitl [HH]; · iexact HH
  isplitl [HP]; · iexact HP
  rw [show (fun thr : Thread nD τ => bigSep Finset.univ fun q : Fin 1 => (PP m).x q thr) = fun _ => (iprop(emp) : sProp 𝕄) from
    funext fun thr => bigSep_emp_const _]
  rw [show (bigSep Finset.univ fun _ : Thread nD τ => (iprop(emp) : sProp 𝕄)) = iprop(emp) from bigSep_emp_const _]
  iempintro

/-! ## The host program's run -/

/-- What the host program leaves: every array of it, at its last contents. -/
abbrev FIN (d : Dev nD) : sProp 𝕄 := StableHlo.held (T d) ucRefs (V5 m d)

/-- The TensorCore's state before its call but for what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_zero (d : Dev nD) : ((K (F := F)).tcSt EH d 0 : sProp 𝕄) = iprop(tcOwes (F := F) d ∗ tcRest (F := F) d) := rfl

theorem hmain [∀ e, Nonempty (Elt F e)] (hp : ∀ d, InRange (m (d, Proc.devRef .tc main_arg3))) (κ : GSem nD τ sig → ℕ) (d : Dev nD) :
    iprop((K (F := F)).ctx EH (PP m) κ ∗ (K (F := F)).tcSt EH d 0 ∗ (K (F := F)).tcRes m ρ d ∗ pipeGhost (F := F) d)
      ⊢ wp frame (wpE ((K (F := F)).defs (D (F := F))) 𝒱 (T d) none) Set.univ (main d)
          fun _ => iprop((K (F := F)).tcSt EH d 1 ∗ FIN m d ∗ (K (F := F)).tcEnd d) := by
  have hcall := call_split (F := F) (V3 m) (V4 m) d ucRefs (by decide)
    (tab_distinct (tab m d) _ (hp d) (tab_gp m d) (tab_gc m d)) (Function.update_self _ _ _) (fun b hb => V4_ne m d b hb)
  unfold SparseCore.Cfg.tcRes SparseCore.Cfg.tcEnd
  rw [show (unscopedBufs d (fun b => m ((SparseCore.T d).loc b)) : sProp 𝕄) = StableHlo.held (T d) ucRefs (V0 m d) from unscoped_held d (V0 m d), main_eq]
  iintro ⟨#Hctx, Hst, ⟨Hb, Hheld, Hts, -⟩, HG⟩
  iapply (StableHlo.wp_seq 𝒱 none Set.univ d ucRefs _ hostOps hostOps_sub hostOps_fresh (V0 m d)) $$ [Hb Hheld]
  · isplitl [Hb] <;> iassumption
  iintro ⟨Hb, Hheld⟩
  unfold afterHost
  rw [wp_bind]
  ihave Hst := (Entails.of_eq (tcSt_zero (F := F) d)) $$ Hst
  icases Hst with ⟨HO, Hst⟩
  ihave Hlev := (SparseCore.Cfg.ctx_levAts κ) $$ Hctx
  iapply (dense_step (F := F) (V1 m) (V2 m) (V2_W m) (V2_S m) (fun c b h0 h1 => V2_ne m c b h0 h1) d _)
  isplitr [Hb Hheld HO HG Hlev]
  · iintro ⟨Hb, Hheld, HO⟩
    ihave Hheld := (Entails.of_eq (unscoped_held (F := F) d (V2 m d))) $$ Hheld
    rw [wp_bind]
    iapply (StableHlo.wp_hlo_within 𝒱 (T d) none Set.univ (op := opCopy) (S := ucRefs) (sub_uc _ (StableHlo.unary_bufs_sub ..)) (V := V2 m d)) $$ [Hb Hheld]
    · isplitl [Hb] <;> iassumption
    iintro ⟨Hb, Hheld⟩
    rw [wp_ret]; imodintro
    rw [wp_bind]
    ihave Hheld := (Entails.of_eq (show (StableHlo.held (T d) ucRefs ((opCopy (F := F)).result (V2 m d)) : sProp 𝕄) = StableHlo.held (T d) ucRefs (V3 m d) from rfl)) $$ Hheld
    ihave Hheld := hcall $$ Hheld
    icases Hheld with ⟨Hparts, Hback⟩
    iapply ((K (F := F)).wp_run (D (F := F)) 𝒱 (EH := EH) (P := PP m) κ d 0) $$ [HO Hst Hparts Hback Hb Hts]
    isplitr; · iexact Hctx
    isplitl [HO Hst]
    · iapply (Entails.of_eq (tcSt_zero (F := F) d).symm)
      isplitl [HO] <;> iassumption
    isplitl [Hparts]
    · rw [st0_eq]; iexact Hparts
    iintro ⟨Hst, Hdn⟩
    ihave Hdn := (Entails.of_eq (dn0_eq m d)) $$ Hdn
    ispecialize Hback $$ Hdn
    rw [← bind_pure (StableHlo.seq (tailOps (F := F)))]
    iapply (StableHlo.wp_seq 𝒱 none Set.univ d ucRefs _ tailOps tailOps_sub tailOps_fresh (V4 m d)) $$ [Hb Hback]
    · isplitl [Hb] <;> iassumption
    iintro ⟨Hb, Hheld⟩
    rw [wp_pure]; imodintro
    isplitl [Hst]; · iexact Hst
    isplitl [Hheld]; · iexact Hheld
    isplitl [Hb] <;> iassumption
  isplitl [Hb]; · iexact Hb
  isplitl [Hheld HO]
  · isplitl [Hheld]
    · rw [unscoped_held d (V1 m d)]; iexact Hheld
    iexact HO
  isplitl [Hlev]; · iexact Hlev
  iexact HG

/-- What the claims read of device `d`'s final state: every array of the host program, at its last contents. -/
def fq (d : Dev nD) (s' : Phys nD τ sig (Elt F)) : Prop := ∀ b ∈ ucRefs, s'.mem.mem (d, b) = V5 m d b

theorem fin_at (d : Dev nD) (s' : Phys nD τ sig (Elt F)) (b : DevRef τ sig) (hb : b ∈ ucRefs) :
    iprop(FIN m d ∗ SI s') ⊢ (⌜s'.mem.mem (d, b) = V5 m d b⌝ : sProp 𝕄) := by
  have h := SparseCore.bigSep_erase' hb (Φ := fun b => (((d, b) : Loc nD τ sig) ↦{fullShare} V5 m d b : sProp 𝕄))
  have e : (FIN m d : sProp 𝕄) = bigSep ucRefs fun b => (((d, b) : Loc nD τ sig) ↦{fullShare} V5 m d b : sProp 𝕄) := rfl
  rw [e, h]
  iintro ⟨⟨Hb, -⟩, HSI⟩
  ihave H := (SI_pointsTo_agree (st := s') (ℓ := ((d, b) : Loc nD τ sig)) (I := Finset.univ) (q := fullShare) (f := V5 m d b)) $$ [HSI Hb]
  · isplitl [HSI] <;> iassumption
  icases H with %hx
  ipureintro
  exact funext fun i => hx i (Finset.mem_univ i)

theorem hfin (d : Dev nD) (s' : Phys nD τ sig (Elt F)) : iprop(FIN m d ∗ SI s') ⊢ (⌜fq m d s'⌝ : sProp 𝕄) :=
  fun a h b hb => fin_at m d s' b hb a h

/-- The run: every array of the host program ends at its last contents, every counter at zero. -/
def QC : PUnit × MemSt nD τ sig (Elt F) → Prop := fun r =>
  (∀ (c : Dev nD), ∀ b ∈ ucRefs, r.2.mem (c, b) = V5 m c b) ∧ r.2.sem = fun _ => 0

theorem tabs_ok (hp : ∀ d, InRange (m (d, Proc.devRef .tc main_arg3))) (d : Dev nD) : (tab m d).OK :=
  tab_ok (tab m d) _ (hp d) (tab_gp m d) (tab_gs m d) (tab_gc m d) (tab_sp m d)

theorem run_main [∀ e, Nonempty (Elt F e)] (hp : ∀ d, InRange (m (d, Proc.devRef .tc main_arg3))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tab m) (fun d => V3 m d tO) facts (tabs_ok m hp))
    (fun q _ => match q with | 0 => SparseCore.Cfg.VecSplit.of_plain (vecSplit (tab m) (fun d => V3 m d tO)))
    m ρ main (pipeGhost (F := F)) (FIN m) (u₀ (F := F)) (sep_elim_left.trans (hu₀ m)) (hmain m ρ hp) (fq m) (hfin m) (QC m) (fun _ h hz => ⟨h, hz⟩)

theorem V5_arg (d : Dev nD) (b : Ref sig .tc) (hb : b ∈ [main_arg0, main_arg1, main_arg2, main_arg3, main_arg4, main_arg5, main_arg6]) :
    V5 m d (Proc.devRef .tc b) = m (d, Proc.devRef .tc b) := by
  have h1 : V5 m d (Proc.devRef .tc b) = V4 m d (Proc.devRef .tc b) := by
    unfold V5 tailOps
    simp only [List.mem_cons, List.not_mem_nil, or_false] at hb
    rcases hb with rfl | rfl | rfl | rfl | rfl | rfl | rfl <;> after_reads_simp
  have h2 : b ≠ main_v79 ∧ b ≠ main_v78_0 ∧ b ≠ main_v78_1 ∧ b ≠ main_v79 := by
    simp only [List.mem_cons, List.not_mem_nil, or_false] at hb
    rcases hb with rfl | rfl | rfl | rfl | rfl | rfl | rfl <;> decide
  rw [h1, V4_ne m d _ (devRef_ne h2.1), V3_V1 m d b h2.2]
  exact host_other _ b hb

theorem arg_uc (b : Ref sig .tc) (hb : b ∈ [main_arg0, main_arg1, main_arg2, main_arg3, main_arg4, main_arg5, main_arg6]) :
    Proc.devRef .tc b ∈ ucRefs := by
  simp only [List.mem_cons, List.not_mem_nil, or_false] at hb
  rcases hb with rfl | rfl | rfl | rfl | rfl | rfl | rfl <;> decide

end Run

end Cert.Proof.Run
end
-- ==== Proof.Frames.lean ====
module

public import proofs.«01_k».proof.Proof.Launch
public import proofs.«01_k».proof.Defs

@[expose] public section

noncomputable section

namespace Cert.Proof.Run

open Cert.KernelIdeal Cert.KernelIdeal.Gen

open Idealize.ShloMosaic Idealize.SL.Sem

/-! ## What the preconditions say -/

instance facts_pos : Cert.Pre_pos_in_range.Facts where
  bcast_S_S1024 := by decide

instance facts_fin : Cert.Pre_pos_in_range_w_finite.Facts where
  bcast_S_S1024 := by decide
  bcast_S_S8192x8192 := by decide
  shapeCasts_S8192x8192_S8x1024x8192 := by decide
  bcast_S1024_S1x1024x1_1 := by decide
  bcast_S1x1024x1_S8x1024x8192_0_1_2 := by decide

theorem and_split {a b : BitVec 1} (h : IntOp.andi a b = 1#1) : a = 1#1 ∧ b = 1#1 := by
  revert a b; decide

theorem bit_one {b : Bool} (h : BitVec.ofBool b = 1#1) : b = true := by
  revert b; decide

/-- A word not below zero and below 8192, both read signed, is below 8192. -/
theorem word_lt {v : BitVec 32} (h0 : IntOp.cmpi .sge v 0#32 = 1#1) (h1 : IntOp.cmpi .slt v 8192#32 = 1#1) : v.toNat < 8192 := by
  have h0 := bit_one h0
  have h1 := bit_one h1
  simp only [BitVec.sle_eq_decide, BitVec.slt_eq_decide, decide_eq_true_eq, BitVec.toInt_eq_toNat_cond, BitVec.toNat_ofNat,
    Nat.reducePow, Nat.reduceMod] at h0 h1
  omega

section
variable {F : FTy → Type} [FloatOps F] (a0 : FVec F S8192x8192 .f32) (a1 a2 : FVec F S8192 .f32) (a3 : IVec S1024 32)
  (a4 : FVec F S1024 .f32) (a5 : IVec S1024 32) (a6 : FVec F S1024x8192 .f32)

theorem inRange_of_pos (h : Cert.Pre_pos_in_range.fn (F := F) a0 a1 a2 a3 a4 a5 a6 = fun _ => 1#1) : InRange a3 := by
  intro i
  have e := and_split (congrFun h i)
  exact word_lt e.1 e.2

theorem inRange_of_fin (h : Cert.Pre_pos_in_range_w_finite.fn (F := F) a0 a1 a2 a3 a4 a5 a6 = fun _ => 1#1) : InRange a3 := by
  intro i
  obtain ⟨j, rfl⟩ : ∃ j, i = Idealize.ShloMosaic.ValueIdx.ix1 j := ⟨i 0, by ext k; fin_cases k; rfl⟩
  have e := and_split (and_split (congrFun h (Idealize.ShloMosaic.ValueIdx.ix3 0 j 0))).2
  have key : ∀ x : S1024.Idx, (x 0).val = j.val → IntOp.cmpi .sge (a3 x) 0#32 = 1#1 ∧ IntOp.cmpi .slt (a3 x) 8192#32 = 1#1 →
      (a3 (Idealize.ShloMosaic.ValueIdx.ix1 j)).toNat < 8192 := by
    intro x hx h
    have hx' : x = Idealize.ShloMosaic.ValueIdx.ix1 j := by ext k; fin_cases k; exact hx
    exact hx' ▸ word_lt h.1 h.2
  exact key _ rfl e

end

/-- A magnitude below infinity is a number's. -/
theorem real_of_lt (x : EReal) (h : Ideal.cmp .olt (max x (-x)) (Ideal.ofBits .f32 0x7F800000#32) = 1#1) : ∃ a : ℝ, x = (a : EReal) := by
  have ht : Ideal.ofBits .f32 0x7F800000#32 = (⊤ : EReal) := by simp [Ideal.ofBits, Ideal.ieee]
  rw [ht] at h
  have hlt : max x (-x) < ⊤ := of_decide_eq_true (bit_one h)
  obtain ⟨h1, h2⟩ := max_lt_iff.1 hlt
  induction x using EReal.rec with
  | bot => exact absurd h2 (by simp)
  | coe a => exact ⟨a, rfl⟩
  | top => exact absurd h1 (lt_irrefl _)

/-- Under the second precondition every weight is a number. -/
theorem finite_of_fin (a0 : FVec Ideal S8192x8192 .f32) (a1 a2 : FVec Ideal S8192 .f32) (a3 : IVec S1024 32)
    (a4 : FVec Ideal S1024 .f32) (a5 : IVec S1024 32) (a6 : FVec Ideal S1024x8192 .f32)
    (h : Cert.Pre_pos_in_range_w_finite.fn (F := Ideal) a0 a1 a2 a3 a4 a5 a6 = fun _ => 1#1) (i : S8192x8192.Idx) : ∃ a : ℝ, a0 i = (a : EReal) := by
  have e := (and_split (congrFun h ((Shape.reshapeEquiv Cert.Pre_pos_in_range_w_finite.Facts.shapeCasts_S8192x8192_S8x1024x8192).symm i))).1
  obtain ⟨j, hj⟩ : ∃ j, j = Shape.reshapeEquiv Cert.Pre_pos_in_range_w_finite.Facts.shapeCasts_S8192x8192_S8x1024x8192
    ((Shape.reshapeEquiv Cert.Pre_pos_in_range_w_finite.Facts.shapeCasts_S8192x8192_S8x1024x8192).symm i) := ⟨_, rfl⟩
  have e' : Ideal.cmp .olt (max (a0 j) (-(a0 j))) (Ideal.ofBits .f32 0x7F800000#32) = 1#1 := by rw [hj]; exact e
  rw [show j = i from hj.trans (Equiv.apply_symm_apply _ _)] at e'
  exact real_of_lt _ e'

/-! ## The frames -/

theorem frame_of (F : FTy → Type) [FloatOps F] [∀ e, Nonempty (Elt F e)] (m : (ℓ : Loc nD τ sig) → Buf (Elt F) ℓ) (g : Dev nD → PrngReg)
    (hp : ∀ d, InRange (m (d, Proc.devRef .tc main_arg3))) :
    θ_run (Cert.KernelIdeal.defs (F := F)) (Cert.KernelIdeal.threads (F := F)) ⟨m, fun _ => 0, g⟩ (fun r =>
      (∀ c : Dev nD, ∀ b ∈ [main_arg0, main_arg1, main_arg2, main_arg3, main_arg4, main_arg5, main_arg6],
        r.2.mem ((c.tc : Thread nD τ).loc b) = m ((c.tc : Thread nD τ).loc b)) ∧ r.2.sem = fun _ => 0) :=
  (θ_run _ _ _).mono (fun _ hq => ⟨fun c b hb => (hq.1 c _ (arg_uc b hb)).trans (V5_arg m c b hb), hq.2⟩) (run_main m g hp)

theorem frame_all (F : FTy → Type) [FloatOps F] [∀ e, Nonempty (Elt F e)] (m : (ℓ : Loc nD τ sig) → Buf (Elt F) ℓ) (g : Dev nD → PrngReg)
    (hp : ∀ d, InRange (m (d, Proc.devRef .tc main_arg3))) :
    θ_run (Cert.KernelIdeal.defs (F := F)) (Cert.KernelIdeal.threads (F := F)) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
        ∧ r.2.sem = fun _ => 0) :=
  (θ_run _ _ _).mono (fun _ hq => ⟨fun c => by and_intros <;> exact hq.1 c _ (by simp), hq.2⟩) (frame_of F m g hp)

end Cert.Proof.Run

end
-- ==== Proof.Same.lean ====
module

public import proofs.«01_k».proof.Proof.Frames
public import proofs.«01_k».proof.Proof.Gen.Kernel
public import proofs.«01_k».proof.Kernel

@[expose] public section

noncomputable section

/-! The program as it is printed and the program that is read over the extended reals have the same text: their body tables and
    their host programs are equal, so the run of the one is the run of the other. -/

namespace Cert.Proof.Run

open Idealize.ShloMosaic Idealize.SL.Sem

section Same
variable {F : FTy → Type} [FloatOps F]

set_option maxHeartbeats 4000000 in  -- every label's body is compared in full
theorem bodies_eq : Cert.Kernel.defs₀ (F := F) = Cert.KernelIdeal.defs₀ (F := F) := by
  funext p l a
  rcases p with _ | c | ⟨c, s⟩ <;> rcases l with ⟨_ | _ | n, hl⟩ <;> first | rfl | exact absurd hl (by omega)

theorem defs_eq : Cert.Kernel.defs (F := F) = Cert.KernelIdeal.defs (F := F) :=
  congrArg (fun D => Cert.KernelIdeal.sc.defs (Pipeline.defs Cert.KernelIdeal.pcfgs D)) bodies_eq

set_option maxHeartbeats 4000000 in  -- sixty host operations are compared one by one
theorem host0_eq : Cert.Kernel.main_part0 (F := F) = Cert.KernelIdeal.main_part0 := (rfl)

set_option maxHeartbeats 4000000 in  -- sixty host operations are compared one by one
theorem host1_eq : Cert.Kernel.main_part1 (F := F) = Cert.KernelIdeal.main_part1 := (rfl)

theorem host_eq : Cert.Kernel.main (F := F) = Cert.KernelIdeal.main (F := F) := by
  funext d
  exact congrArg₂ (fun (p q : HProg F) => p >>= fun _ => q) (congrFun host0_eq d) (congrFun host1_eq d)

end Same

section Frame
open Cert.KernelIdeal

theorem frame_same (F : FTy → Type) [FloatOps F] [∀ e, Nonempty (Elt F e)] {D} (hD : D = Cert.KernelIdeal.defs (F := F))
    {M} (hM : M = Cert.KernelIdeal.main (F := F)) (m : (ℓ : Loc nD τ sig) → Buf (Elt F) ℓ) (g : Dev nD → PrngReg)
    (hp : ∀ d, InRange (m (d, Proc.devRef .tc main_arg3))) :
    θ_run D (Cert.KernelIdeal.sc.threads M) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
        ∧ r.2.sem = fun _ => 0) :=
  by subst hD hM; exact frame_all F m g hp

end Frame

set_option maxHeartbeats 4000000 in  -- the two programs' types are compared
theorem frame_bits : Cert.quiescent_Kernel := fun m g h =>
  frame_same Bits defs_eq host_eq m g fun d => inRange_of_pos _ _ _ _ _ _ _ (h d)

end Cert.Proof.Run

end
-- ==== Proof.RefHost.lean ====
module

public import proofs.«01_k».proof.Proof.Gen.ReferenceIdeal
public import proofs.«01_k».proof.ReferenceIdeal
public import Idealize.ShloMosaic.Lib.StableHlo.RunHlo
public import Idealize.ShloMosaic.Lib.StableHlo.RunRead
public import Idealize.ShloMosaic.Lib.Quiescent

@[expose] public section

noncomputable section

/-! The reference as one straight line of operations, and what the line leaves unchanged. -/

namespace Cert.Proof.Ref

open Cert.ReferenceIdeal Cert.ReferenceIdeal.Gen

open Idealize.ShloMosaic Idealize.ShloMosaic.StableHlo Idealize.SL.Sem

variable {F : FTy → Type} [FloatOps F]

/-- A program of the reference's host. -/
abbrev HProg (F : FTy → Type) [FloatOps F] : Type _ :=
  Prog (TpuEff nD τ sig (Elt F) (Pipeline.Sig Λ₀ (Fin 0) fun p => (pcfgs (F := F) p).Adm) .tc) PUnit

/-- `p` performs the operations `ops`, then goes on as `k`. -/
def RunsThen (p : HProg F) (ops : List (HloOp τ sig (Elt F))) (k : HProg F) : Prop := p = (StableHlo.seq ops >>= fun _ => k)

theorem RunsThen.nil (k : HProg F) : RunsThen k [] k := rfl

theorem RunsThen.cons {op : HloOp τ sig (Elt F)} {p k : HProg F} {ops : List (HloOp τ sig (Elt F))}
    (h : RunsThen p ops k) : RunsThen ((hlo rfl op fun _ => .ret (⟨⟩ : PUnit)) >>= fun _ => p) (op :: ops) k := by
  unfold RunsThen at h ⊢
  rw [h]; rfl

theorem seq_append (a b : List (HloOp τ sig (Elt F))) (k : HProg F) :
    (StableHlo.seq a >>= fun _ => (StableHlo.seq b >>= fun _ => k)) = (StableHlo.seq (a ++ b) >>= fun _ => k : HProg F) := by
  induction a with
  | nil => rfl
  | cons x l ih => exact congrArg (fun p : HProg F => (hlo rfl x fun _ => .ret (⟨⟩ : PUnit)) >>= fun _ => p) ih

theorem RunsThen.call' {p q k : HProg F} {ops ops' : List (HloOp τ sig (Elt F))} (h : RunsThen q ops (pure ⟨⟩))
    (h' : RunsThen p ops' k) : RunsThen (q >>= fun _ => p) (ops ++ ops') k := by
  unfold RunsThen at h h' ⊢
  rw [h, h', bind_assoc]
  exact seq_append _ _ _

/-! ## The outlined functions' operations, at the buffers themselves -/

theorem nullary_of (y : Ref sig .tc) (h : y.space ≠ .host) (h' : y.isScoped = false) (f : y.ty.Contents (Elt F)) :
    TRef.nullary (τ := τ) (⟨y, rfl, h, h'⟩ : TRef sig y.ty) f = StableHlo.nullary y f ⟨h, h'⟩ := rfl
theorem unary_of (a y : Ref sig .tc) (ha : a.space ≠ .host) (ha' : a.isScoped = false) (h : y.space ≠ .host) (h' : y.isScoped = false)
    (f : a.ty.Contents (Elt F) → y.ty.Contents (Elt F)) :
    TRef.unary (τ := τ) (⟨a, rfl, ha, ha'⟩ : TRef sig a.ty) (⟨y, rfl, h, h'⟩ : TRef sig y.ty) f
      = StableHlo.unary a y f ⟨ha, ha'⟩ ⟨h, h'⟩ := rfl
theorem binary_of (a b y : Ref sig .tc) (ha : a.space ≠ .host) (ha' : a.isScoped = false) (hb : b.space ≠ .host)
    (hb' : b.isScoped = false) (h : y.space ≠ .host) (h' : y.isScoped = false)
    (f : a.ty.Contents (Elt F) → b.ty.Contents (Elt F) → y.ty.Contents (Elt F)) :
    TRef.binary (τ := τ) (⟨a, rfl, ha, ha'⟩ : TRef sig a.ty) (⟨b, rfl, hb, hb'⟩ : TRef sig b.ty) (⟨y, rfl, h, h'⟩ : TRef sig y.ty) f
      = StableHlo.binary a b y f ⟨ha, ha'⟩ ⟨hb, hb'⟩ ⟨h, h'⟩ := rfl
theorem ternary_of (c a b y : Ref sig .tc) (hc : c.space ≠ .host) (hc' : c.isScoped = false) (ha : a.space ≠ .host)
    (ha' : a.isScoped = false) (hb : b.space ≠ .host) (hb' : b.isScoped = false) (h : y.space ≠ .host) (h' : y.isScoped = false)
    (f : c.ty.Contents (Elt F) → a.ty.Contents (Elt F) → b.ty.Contents (Elt F) → y.ty.Contents (Elt F)) :
    TRef.ternary (τ := τ) (⟨c, rfl, hc, hc'⟩ : TRef sig c.ty) (⟨a, rfl, ha, ha'⟩ : TRef sig a.ty) (⟨b, rfl, hb, hb'⟩ : TRef sig b.ty)
        (⟨y, rfl, h, h'⟩ : TRef sig y.ty) f
      = StableHlo.ternary c a b y f ⟨hc, hc'⟩ ⟨ha, ha'⟩ ⟨hb, hb'⟩ ⟨h, h'⟩ := rfl
theorem quaternary_of (c e a b y : Ref sig .tc) (hc : c.space ≠ .host) (hc' : c.isScoped = false) (he : e.space ≠ .host)
    (he' : e.isScoped = false) (ha : a.space ≠ .host)
    (ha' : a.isScoped = false) (hb : b.space ≠ .host) (hb' : b.isScoped = false) (h : y.space ≠ .host) (h' : y.isScoped = false)
    (f : c.ty.Contents (Elt F) → e.ty.Contents (Elt F) → a.ty.Contents (Elt F) → b.ty.Contents (Elt F) → y.ty.Contents (Elt F)) :
    TRef.quaternary (τ := τ) (⟨c, rfl, hc, hc'⟩ : TRef sig c.ty) (⟨e, rfl, he, he'⟩ : TRef sig e.ty) (⟨a, rfl, ha, ha'⟩ : TRef sig a.ty)
        (⟨b, rfl, hb, hb'⟩ : TRef sig b.ty) (⟨y, rfl, h, h'⟩ : TRef sig y.ty) f
      = StableHlo.quaternary c e a b y f ⟨hc, hc'⟩ ⟨he, he'⟩ ⟨ha, ha'⟩ ⟨hb, hb'⟩ ⟨h, h'⟩ := rfl

def takeWrapOps : {l : List (HloOp τ sig (Elt F)) // RunsThen (fn_where.body (F := F) (.of main_call0_v1) (.of main_call0_v3) (.of main_arg3) main_call0_call0) l (pure ⟨⟩)} := by
  apply Subtype.mk
  case property =>
    iterate 1 apply RunsThen.cons
    exact RunsThen.nil _

theorem takeWrap_list : (takeWrapOps (F := F)).1 = [
    StableHlo.ternary main_call0_v1 main_call0_v3 main_arg3 main_call0_v4 select] :=
  congrArg₂ List.cons (ternary_of main_call0_v1 main_call0_v3 main_arg3 main_call0_v4 _ _ _ _ _ _ _ _ _) rfl

def takeOps : {l : List (HloOp τ sig (Elt F)) // RunsThen (fn_take.body (F := F) (.of main_v11) (.of main_arg3) main_call0) l (pure ⟨⟩)} := by
  apply Subtype.mk
  case property =>
    iterate 6 apply RunsThen.cons
    apply RunsThen.call' takeWrapOps.2
    iterate 15 apply RunsThen.cons
    exact RunsThen.nil _

theorem take_list : (takeOps (F := F)).1 = [
    StableHlo.nullary main_call0_c (constantI S_ 32 0#32),
    StableHlo.unary main_call0_c main_call0_v0 (broadcastInDim S1024 ![] bcast_S_S1024),
    StableHlo.binary main_arg3 main_call0_v0 main_call0_v1 (cmpi .slt),
    StableHlo.nullary main_call0_c_0 (constantI S_ 32 8192#32),
    StableHlo.unary main_call0_c_0 main_call0_v2 (broadcastInDim S1024 ![] bcast_S_S1024),
    StableHlo.binary main_arg3 main_call0_v2 main_call0_v3 addi,
    StableHlo.ternary main_call0_v1 main_call0_v3 main_arg3 main_call0_v4 select,
    StableHlo.unary main_call0_v4 main_call0_v5 (broadcastInDim S1024x1 ![0] bcast_S1024_S1024x1_0),
    StableHlo.nullary main_call0_c_1 (constantI S1 32 8191#32),
    StableHlo.nullary main_call0_c_2 (constantI S_ 32 0#32),
    StableHlo.unary main_call0_c_2 main_call0_v6 (broadcastInDim S1024x1 ![] bcast_S_S1024x1),
    StableHlo.binary main_call0_v5 main_call0_v6 main_call0_v7 (cmpi .sge),
    StableHlo.unary main_call0_c_1 main_call0_v8 (broadcastInDim S1x1 ![1] bcast_S1_S1x1_1),
    StableHlo.unary main_call0_v8 main_call0_v9 (broadcastInDim S1024x1 ![0, 1] bcast_S1x1_S1024x1_0_1),
    StableHlo.binary main_call0_v5 main_call0_v9 main_call0_v10 (cmpi .sle),
    StableHlo.binary main_call0_v7 main_call0_v10 main_call0_v11 andi,
    StableHlo.nullary main_call0_c_3 (constantI S_ 1 1#1),
    StableHlo.binary main_call0_v11 main_call0_c_3 main_call0_v12 (fun x v => Host.reduce IntOp.andi x v reducesTo_S1024x1_S1024_d1 h_S_),
    StableHlo.binary main_v11 main_call0_v5 main_call0_v13 (fun x i => Host.gather gather_S8192_S1024x1_S1024_n_0_n_n_0_1_1 x i),
    StableHlo.nullary main_call0_cst (constant S_ .f32 0x7FC00000#32),
    StableHlo.unary main_call0_cst main_call0_v14 (broadcastInDim S1024 ![] bcast_S_S1024),
    StableHlo.ternary main_call0_v12 main_call0_v13 main_call0_v14 main_v14 select] :=
  congrArg₂ List.cons (nullary_of main_call0_c _ _ _) <|
    congrArg₂ List.cons (unary_of main_call0_c main_call0_v0 _ _ _ _ _) <|
    congrArg₂ List.cons (binary_of main_arg3 main_call0_v0 main_call0_v1 _ _ _ _ _ _ _) <|
    congrArg₂ List.cons (nullary_of main_call0_c_0 _ _ _) <|
    congrArg₂ List.cons (unary_of main_call0_c_0 main_call0_v2 _ _ _ _ _) <|
    congrArg₂ List.cons (binary_of main_arg3 main_call0_v2 main_call0_v3 _ _ _ _ _ _ _) <|
    congrArg₂ List.cons (ternary_of main_call0_v1 main_call0_v3 main_arg3 main_call0_v4 _ _ _ _ _ _ _ _ _) <|
    congrArg₂ List.cons (unary_of main_call0_v4 main_call0_v5 _ _ _ _ _) <|
    congrArg₂ List.cons (nullary_of main_call0_c_1 _ _ _) <|
    congrArg₂ List.cons (nullary_of main_call0_c_2 _ _ _) <|
    congrArg₂ List.cons (unary_of main_call0_c_2 main_call0_v6 _ _ _ _ _) <|
    congrArg₂ List.cons (binary_of main_call0_v5 main_call0_v6 main_call0_v7 _ _ _ _ _ _ _) <|
    congrArg₂ List.cons (unary_of main_call0_c_1 main_call0_v8 _ _ _ _ _) <|
    congrArg₂ List.cons (unary_of main_call0_v8 main_call0_v9 _ _ _ _ _) <|
    congrArg₂ List.cons (binary_of main_call0_v5 main_call0_v9 main_call0_v10 _ _ _ _ _ _ _) <|
    congrArg₂ List.cons (binary_of main_call0_v7 main_call0_v10 main_call0_v11 _ _ _ _ _ _ _) <|
    congrArg₂ List.cons (nullary_of main_call0_c_3 _ _ _) <|
    congrArg₂ List.cons (binary_of main_call0_v11 main_call0_c_3 main_call0_v12 _ _ _ _ _ _ _) <|
    congrArg₂ List.cons (binary_of main_v11 main_call0_v5 main_call0_v13 _ _ _ _ _ _ _) <|
    congrArg₂ List.cons (nullary_of main_call0_cst _ _ _) <|
    congrArg₂ List.cons (unary_of main_call0_cst main_call0_v14 _ _ _ _ _) <|
    congrArg₂ List.cons (ternary_of main_call0_v12 main_call0_v13 main_call0_v14 main_v14 _ _ _ _ _ _ _ _ _) rfl

def forcedOps : {l : List (HloOp τ sig (Elt F)) // RunsThen (fn_where_0.body (F := F) (.of main_v13) (.of main_cst_3) (.of main_v14) main_call1) l (pure ⟨⟩)} := by
  apply Subtype.mk
  case property =>
    iterate 3 apply RunsThen.cons
    exact RunsThen.nil _

theorem forced_list : (forcedOps (F := F)).1 = [
    StableHlo.unary main_cst_3 main_call1_v0 id,
    StableHlo.unary main_call1_v0 main_call1_v1 (broadcastInDim S1024 ![] bcast_S_S1024),
    StableHlo.ternary main_v13 main_call1_v1 main_v14 main_v15 select] :=
  congrArg₂ List.cons (unary_of main_cst_3 main_call1_v0 _ _ _ _ _) <|
    congrArg₂ List.cons (unary_of main_call1_v0 main_call1_v1 _ _ _ _ _) <|
    congrArg₂ List.cons (ternary_of main_v13 main_call1_v1 main_v14 main_v15 _ _ _ _ _ _ _ _ _) rfl

def rowsWrapOps : {l : List (HloOp τ sig (Elt F)) // RunsThen (fn_where.body (F := F) (.of main_call2_v1) (.of main_call2_v3) (.of main_arg3) main_call2_call0) l (pure ⟨⟩)} := by
  apply Subtype.mk
  case property =>
    iterate 1 apply RunsThen.cons
    exact RunsThen.nil _

theorem rowsWrap_list : (rowsWrapOps (F := F)).1 = [
    StableHlo.ternary main_call2_v1 main_call2_v3 main_arg3 main_call2_v4 select] :=
  congrArg₂ List.cons (ternary_of main_call2_v1 main_call2_v3 main_arg3 main_call2_v4 _ _ _ _ _ _ _ _ _) rfl

def rowsOps : {l : List (HloOp τ sig (Elt F)) // RunsThen (fn_take_1.body (F := F) (.of main_arg0) (.of main_arg3) main_call2) l (pure ⟨⟩)} := by
  apply Subtype.mk
  case property =>
    iterate 6 apply RunsThen.cons
    apply RunsThen.call' rowsWrapOps.2
    iterate 16 apply RunsThen.cons
    exact RunsThen.nil _

theorem rows_list : (rowsOps (F := F)).1 = [
    StableHlo.nullary main_call2_c (constantI S_ 32 0#32),
    StableHlo.unary main_call2_c main_call2_v0 (broadcastInDim S1024 ![] bcast_S_S1024),
    StableHlo.binary main_arg3 main_call2_v0 main_call2_v1 (cmpi .slt),
    StableHlo.nullary main_call2_c_0 (constantI S_ 32 8192#32),
    StableHlo.unary main_call2_c_0 main_call2_v2 (broadcastInDim S1024 ![] bcast_S_S1024),
    StableHlo.binary main_arg3 main_call2_v2 main_call2_v3 addi,
    StableHlo.ternary main_call2_v1 main_call2_v3 main_arg3 main_call2_v4 select,
    StableHlo.unary main_call2_v4 main_call2_v5 (broadcastInDim S1024x1 ![0] bcast_S1024_S1024x1_0),
    StableHlo.nullary main_call2_c_1 (constantI S1 32 8191#32),
    StableHlo.nullary main_call2_c_2 (constantI S_ 32 0#32),
    StableHlo.unary main_call2_c_2 main_call2_v6 (broadcastInDim S1024x1 ![] bcast_S_S1024x1),
    StableHlo.binary main_call2_v5 main_call2_v6 main_call2_v7 (cmpi .sge),
    StableHlo.unary main_call2_c_1 main_call2_v8 (broadcastInDim S1x1 ![1] bcast_S1_S1x1_1),
    StableHlo.unary main_call2_v8 main_call2_v9 (broadcastInDim S1024x1 ![0, 1] bcast_S1x1_S1024x1_0_1),
    StableHlo.binary main_call2_v5 main_call2_v9 main_call2_v10 (cmpi .sle),
    StableHlo.binary main_call2_v7 main_call2_v10 main_call2_v11 andi,
    StableHlo.nullary main_call2_c_3 (constantI S_ 1 1#1),
    StableHlo.binary main_call2_v11 main_call2_c_3 main_call2_v12 (fun x v => Host.reduce IntOp.andi x v reducesTo_S1024x1_S1024_d1 h_S_),
    StableHlo.binary main_arg0 main_call2_v5 main_call2_v13 (fun x i => Host.gather gather_S8192x8192_S1024x1_S1024x8192_1_0_n_n_0_1_18192 x i),
    StableHlo.unary main_call2_v12 main_call2_v14 (broadcastInDim S1024x8192 ![0] bcast_S1024_S1024x8192_0),
    StableHlo.nullary main_call2_cst (constant S_ .f32 0x7FC00000#32),
    StableHlo.unary main_call2_cst main_call2_v15 (broadcastInDim S1024x8192 ![] bcast_S_S1024x8192),
    StableHlo.ternary main_call2_v14 main_call2_v13 main_call2_v15 main_v23 select] :=
  congrArg₂ List.cons (nullary_of main_call2_c _ _ _) <|
    congrArg₂ List.cons (unary_of main_call2_c main_call2_v0 _ _ _ _ _) <|
    congrArg₂ List.cons (binary_of main_arg3 main_call2_v0 main_call2_v1 _ _ _ _ _ _ _) <|
    congrArg₂ List.cons (nullary_of main_call2_c_0 _ _ _) <|
    congrArg₂ List.cons (unary_of main_call2_c_0 main_call2_v2 _ _ _ _ _) <|
    congrArg₂ List.cons (binary_of main_arg3 main_call2_v2 main_call2_v3 _ _ _ _ _ _ _) <|
    congrArg₂ List.cons (ternary_of main_call2_v1 main_call2_v3 main_arg3 main_call2_v4 _ _ _ _ _ _ _ _ _) <|
    congrArg₂ List.cons (unary_of main_call2_v4 main_call2_v5 _ _ _ _ _) <|
    congrArg₂ List.cons (nullary_of main_call2_c_1 _ _ _) <|
    congrArg₂ List.cons (nullary_of main_call2_c_2 _ _ _) <|
    congrArg₂ List.cons (unary_of main_call2_c_2 main_call2_v6 _ _ _ _ _) <|
    congrArg₂ List.cons (binary_of main_call2_v5 main_call2_v6 main_call2_v7 _ _ _ _ _ _ _) <|
    congrArg₂ List.cons (unary_of main_call2_c_1 main_call2_v8 _ _ _ _ _) <|
    congrArg₂ List.cons (unary_of main_call2_v8 main_call2_v9 _ _ _ _ _) <|
    congrArg₂ List.cons (binary_of main_call2_v5 main_call2_v9 main_call2_v10 _ _ _ _ _ _ _) <|
    congrArg₂ List.cons (binary_of main_call2_v7 main_call2_v10 main_call2_v11 _ _ _ _ _ _ _) <|
    congrArg₂ List.cons (nullary_of main_call2_c_3 _ _ _) <|
    congrArg₂ List.cons (binary_of main_call2_v11 main_call2_c_3 main_call2_v12 _ _ _ _ _ _ _) <|
    congrArg₂ List.cons (binary_of main_arg0 main_call2_v5 main_call2_v13 _ _ _ _ _ _ _) <|
    congrArg₂ List.cons (unary_of main_call2_v12 main_call2_v14 _ _ _ _ _) <|
    congrArg₂ List.cons (nullary_of main_call2_cst _ _ _) <|
    congrArg₂ List.cons (unary_of main_call2_cst main_call2_v15 _ _ _ _ _) <|
    congrArg₂ List.cons (ternary_of main_call2_v14 main_call2_v13 main_call2_v15 main_v23 _ _ _ _ _ _ _ _ _) rfl

def reluOps : {l : List (HloOp τ sig (Elt F)) // RunsThen (fn_relu.body (F := F) (.of main_v23) main_call3) l (pure ⟨⟩)} := by
  apply Subtype.mk
  case property =>
    iterate 3 apply RunsThen.cons
    exact RunsThen.nil _

theorem relu_list : (reluOps (F := F)).1 = [
    StableHlo.nullary main_call3_cst (constant S_ .f32 0x00000000#32),
    StableHlo.unary main_call3_cst main_call3_v0 (broadcastInDim S1024x8192 ![] bcast_S_S1024x8192),
    StableHlo.binary main_v23 main_call3_v0 main_v24 maximumf] :=
  congrArg₂ List.cons (nullary_of main_call3_cst _ _ _) <|
    congrArg₂ List.cons (unary_of main_call3_cst main_call3_v0 _ _ _ _ _) <|
    congrArg₂ List.cons (binary_of main_v23 main_call3_v0 main_v24 _ _ _ _ _ _ _) rfl

def argmaxOps : {l : List (HloOp τ sig (Elt F)) // RunsThen (fn_argmax.body (F := F) (.of main_v30) main_call4) l (pure ⟨⟩)} := by
  apply Subtype.mk
  case property =>
    iterate 5 apply RunsThen.cons
    exact RunsThen.nil _

theorem argmax_list : (argmaxOps (F := F)).1 = [
    StableHlo.nullary main_call4_v0 (iotaInDim S1024x8192 32 1),
    StableHlo.nullary main_call4_cst (constant S_ .f32 0xFF800000#32),
    StableHlo.nullary main_call4_c (constantI S_ 32 0#32),
    StableHlo.quaternary main_v30 main_call4_v0 main_call4_cst main_call4_c main_call4_v1_0 (fun x y u v j => (Host.argReduce reducer_argmax_f32_i32 x y u v reducesTo_S1024x8192_S1024_d1 h_S_ j).1),
    StableHlo.quaternary main_v30 main_call4_v0 main_call4_cst main_call4_c main_v31 (fun x y u v j => (Host.argReduce reducer_argmax_f32_i32 x y u v reducesTo_S1024x8192_S1024_d1 h_S_ j).2)] :=
  congrArg₂ List.cons (nullary_of main_call4_v0 _ _ _) <|
    congrArg₂ List.cons (nullary_of main_call4_cst _ _ _) <|
    congrArg₂ List.cons (nullary_of main_call4_c _ _ _) <|
    congrArg₂ List.cons (quaternary_of main_v30 main_call4_v0 main_call4_cst main_call4_c main_call4_v1_0 _ _ _ _ _ _ _ _ _ _ _) <|
    congrArg₂ List.cons (quaternary_of main_v30 main_call4_v0 main_call4_cst main_call4_c main_v31 _ _ _ _ _ _ _ _ _ _ _) rfl

def decayOps : {l : List (HloOp τ sig (Elt F)) // RunsThen (fn_where_2.body (F := F) (.of main_v90) (.of main_cst_26) (.of main_cst_27) main_call5) l (pure ⟨⟩)} := by
  apply Subtype.mk
  case property =>
    iterate 3 apply RunsThen.cons
    exact RunsThen.nil _

theorem decay_list : (decayOps (F := F)).1 = [
    StableHlo.unary main_cst_26 main_call5_v0 (broadcastInDim S8192x8192 ![] bcast_S_S8192x8192),
    StableHlo.unary main_cst_27 main_call5_v1 (broadcastInDim S8192x8192 ![] bcast_S_S8192x8192),
    StableHlo.ternary main_v90 main_call5_v0 main_call5_v1 main_v91 select] :=
  congrArg₂ List.cons (unary_of main_cst_26 main_call5_v0 _ _ _ _ _) <|
    congrArg₂ List.cons (unary_of main_cst_27 main_call5_v1 _ _ _ _ _) <|
    congrArg₂ List.cons (ternary_of main_v90 main_call5_v0 main_call5_v1 main_v91 _ _ _ _ _ _ _ _ _) rfl

def clipOps : {l : List (HloOp τ sig (Elt F)) // RunsThen (fn_clip.body (F := F) (.of main_v93) (.of main_cst_28) (.of main_cst_29) main_call6) l (pure ⟨⟩)} := by
  apply Subtype.mk
  case property =>
    iterate 6 apply RunsThen.cons
    exact RunsThen.nil _

theorem clip_list : (clipOps (F := F)).1 = [
    StableHlo.unary main_cst_28 main_call6_v0 id,
    StableHlo.unary main_call6_v0 main_call6_v1 (broadcastInDim S8192x8192 ![] bcast_S_S8192x8192),
    StableHlo.binary main_call6_v1 main_v93 main_call6_v2 maximumf,
    StableHlo.unary main_cst_29 main_call6_v3 id,
    StableHlo.unary main_call6_v3 main_call6_v4 (broadcastInDim S8192x8192 ![] bcast_S_S8192x8192),
    StableHlo.binary main_call6_v4 main_call6_v2 main_v94 minimumf] :=
  congrArg₂ List.cons (unary_of main_cst_28 main_call6_v0 _ _ _ _ _) <|
    congrArg₂ List.cons (unary_of main_call6_v0 main_call6_v1 _ _ _ _ _) <|
    congrArg₂ List.cons (binary_of main_call6_v1 main_v93 main_call6_v2 _ _ _ _ _ _ _) <|
    congrArg₂ List.cons (unary_of main_cst_29 main_call6_v3 _ _ _ _ _) <|
    congrArg₂ List.cons (unary_of main_call6_v3 main_call6_v4 _ _ _ _ _) <|
    congrArg₂ List.cons (binary_of main_call6_v4 main_call6_v2 main_v94 _ _ _ _ _ _ _) rfl

/-! ## The whole line -/

def part0 : {l : List (HloOp τ sig (Elt F)) // ∀ d, RunsThen (main_part0 (F := F) d) l (pure ⟨⟩)} := by
  apply Subtype.mk
  case property =>
    intro d
    iterate 19 apply RunsThen.cons
    apply RunsThen.call' takeOps.2
    apply RunsThen.cons
    apply RunsThen.call' forcedOps.2
    iterate 9 apply RunsThen.cons
    apply RunsThen.call' rowsOps.2
    apply RunsThen.call' reluOps.2
    iterate 8 apply RunsThen.cons
    apply RunsThen.call' argmaxOps.2
    iterate 18 apply RunsThen.cons
    exact RunsThen.nil _

def part1 : {l : List (HloOp τ sig (Elt F)) // ∀ d, RunsThen (main_part1 (F := F) d) l (pure ⟨⟩)} := by
  apply Subtype.mk
  case property =>
    intro d
    iterate 60 apply RunsThen.cons
    exact RunsThen.nil _

def part2 : {l : List (HloOp τ sig (Elt F)) // ∀ d, RunsThen (main_part2 (F := F) d) l (pure ⟨⟩)} := by
  apply Subtype.mk
  case property =>
    intro d
    apply RunsThen.cons
    apply RunsThen.call' decayOps.2
    iterate 4 apply RunsThen.cons
    apply RunsThen.call' clipOps.2
    iterate 3 apply RunsThen.cons
    exact RunsThen.nil _

/-- Every operation of the reference, in order. -/
def refOps : List (HloOp τ sig (Elt F)) := part0.1 ++ (part1.1 ++ part2.1)

theorem main_seq (d : Dev nD) : StableHlo.IsSeq (main (F := F) d) refOps := by
  have h : main (F := F) d = (main_part0 (F := F) d >>= fun _ => main_part1 (F := F) d >>= fun _ => main_part2 (F := F) d) := rfl
  have h12 := RunsThen.call' (part0.2 d) (RunsThen.call' (part1.2 d) ((part2 (F := F)).2 d))
  unfold StableHlo.IsSeq
  rw [h]
  exact h12.trans (bind_pure _)

theorem ops_list : (refOps (F := F)) = part0.1 ++ (part1.1 ++ part2.1) := rfl

theorem ops_sub : ∀ op ∈ (refOps (F := F)), op.bufs ⊆ tcRefs τ sig := by
  unfold refOps part0 part1 part2
  simp only [take_list, forced_list, rows_list, relu_list, argmax_list, decay_list, clip_list, List.cons_append, List.nil_append,
    List.forall_mem_cons, StableHlo.nullary_bufs_sub, StableHlo.unary_bufs_sub, StableHlo.binary_bufs_sub, StableHlo.ternary_bufs_sub,
    StableHlo.quaternary_bufs_sub, true_and]
  exact List.forall_mem_nil _

theorem ops_fresh : ∀ op ∈ (refOps (F := F)), op.fresh = ∅ := by
  unfold refOps part0 part1 part2
  simp only [take_list, forced_list, rows_list, relu_list, argmax_list, decay_list, clip_list, List.cons_append, List.nil_append,
    List.forall_mem_cons]
  and_intros <;> first | rfl | exact List.forall_mem_nil _

theorem ops_other (v : Valuation τ sig (Elt F)) (b : Ref sig .tc)
    (hb : b ∈ [main_arg0, main_arg1, main_arg2, main_arg3, main_arg4, main_arg5, main_arg6]) :
    StableHlo.after refOps v (Proc.devRef .tc b) = v (Proc.devRef .tc b) := by
  unfold refOps part0 part1 part2
  simp only [take_list, forced_list, rows_list, relu_list, argmax_list, decay_list, clip_list, List.cons_append, List.nil_append]
  simp only [List.mem_cons, List.not_mem_nil, or_false] at hb
  rcases hb with rfl | rfl | rfl | rfl | rfl | rfl | rfl <;> after_reads_simp

/-- The reference runs: every buffer ends as the line of operations leaves it, and no counter is raised. -/
theorem run_ref (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = StableHlo.after refOps (launchContents m d) (Proc.devRef .tc b))
        ∧ r.2.sem = fun _ => 0 :=
  (θ_run _ _ _).mono (fun r h => ⟨h, sem_eq_zero_of_no_sems (by decide) r.2⟩)
    (StableHlo.run_hlo defs main main_seq (by decide) (by decide) (List.forall_iff_forall_mem.2 ops_sub) ops_fresh m ρ)

theorem frame_of (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, ∀ b ∈ [main_arg0, main_arg1, main_arg2, main_arg3, main_arg4, main_arg5, main_arg6],
        r.2.mem ((c.tc : Thread nD τ).loc b) = m ((c.tc : Thread nD τ).loc b)) ∧ r.2.sem = fun _ => 0 :=
  (θ_run _ _ _).mono (fun _ h => ⟨fun c b hb => (h.1 c b).trans (ops_other _ b hb), h.2⟩) (run_ref m ρ)

end Cert.Proof.Ref

end
-- ==== Proof.Column.lean ====
/-
  The best column of a row, over the extended reals: the first column at which the row's scores are greatest.
-/
module

public import proofs.«01_k».proof.Proof.Group
public import Idealize.ShloMosaic.Lib.IdealHost
public import Idealize.ShloMosaic.Lib.WordCmp

@[expose] public section

noncomputable section

namespace Cert.Proof.Run

open Cert.KernelIdeal Cert.KernelIdeal.Gen

open Idealize.ShloMosaic

/-- `t` is the first place of `A` at which `p` is greatest. -/
def FirstMax (A : ℕ → Prop) (p : ℕ → EReal) (t : ℕ) : Prop := A t ∧ ∀ j, A j → p j ≤ p t ∧ (j < t → p j < p t)

theorem FirstMax.unique {A : ℕ → Prop} {p : ℕ → EReal} {t u : ℕ} (ht : FirstMax A p t) (hu : FirstMax A p u) : t = u := by
  rcases Nat.lt_trichotomy t u with h | h | h
  · exact absurd ((hu.2 t ht.1).2 h) (not_lt.2 (ht.2 u hu.1).1)
  · exact h
  · exact absurd ((ht.2 u hu.1).2 h) (not_lt.2 (hu.2 t ht.1).1)

theorem FirstMax.congr {A B : ℕ → Prop} {p : ℕ → EReal} {t : ℕ} (h : FirstMax A p t) (hAB : ∀ j, A j ↔ B j) : FirstMax B p t :=
  ⟨(hAB t).1 h.1, fun j hj => h.2 j ((hAB j).2 hj)⟩

/-- The first greatest place of two sets together: the second's where it is greater, or as great and earlier. -/
theorem FirstMax.union {A B : ℕ → Prop} {p : ℕ → EReal} {t u : ℕ} (ht : FirstMax A p t) (hu : FirstMax B p u) :
    FirstMax (fun j => A j ∨ B j) p (if p t < p u ∨ (p u = p t ∧ u < t) then u else t) := by
  split
  · next h =>
    refine ⟨Or.inr hu.1, fun j hj => ?_⟩
    rcases hj with hj | hj
    · rcases h with h | ⟨h, h'⟩
      · exact ⟨((ht.2 j hj).1.trans_lt h).le, fun _ => (ht.2 j hj).1.trans_lt h⟩
      · exact ⟨h ▸ (ht.2 j hj).1, fun hl => h ▸ (ht.2 j hj).2 (hl.trans h')⟩
    · exact hu.2 j hj
  · next h =>
    have h1 : p u ≤ p t := not_lt.1 fun q => h (Or.inl q)
    refine ⟨Or.inl ht.1, fun j hj => ?_⟩
    rcases hj with hj | hj
    · exact ht.2 j hj
    · refine ⟨(hu.2 j hj).1.trans h1, fun hl => ?_⟩
      rcases h1.lt_or_eq with h2 | h2
      · exact (hu.2 j hj).1.trans_lt h2
      · exact ((hu.2 j hj).2 (hl.trans_le (not_lt.1 fun q => h (Or.inr ⟨h2, q⟩)))).trans_eq h2

/-! ## The constants -/

theorem eps_real : ∃ r : ℝ, 0 < r ∧ Ideal.ofBits .f32 0x358637BD#32 = (r : EReal) := by
  refine ⟨8796093 * 2 ^ (-43 : ℤ), by positivity, ?_⟩
  simp [Ideal.ofBits, Ideal.ieee, -EReal.coe_mul]

theorem eps_pos : (0 : EReal) < Ideal.ofBits .f32 0x358637BD#32 := by
  obtain ⟨r, hr, e⟩ := eps_real
  rw [e]
  exact EReal.coe_pos.2 hr

theorem init_neg : Ideal.ofBits .f32 0xBF800000#32 < 0 := by
  rw [show Ideal.ofBits .f32 0xBF800000#32 = ((-1 : ℝ) : EReal) by
    simp [Ideal.ofBits, Ideal.ieee, -EReal.coe_mul, -EReal.coe_neg]; norm_num]
  exact EReal.coe_lt_coe_iff.2 (by norm_num)

theorem pElt_pos (w : EReal) : (0 : EReal) < pElt (F := Ideal) w := by
  show (0 : EReal) < max w (Ideal.ofBits .f32 0x00000000#32) + Ideal.ofBits .f32 0x358637BD#32
  rw [Ideal.ofBits_zero_f32]
  exact eps_pos.trans_le (le_add_of_nonneg_left (le_max_right _ _))

/-! ## The lanes and their fold -/

theorem select_lt (a b : EReal) {α : Type} (x y : α) : Scalar.select (Ideal.cmp .ogt a b) x y = if b < a then x else y := by
  unfold Ideal.cmp
  exact WordCmp.select_decide _ _ _

variable (fw : S8192.Idx → EReal)

/-- The row's scores. -/
abbrev score (i : ℕ) : EReal := pElt (F := Ideal) (fw (at8 i))

theorem maxStep_eq (i : ℕ) (c : EReal × BitVec 32) :
    maxStep (F := Ideal) fw i c = if c.1 < score fw i then (score fw i, BitVec.ofNat 32 i) else c := by
  unfold maxStep
  refine (congrArg₂ Prod.mk (select_lt _ _ _ _) (select_lt _ _ _ _)).trans ?_
  split <;> rfl

theorem maxLane_best (x : S16.Idx) (n : ℕ) : ∃ t, FirstMax (fun j => ∃ k, k < n + 1 ∧ j = 16 * k + (x 0).val) (score fw) t
    ∧ maxLane (F := Ideal) fw x (n + 1) = (score fw t, BitVec.ofNat 32 t) := by
  induction n with
  | zero =>
    refine ⟨(x 0).val, ⟨⟨0, by omega, by omega⟩, fun j ⟨k, hk, hj⟩ => ?_⟩, ?_⟩
    · obtain rfl : j = (x 0).val := by omega
      exact ⟨le_refl _, fun h => absurd h (lt_irrefl _)⟩
    · show maxStep (F := Ideal) fw (16 * 0 + (x 0).val) (fInit, 0#32) = _
      rw [maxStep_eq, Nat.mul_zero, Nat.zero_add]
      exact if_pos (init_neg.trans (pElt_pos _))
  | succ n ih =>
    obtain ⟨t, ht, e⟩ := ih
    refine ⟨_, (ht.union (u := 16 * (n + 1) + (x 0).val) (B := fun j => j = 16 * (n + 1) + (x 0).val)
      ⟨rfl, fun j hj => hj ▸ ⟨le_refl _, fun h => absurd h (lt_irrefl _)⟩⟩).congr fun j => ?_, ?_⟩
    · constructor
      · rintro (⟨k, hk, h⟩ | h)
        · exact ⟨k, by omega, h⟩
        · exact ⟨n + 1, by omega, h⟩
      · rintro ⟨k, hk, h⟩
        rcases Nat.lt_or_ge k (n + 1) with hk' | hk'
        · exact Or.inl ⟨k, hk', h⟩
        · obtain rfl : k = n + 1 := by omega
          exact Or.inr h
    · obtain ⟨k, hk, hkt⟩ := ht.1
      show maxStep (F := Ideal) fw (16 * (n + 1) + (x 0).val) (maxLane fw x (n + 1)) = _
      rw [e, maxStep_eq]
      by_cases h : score fw t < score fw (16 * (n + 1) + (x 0).val)
      · rw [if_pos h, if_pos (Or.inl h)]
      · rw [if_neg h, if_neg (by rintro (q | ⟨-, q⟩); exacts [h q, by omega])]

theorem laneStep_eq (u t : ℕ) (hu : u < 8192) (ht : t < 8192) (p : ℕ → EReal) :
    laneStep (F := Ideal) (p u) (BitVec.ofNat 32 u) (p t, BitVec.ofNat 32 t)
      = (p (if p t < p u ∨ (p u = p t ∧ u < t) then u else t), BitVec.ofNat 32 (if p t < p u ∨ (p u = p t ∧ u < t) then u else t)) := by
  have hc : Scalar.ori (Ideal.cmp .ogt (p u) (p t)) (Scalar.andi (Ideal.cmp .oeq (p u) (p t)) (Scalar.cmpi .slt (BitVec.ofNat 32 u) (BitVec.ofNat 32 t)))
      = BitVec.ofBool (decide (p t < p u ∨ (p u = p t ∧ u < t))) := by
    have h1 : Scalar.cmpi .slt (BitVec.ofNat 32 u) (BitVec.ofNat 32 t) = BitVec.ofBool (decide (u < t)) :=
      WordCmp.cmpi_slt_ofNat (w := 32) (by omega) (by omega)
    rw [h1]
    unfold Ideal.cmp
    dsimp only
    refine (congrArg (IntOp.ori _) (WordCmp.andi_ofBool _ _)).trans ((WordCmp.ori_ofBool _ _).trans (congrArg BitVec.ofBool ?_))
    rw [Bool.decide_or, Bool.decide_and]
  have hs : ∀ {α : Type} (a b : α), Scalar.select (Scalar.ori (Ideal.cmp .ogt (p u) (p t)) (Scalar.andi (Ideal.cmp .oeq (p u) (p t)) (Scalar.cmpi .slt (BitVec.ofNat 32 u) (BitVec.ofNat 32 t)))) a b
      = if p t < p u ∨ (p u = p t ∧ u < t) then a else b := fun a b => by
    rw [hc]; exact WordCmp.select_decide _ _ _
  unfold laneStep
  refine (congrArg₂ Prod.mk (hs _ _) (hs _ _)).trans ?_
  split <;> rfl

theorem laneFold_best (n : ℕ) (hn : n < 16) : ∃ t, FirstMax (fun j => j < 8192 ∧ j % 16 ≤ n) (score fw) t
    ∧ laneFold (F := Ideal) (fun x => (maxLane (F := Ideal) fw x 512).1) (fun x => (maxLane (F := Ideal) fw x 512).2) n = (score fw t, BitVec.ofNat 32 t) := by
  have hlane : ∀ n, n < 16 → ∃ t, FirstMax (fun j => j < 8192 ∧ j % 16 = n) (score fw) t
      ∧ (pick (fun x => (maxLane (F := Ideal) fw x 512).1) n, pick (fun x => (maxLane (F := Ideal) fw x 512).2) n) = (score fw t, BitVec.ofNat 32 t) := by
    intro n hn
    obtain ⟨t, ht, e⟩ := maxLane_best fw (lane n) 511
    refine ⟨t, ht.congr fun j => ?_, e⟩
    have hl : ((lane n) 0).val = n := Nat.mod_eq_of_lt hn
    rw [hl]
    constructor
    · rintro ⟨k, hk, h⟩; omega
    · rintro ⟨h1, h2⟩; exact ⟨j / 16, by omega, by omega⟩
  induction n with
  | zero =>
    obtain ⟨t, ht, e⟩ := hlane 0 (by omega)
    exact ⟨t, ht.congr fun j => by simp, e⟩
  | succ n ih =>
    obtain ⟨t, ht, e⟩ := ih (by omega)
    obtain ⟨u, hu, e'⟩ := hlane (n + 1) hn
    refine ⟨_, (ht.union hu).congr fun j => by omega, ?_⟩
    show laneStep (F := Ideal) (pick (fun x => (maxLane (F := Ideal) fw x 512).1) (n + 1)) (pick (fun x => (maxLane (F := Ideal) fw x 512).2) (n + 1))
      (laneFold (F := Ideal) _ _ n) = _
    rw [e, (Prod.mk.inj e').1, (Prod.mk.inj e').2]
    exact laneStep_eq u t hu.1.1 ht.1.1 (score fw)

/-- The kernel's best column is the first one whose score is greatest. -/
theorem bestCol_best : ∃ t, FirstMax (fun j => j < 8192) (score fw) t ∧ bestCol (F := Ideal) fw = BitVec.ofNat 32 t := by
  obtain ⟨t, ht, e⟩ := laneFold_best fw 15 (by omega)
  exact ⟨t, ht.congr fun j => by omega, (Prod.ext_iff.1 e).2⟩

end Cert.Proof.Run

end
-- ==== Proof.Sums.lean ====
/-
  A row's group of sparks as sums over the sparks that lie on the row, over the extended reals.
-/
module

public import proofs.«01_k».proof.Proof.Launch
public import proofs.«01_k».proof.Proof.Column

@[expose] public section

noncomputable section

namespace Cert.Proof.Run

open Cert.KernelIdeal Cert.KernelIdeal.Gen

open Idealize.ShloMosaic Idealize.ShloMosaic.Routing Idealize.ShloMosaic.ValueIdx

/-! ## The running sums, in numbers -/

abbrev reach : EReal := Ideal.ofBits .f32 0x3E99999A#32

theorem select_below (a b : EReal) {α : Type} (x y : α) : Scalar.select (Ideal.cmp .olt a b) x y = if a < b then x else y := by
  unfold Ideal.cmp
  exact WordCmp.select_decide _ _ _

theorem addElt_eq (le b a : EReal) : addElt (F := Ideal) le b a = a + if b < reach then le else 0 := by
  show a + Scalar.select (Ideal.cmp .olt b reach) le (Ideal.ofBits .f32 0x00000000#32) = _
  rw [select_below, Ideal.ofBits_zero_f32]

theorem anyElt_eq (b n : EReal) : anyElt (F := Ideal) b n = max n (if b < reach then 1 else 0) := by
  show max n (Scalar.select (Ideal.cmp .olt b reach) (Ideal.ofBits .f32 0x3F800000#32) (Ideal.ofBits .f32 0x00000000#32)) = _
  rw [select_below, Ideal.ofBits_zero_f32, Ideal.ofBits_one_f32]

section Steps
variable (fe : S1040.Idx → EReal) (fbr : S1024x8192.Idx → EReal) (fq : S1040.Idx → BitVec 32) (s : ℕ) (y : S8192.Idx)

theorem sumLe_eq (n : ℕ) : sumLe (F := Ideal) fe s n = ∑ k ∈ Finset.range n, memLe (F := Ideal) fe s k := by
  induction n with
  | zero => exact Ideal.ofBits_zero_f32
  | succ n ih =>
    rw [Finset.sum_range_succ, ← ih]
    rfl

theorem accRow_eq (n : ℕ) : accRow (F := Ideal) fe fbr fq s n y
    = ∑ k ∈ Finset.range n, if memBr (F := Ideal) fbr fq s k y < reach then memLe (F := Ideal) fe s k else 0 := by
  induction n with
  | zero => exact Ideal.ofBits_zero_f32
  | succ n ih =>
    rw [Finset.sum_range_succ, ← ih]
    exact addElt_eq _ _ _

theorem anyRow_pos (n : ℕ) : (0 : EReal) < anyRow (F := Ideal) fbr fq s n y ↔ ∃ k, k < n ∧ memBr (F := Ideal) fbr fq s k y < reach := by
  induction n with
  | zero =>
    rw [show anyRow (F := Ideal) fbr fq s 0 y = 0 from Ideal.ofBits_zero_f32]
    exact ⟨fun h => absurd h (lt_irrefl _), fun ⟨k, h, _⟩ => absurd h (Nat.not_lt_zero _)⟩
  | succ n ih =>
    rw [show anyRow (F := Ideal) fbr fq s (n + 1) y = max (anyRow (F := Ideal) fbr fq s n y) (if memBr (F := Ideal) fbr fq s n y < reach then 1 else 0)
      from anyElt_eq _ _, lt_max_iff, ih]
    constructor
    · rintro (⟨k, h, hk⟩ | h)
      · exact ⟨k, by omega, hk⟩
      · refine ⟨n, by omega, ?_⟩
        by_contra h'
        rw [if_neg h'] at h
        exact lt_irrefl _ h
    · rintro ⟨k, h, hk⟩
      rcases Nat.lt_succ_iff_lt_or_eq.1 h with h | rfl
      · exact Or.inl ⟨k, h, hk⟩
      · rw [if_pos hk]
        exact Or.inr zero_lt_one

end Steps

/-! ## The sums over the sparks -/

/-- A sum along an interval of the sorted line is a sum over the sparks that stand there. -/
theorem interval_sum {N : ℕ} (π : Fin N → Fin N) (hπ : Function.Bijective π) (s c : ℕ) (hsc : s + c ≤ N) (P : Fin N → Prop) [DecidablePred P]
    (hP : ∀ j : Fin N, P (π j) ↔ s ≤ j.val ∧ j.val < s + c) (g : ℕ → EReal) (h : Fin N → EReal)
    (hg : ∀ k (hk : k < c), g k = h (π ⟨s + k, by omega⟩)) : ∑ k ∈ Finset.range c, g k = ∑ q ∈ Finset.univ.filter P, h q := by
  refine Finset.sum_bij (fun k hk => π ⟨s + k, by have := Finset.mem_range.1 hk; omega⟩) ?_ ?_ ?_ ?_
  · intro k hk
    have := Finset.mem_range.1 hk
    exact Finset.mem_filter.2 ⟨Finset.mem_univ _, (hP _).2 ⟨Nat.le_add_right _ _, by show s + k < s + c; omega⟩⟩
  · intro k _ k' _ e
    have := Fin.mk.inj_iff.1 (hπ.1 e)
    omega
  · intro q hq
    obtain ⟨j, rfl⟩ := hπ.2 q
    obtain ⟨h1, h2⟩ := (hP j).1 (Finset.mem_filter.1 hq).2
    exact ⟨j.val - s, Finset.mem_range.2 (by omega), congrArg π (Fin.ext (by show s + (j.val - s) = j.val; omega))⟩
  · exact fun k hk => hg k (Finset.mem_range.1 hk)

section Group
variable (X : Tab Ideal) (le : Fin 1024 → EReal) (br : Fin 1024 → Fin 8192 → EReal) (π : Fin 1024 → Fin 1024) (hπ : Function.Bijective π)
  (s c : ℕ) (hsc : s + c ≤ 1024) (hle : ∀ j : Fin 1024, X.sl (at1040 j.val) = le (π j))
  (hbr : ∀ (j : Fin 1024) (y : S8192.Idx), X.fbr (drawAt (X.sp (at1040 j.val)).toNat y) = br (π j) (y 0))
  (P : Fin 1024 → Prop) [DecidablePred P] (hP : ∀ j : Fin 1024, P (π j) ↔ s ≤ j.val ∧ j.val < s + c) (y : S8192.Idx)

include hπ hsc hle hP in
theorem sumLe_group : sumLe (F := Ideal) X.sl s c = ∑ q ∈ Finset.univ.filter P, le q :=
  (sumLe_eq _ _ _).trans (interval_sum π hπ s c hsc P hP _ le fun k hk => hle ⟨s + k, by omega⟩)

include hπ hsc hle hbr hP in
theorem accRow_group : accRow (F := Ideal) X.sl X.fbr X.sp s c y = ∑ q ∈ Finset.univ.filter P, if br q (y 0) < reach then le q else 0 :=
  (accRow_eq _ _ _ _ _ _).trans (interval_sum π hπ s c hsc P hP _ (fun q => if br q (y 0) < reach then le q else 0) fun k hk => by
    have h1 : memBr (F := Ideal) X.fbr X.sp s k y = br (π ⟨s + k, by omega⟩) (y 0) := hbr ⟨s + k, by omega⟩ y
    have h2 : memLe (F := Ideal) X.sl s k = le (π ⟨s + k, by omega⟩) := hle ⟨s + k, by omega⟩
    rw [h1, h2])

include hπ hsc hbr hP in
theorem anyRow_group : (0 : EReal) < anyRow (F := Ideal) X.fbr X.sp s c y ↔ ∃ q, P q ∧ br q (y 0) < reach := by
  have h1 : ∀ k (hk : k < c), memBr (F := Ideal) X.fbr X.sp s k y = br (π ⟨s + k, by omega⟩) (y 0) := fun k hk => hbr ⟨s + k, by omega⟩ y
  rw [anyRow_pos]
  constructor
  · rintro ⟨k, hk, h⟩
    rw [h1 k hk] at h
    exact ⟨_, (hP _).2 ⟨Nat.le_add_right _ _, by show s + k < s + c; omega⟩, h⟩
  · rintro ⟨q, hq, h⟩
    obtain ⟨j, rfl⟩ := hπ.2 q
    obtain ⟨a, b⟩ := (hP j).1 hq
    have hk : j.val - s < c := by omega
    refine ⟨j.val - s, hk, ?_⟩
    rw [h1 _ hk]
    rwa [show (⟨s + (j.val - s), by omega⟩ : Fin 1024) = j from Fin.ext (by show s + (j.val - s) = j.val; omega)]

end Group

/-! ## The finished entry -/

open Classical in
theorem finElt_eq (le w a n : EReal) (B : Prop) [Decidable B] : finElt (F := Ideal) le w a n (BitVec.ofBool (decide B))
    = min (max ((w + ((if Ideal.ofBits .f32 0x3F19999A#32 < pElt (F := Ideal) w then a else 0) + (if B then le else 0)))
        * (if (Ideal.ofBits .f32 0x3F19999A#32 < pElt (F := Ideal) w ∧ 0 < n) ∨ B then Ideal.ofBits .f32 0x3F7FFEB0#32 else Ideal.ofBits .f32 0x3F7FBE77#32))
        (Ideal.ofBits .f32 0xC0000000#32)) (Ideal.ofBits .f32 0x40000000#32) := by
  show min (max ((w + (Scalar.select (Ideal.cmp .ogt (pElt (F := Ideal) w) (Ideal.ofBits .f32 0x3F19999A#32)) a (Ideal.ofBits .f32 0x00000000#32)
      + Scalar.select (BitVec.ofBool (decide B)) le (Ideal.ofBits .f32 0x00000000#32)))
      * Scalar.select (IntOp.ori (IntOp.andi (Ideal.cmp .ogt (pElt (F := Ideal) w) (Ideal.ofBits .f32 0x3F19999A#32))
          (Ideal.cmp .ogt n (Ideal.ofBits .f32 0x00000000#32))) (BitVec.ofBool (decide B)))
        (Ideal.ofBits .f32 0x3F7FFEB0#32) (Ideal.ofBits .f32 0x3F7FBE77#32)) (Ideal.ofBits .f32 0xC0000000#32)) (Ideal.ofBits .f32 0x40000000#32) = _
  rw [select_lt, WordCmp.select_decide, Ideal.ofBits_zero_f32]
  have h : ∀ a b : EReal, Ideal.cmp .ogt a b = BitVec.ofBool (decide (b < a)) := fun a b => by
    unfold Ideal.cmp
    congr
  rw [h, h, WordCmp.andi_ofBool, WordCmp.ori_ofBool, ← Bool.decide_and, ← Bool.decide_or, WordCmp.select_decide]

end Cert.Proof.Run

end
-- ==== Proof.Stages.lean ====
/-
  What the reference computes, as functions of its arguments.
-/
module

public import proofs.«01_k».proof.Proof.Gen.ReferenceIdeal
public import proofs.«01_k».proof.ReferenceIdeal

@[expose] public section

noncomputable section

namespace Cert.Proof.Ref

open Cert.ReferenceIdeal Cert.ReferenceIdeal.Gen

open Idealize.ShloMosaic Idealize.ShloMosaic.StableHlo Idealize.SL.Sem

variable {F : FTy → Type} [FloatOps F]

/-! ## The stages -/

/-- The second of each pair. -/
def second {ι α β : Type} (f : ι → α × β) : ι → β := fun j => (f j).2

theorem second_at {ι α β : Type} (f : ι → α × β) (j : ι) : second f j = (f j).2 := rfl

theorem second_four {A B C D ι α β : Type} (g : A → B → C → D → ι → α × β) :
    (fun x y u v j => (g x y u v j).2) = fun x y u v => second (g x y u v) := rfl

abbrev splat (n : BitVec 32) : IVec S1024 32 := broadcastInDim S1024 ![] bcast_S_S1024 (constantI S_ 32 n)

/-- An index column with negative entries moved up by `n`. -/
def column (n : BitVec 32) (x : IVec S1024 32) : IVec S1024x1 32 :=
  broadcastInDim S1024x1 ![0] bcast_S1024_S1024x1_0 (select (cmpi .slt x (splat 0#32)) (addi x (splat n)) x)

/-- The firing rates. -/
def drive (W : FVec F S8192x8192 .f32) (s z : FVec F S8192 .f32) : FVec F S8192 .f32 :=
  addf (Host.dotGeneral dot_S8192x8192_S8192_S8192_1_0_0_n_n_n none W
      (mulf s (broadcastInDim S8192 ![] bcast_S_S8192 (constant S_ .f32 0x3F733333#32))))
    (mulf (broadcastInDim S8192 ![] bcast_S_S8192 (constant S_ .f32 0x3D4CCCCD#32)) z)
def rates (W : FVec F S8192x8192 .f32) (s z : FVec F S8192 .f32) : FVec F S8192 .f32 :=
  Host.divf (broadcastInDim S8192 ![] bcast_S_S8192 (constant S_ .f32 0x3F800000#32))
    (addf (broadcastInDim S8192 ![] bcast_S_S8192 (constant S_ .f32 0x3F800000#32)) (Host.exp (Host.negf (drive W s z))))

/-- One where the position is inside the table. -/
def inside (p : IVec S1024 32) : IVec S1024 1 :=
  Host.reduce IntOp.andi
    (andi (cmpi .sge (column 8192#32 p) (broadcastInDim S1024x1 ![] bcast_S_S1024x1 (constantI S_ 32 0#32)))
      (cmpi .sle (column 8192#32 p) (broadcastInDim S1024x1 ![0, 1] bcast_S1x1_S1024x1_0_1
        (broadcastInDim S1x1 ![1] bcast_S1_S1x1_1 (constantI S1 32 8191#32)))))
    (constantI S_ 1 1#1) reducesTo_S1024x1_S1024_d1 h_S_

/-- The rates at the sparks, one where the spark is young, and the state with them stored. -/
def forcedAt (x : FVec F S8192 .f32) (p a : IVec S1024 32) : FVec F S1024 .f32 :=
  select (cmpi .slt a (splat 5#32)) (broadcastInDim S1024 ![] bcast_S_S1024 (constant S_ .f32 0x3F800000#32))
    (select (inside p) (Host.gather gather_S8192_S1024x1_S1024_n_0_n_n_0_1_1 x (column 8192#32 p))
      (broadcastInDim S1024 ![] bcast_S_S1024 (constant S_ .f32 0x7FC00000#32)))
def state (W : FVec F S8192x8192 .f32) (s z : FVec F S8192 .f32) (p a : IVec S1024 32) : FVec F S8192 .f32 :=
  Host.scatter scatter_S8192_S1024x1_S1024_n_0_0_1 (fun _ b => b) (rates W s z) (column 8192#32 p) (forcedAt (rates W s z) p a)

/-- The sparks' rows, no entry below the small constant. -/
def raised (W : FVec F S8192x8192 .f32) (p : IVec S1024 32) : FVec F S1024x8192 .f32 :=
  addf (maximumf (select (broadcastInDim S1024x8192 ![0] bcast_S1024_S1024x8192_0 (inside p))
      (Host.gather gather_S8192x8192_S1024x1_S1024x8192_1_0_n_n_0_1_18192 W (column 8192#32 p))
      (broadcastInDim S1024x8192 ![] bcast_S_S1024x8192 (constant S_ .f32 0x7FC00000#32)))
    (broadcastInDim S1024x8192 ![] bcast_S_S1024x8192 (constant S_ .f32 0x00000000#32)))
    (broadcastInDim S1024x8192 ![] bcast_S_S1024x8192 (constant S_ .f32 0x358637BD#32))

/-- The rows divided by their sums, and the first column of the greatest share. -/
def shares (x : FVec F S1024x8192 .f32) : FVec F S1024x8192 .f32 :=
  Host.divf x (broadcastInDim S1024x8192 ![0, 1] bcast_S1024x1_S1024x8192_0_1 (broadcastInDim S1024x1 ![0] bcast_S1024_S1024x1_0
    (Host.reduceAdd x (constant S_ .f32 0x00000000#32) reducesTo_S1024x8192_S1024_d1 h_S_)))
def first (x : FVec F S1024x8192 .f32) : IVec S1024 32 :=
  second (Host.argReduce reducer_argmax_f32_i32 x (iotaInDim S1024x8192 32 1) (constant S_ .f32 0xFF800000#32) (constantI S_ 32 0#32)
    reducesTo_S1024x8192_S1024_d1 h_S_)

/-- One where the entry is strong and the draw small. -/
def strong (x n : FVec F S1024x8192 .f32) : IVec S1024x8192 1 :=
  andi (cmpf .ogt x (broadcastInDim S1024x8192 ![] bcast_S_S1024x8192 (constant S_ .f32 0x3F19999A#32)))
    (cmpf .olt n (broadcastInDim S1024x8192 ![] bcast_S_S1024x8192 (constant S_ .f32 0x3E99999A#32)))

/-- What each spark learns. -/
def learn (e : FVec F S1024 .f32) : FVec F S1024 .f32 :=
  mulf (broadcastInDim S1024 ![] bcast_S_S1024 (constant S_ .f32 0x3CA3D70A#32)) e

/-- Two columns side by side. -/
def beside (a b : IVec S1024x1 32) : IVec S1024x2 32 :=
  concatenate S1024x2 1 [⟨S1024x1, a⟩, ⟨S1024x1, b⟩] concatenates_S1024x1_S1024x1_S1024x2_d1

/-- The sparks' numbers beside their best columns. -/
def spots (b : IVec S1024 32) : IVec S1024x2 32 := beside (column 1024#32 (iotaInDim S1024 32 0)) (column 8192#32 b)

def added (st : IVec S1024x8192 1) (b : IVec S1024 32) (e : FVec F S1024 .f32) : FVec F S1024x8192 .f32 :=
  Host.scatterAdd scatter_S1024x8192_S1024x2_S1024_n_01_01_1
    (mulf (uitofp .f32 st) (broadcastInDim S1024x8192 ![0, 1] bcast_S1024x1_S1024x8192_0_1
      (broadcastInDim S1024x1 ![0] bcast_S1024_S1024x1_0 (learn e)))) (spots b) (learn e)

def seen (st : IVec S1024x8192 1) (b : IVec S1024 32) : IVec S1024x8192 1 :=
  Host.scatter scatter_S1024x8192_S1024x2_S1024_n_01_01_1 (fun _ b => b) st (spots b)
    (broadcastInDim S1024 ![] bcast_S_S1024 (constantI S_ 1 1#1))

def touched (p : IVec S1024 32) (x : IVec S1024x8192 1) : IVec S8192x8192 1 :=
  Host.scatter scatter_S8192x8192_S1024x1_S1024x8192_1_0_0_1 IntOp.maxui
    (broadcastInDim S8192x8192 ![] bcast_S_S8192x8192 (constantI S_ 1 0#1)) (column 8192#32 p) x

/-- The new table, from the strong entries and the best columns. -/
def table (W : FVec F S8192x8192 .f32) (p : IVec S1024 32) (e : FVec F S1024 .f32) (st : IVec S1024x8192 1) (b : IVec S1024 32) :
    FVec F S8192x8192 .f32 :=
  minimumf (broadcastInDim S8192x8192 ![] bcast_S_S8192x8192 (constant S_ .f32 0x40000000#32))
    (maximumf (broadcastInDim S8192x8192 ![] bcast_S_S8192x8192 (constant S_ .f32 0xC0000000#32))
      (mulf (Host.scatterAdd scatter_S8192x8192_S1024x1_S1024x8192_1_0_0_1 W (column 8192#32 p) (added st b e))
        (select (touched p (seen st b)) (broadcastInDim S8192x8192 ![] bcast_S_S8192x8192 (constant S_ .f32 0x3F7FFEB0#32))
          (broadcastInDim S8192x8192 ![] bcast_S_S8192x8192 (constant S_ .f32 0x3F7FBE77#32)))))

def weights (W : FVec F S8192x8192 .f32) (p : IVec S1024 32) (e : FVec F S1024 .f32) (n : FVec F S1024x8192 .f32) : FVec F S8192x8192 .f32 :=
  table W p e (strong (raised W p) n) (first (shares (raised W p)))

def energy (e : FVec F S1024 .f32) : FVec F S1024 .f32 :=
  mulf e (broadcastInDim S1024 ![] bcast_S_S1024 (constant S_ .f32 0x3F7AE148#32))

end Cert.Proof.Ref

end
-- ==== Proof.Landing.lean ====
/-
  Where the reference's scatters put their updates, and what they leave at an entry.
-/
module

public import proofs.«01_k».proof.Proof.Stages
public import Idealize.ShloMosaic.Lib.Routing.OpsSet

@[expose] public section

noncomputable section

namespace Cert.Proof.Ref

open Cert.ReferenceIdeal Cert.ReferenceIdeal.Gen

open Idealize.ShloMosaic Idealize.ShloMosaic.StableHlo Idealize.ShloMosaic.Routing Idealize.ShloMosaic.ValueIdx

/-! ## Where an update lands -/

theorem rows_lands (idx : IVec S1024x1 32) (q : Fin 1024) (y r c : Fin 8192) :
    scatter_S8192x8192_S1024x1_S1024x8192_1_0_0_1.resultIdx? (ix2 q y) idx = some (ix2 r c)
      ↔ (idx (ix2 q 0)).toInt = (r.val : Int) ∧ y = c := by
  refine (resultIdx?_ix2 _ _ _ _ _).trans ?_
  have h0 : scatter_S8192x8192_S1024x1_S1024x8192_1_0_0_1.start (ix2 q y) idx 0 = (idx (ix2 q 0)).toInt := by
    show (idx _).toInt = _
    congr 2
    funext a
    match a with
    | 0 => rfl
    | 1 => rfl
  have h1 : scatter_S8192x8192_S1024x1_S1024x8192_1_0_0_1.start (ix2 q y) idx 1 = 0 := rfl
  have w0 : scatter_S8192x8192_S1024x1_S1024x8192_1_0_0_1.window (ix2 q y) 0 = 0 := rfl
  have w1 : scatter_S8192x8192_S1024x1_S1024x8192_1_0_0_1.window (ix2 q y) 1 = y.val := rfl
  rw [h0, h1, w0, w1]
  omega

theorem spots_lands (idx : IVec S1024x2 32) (q r : Fin 1024) (c : Fin 8192) :
    scatter_S1024x8192_S1024x2_S1024_n_01_01_1.resultIdx? (ix1 q) idx = some (ix2 r c)
      ↔ (idx (ix2 q 0)).toInt = (r.val : Int) ∧ (idx (ix2 q 1)).toInt = (c.val : Int) := by
  refine (resultIdx?_ix2 _ _ _ _ _).trans ?_
  have h0 : scatter_S1024x8192_S1024x2_S1024_n_01_01_1.start (ix1 q) idx 0 = (idx (ix2 q 0)).toInt := by
    show (idx _).toInt = _
    congr 2
    funext a
    match a with
    | 0 => rfl
    | 1 => rfl
  have h1 : scatter_S1024x8192_S1024x2_S1024_n_01_01_1.start (ix1 q) idx 1 = (idx (ix2 q 1)).toInt := by
    show (idx _).toInt = _
    congr 2
    funext a
    match a with
    | 0 => rfl
    | 1 => rfl
  have w0 : scatter_S1024x8192_S1024x2_S1024_n_01_01_1.window (ix1 q) 0 = 0 := rfl
  have w1 : scatter_S1024x8192_S1024x2_S1024_n_01_01_1.window (ix1 q) 1 = 0 := rfl
  rw [h0, h1, w0, w1]
  omega

theorem state_lands (idx : IVec S1024x1 32) (q : Fin 1024) (r : Fin 8192) :
    scatter_S8192_S1024x1_S1024_n_0_0_1.resultIdx? (ix1 q) idx = some (ix1 r) ↔ (idx (ix2 q 0)).toInt = (r.val : Int) := by
  refine (resultIdx?_ix1 _ _ _ _).trans ?_
  have h0 : scatter_S8192_S1024x1_S1024_n_0_0_1.start (ix1 q) idx 0 = (idx (ix2 q 0)).toInt := by
    show (idx _).toInt = _
    congr 2
    funext a
    match a with
    | 0 => rfl
    | 1 => rfl
  have w0 : scatter_S8192_S1024x1_S1024_n_0_0_1.window (ix1 q) 0 = 0 := rfl
  rw [h0, w0]
  simp

/-! ## What is left at an entry -/

variable {s si u : Shape} (d : ScatterDims s si u) (idx : IVec si 32)

/-- Bits raised to the greatest: set exactly where some update landing there is set. -/
theorem maxui_at (upd : IVec u 1) (x : s.Idx) :
    Host.scatter d IntOp.maxui (fun _ => 0#1) idx upd x = 1#1 ↔ ∃ k, d.resultIdx? k idx = some x ∧ upd k = 1#1 := by
  rw [scatter_at]
  have key : ∀ (l : List (Fin u.numel)) (a : BitVec 1),
      l.foldl (fun a n => if d.resultIdx? (u.rowMajor.symm n) idx = some x then IntOp.maxui a (upd (u.rowMajor.symm n)) else a) a = 1#1
        ↔ a = 1#1 ∨ ∃ n ∈ l, d.resultIdx? (u.rowMajor.symm n) idx = some x ∧ upd (u.rowMajor.symm n) = 1#1 := by
    intro l
    induction l with
    | nil => intro a; simp
    | cons n l ih =>
      intro a
      rw [List.foldl_cons, ih]
      have hm : ∀ a b : BitVec 1, IntOp.maxui a b = 1#1 ↔ a = 1#1 ∨ b = 1#1 := by decide
      by_cases h : d.resultIdx? (u.rowMajor.symm n) idx = some x
      · rw [if_pos h, hm]
        simp [h, or_assoc]
      · rw [if_neg h]
        simp [h]
  rw [key]
  constructor
  · rintro (h | ⟨n, -, h⟩)
    · exact absurd h (by decide)
    · exact ⟨_, h⟩
  · rintro ⟨k, h⟩
    exact Or.inr ⟨u.rowMajor k, List.mem_finRange _, by rw [Equiv.symm_apply_apply]; exact h⟩

/-- Ones stored into bits: set where the bit was set or an update lands. -/
theorem ones_at (x0 : IVec s 1) (upd : IVec u 1) (hu : ∀ k, upd k = 1#1) (x : s.Idx) :
    Host.scatter d (fun _ b => b) x0 idx upd x = 1#1 ↔ x0 x = 1#1 ∨ ∃ k, d.resultIdx? k idx = some x := by
  by_cases h : ∃ k, d.resultIdx? k idx = some x
  · obtain ⟨k, hk⟩ := h
    rw [scatter_set_hit d x0 idx upd x 1#1 (fun k _ => hu k) k hk]
    simp only [true_iff]
    exact Or.inr ⟨k, hk⟩
  · rw [scatter_set_miss d x0 idx upd x fun k hk => h ⟨k, hk⟩]
    simp [h]

end Cert.Proof.Ref

end
-- ==== Proof.RefBest.lean ====
/-
  The reference's best column of a spark: the first one at which its raised row is greatest.
-/
module

public import proofs.«01_k».proof.Proof.Stages
public import proofs.«01_k».proof.Proof.Column
public import Idealize.ShloMosaic.Lib.Routing.OpsSet

@[expose] public section

noncomputable section

namespace Cert.Proof.Ref

open Cert.ReferenceIdeal Cert.ReferenceIdeal.Gen

open Idealize.ShloMosaic Idealize.ShloMosaic.StableHlo Idealize.ShloMosaic.Routing Idealize.ShloMosaic.ValueIdx

open Cert.Proof.Run (FirstMax)

/-! ## One step of the search -/

theorem reducer_eq (u t : ℕ) (hu : u < 8192) (ht : t < 8192) (p : ℕ → EReal) :
    reducer_argmax_f32_i32 (F := Ideal) (p u, BitVec.ofNat 32 u) (p t, BitVec.ofNat 32 t)
      = (p (if p t < p u ∨ (p u = p t ∧ u < t) then u else t), BitVec.ofNat 32 (if p t < p u ∨ (p u = p t ∧ u < t) then u else t)) := by
  have h1 : IntOp.cmpi .slt (BitVec.ofNat 32 u) (BitVec.ofNat 32 t) = BitVec.ofBool (decide (u < t)) :=
    WordCmp.cmpi_slt_ofNat (w := 32) (by omega) (by omega)
  have h4 : IntOp.ori (Ideal.cmp .ogt (p u) (p t)) (Ideal.cmp .une (p u) (p u)) = BitVec.ofBool (decide (p t < p u)) := by
    unfold Ideal.cmp
    dsimp only
    refine (WordCmp.ori_ofBool _ _).trans (congrArg BitVec.ofBool ?_)
    simp
  have h8 : IntOp.ori (BitVec.ofBool (decide (p t < p u))) (IntOp.andi (Ideal.cmp .oeq (p u) (p t)) (BitVec.ofBool (decide (u < t))))
      = BitVec.ofBool (decide (p t < p u ∨ (p u = p t ∧ u < t))) := by
    unfold Ideal.cmp
    dsimp only
    refine (congrArg (IntOp.ori _) (WordCmp.andi_ofBool _ _)).trans ((WordCmp.ori_ofBool _ _).trans (congrArg BitVec.ofBool ?_))
    rw [Bool.decide_or, Bool.decide_and]
  have e : reducer_argmax_f32_i32 (F := Ideal) (p u, BitVec.ofNat 32 u) (p t, BitVec.ofNat 32 t)
      = (Scalar.select (IntOp.ori (Ideal.cmp .ogt (p u) (p t)) (Ideal.cmp .une (p u) (p u))) (p u) (p t),
        Scalar.select (IntOp.ori (IntOp.ori (Ideal.cmp .ogt (p u) (p t)) (Ideal.cmp .une (p u) (p u)))
          (IntOp.andi (Ideal.cmp .oeq (p u) (p t)) (IntOp.cmpi .slt (BitVec.ofNat 32 u) (BitVec.ofNat 32 t)))) (BitVec.ofNat 32 u) (BitVec.ofNat 32 t)) := rfl
  rw [e, h4, h1, h8, WordCmp.select_decide, WordCmp.select_decide]
  by_cases h : p t < p u
  · rw [if_pos h, if_pos (Or.inl h), if_pos (Or.inl h)]
  · rw [if_neg h]
    by_cases h' : p u = p t ∧ u < t
    · rw [if_pos (Or.inr h'), if_pos (Or.inr h'), h'.1]
    · rw [if_neg (by tauto), if_neg (by tauto)]

theorem reducer_bot (t : ℕ) (p : ℕ → EReal) (hp : ⊥ < p t) :
    reducer_argmax_f32_i32 (F := Ideal) (⊥, 0#32) (p t, BitVec.ofNat 32 t) = (p t, BitVec.ofNat 32 t) := by
  have h4 : IntOp.ori (Ideal.cmp .ogt ⊥ (p t)) (Ideal.cmp .une (⊥ : EReal) ⊥) = BitVec.ofBool (decide False) := by
    unfold Ideal.cmp
    dsimp only
    refine (WordCmp.ori_ofBool _ _).trans (congrArg BitVec.ofBool ?_)
    simp
  have h5 : Ideal.cmp .oeq ⊥ (p t) = BitVec.ofBool (decide False) := by
    unfold Ideal.cmp
    dsimp only
    exact congrArg BitVec.ofBool (decide_eq_decide.2 ⟨fun h => hp.ne h, False.elim⟩)
  have e : reducer_argmax_f32_i32 (F := Ideal) (⊥, 0#32) (p t, BitVec.ofNat 32 t)
      = (Scalar.select (IntOp.ori (Ideal.cmp .ogt ⊥ (p t)) (Ideal.cmp .une (⊥ : EReal) ⊥)) ⊥ (p t),
        Scalar.select (IntOp.ori (IntOp.ori (Ideal.cmp .ogt ⊥ (p t)) (Ideal.cmp .une (⊥ : EReal) ⊥))
          (IntOp.andi (Ideal.cmp .oeq ⊥ (p t)) (IntOp.cmpi .slt 0#32 (BitVec.ofNat 32 t)))) 0#32 (BitVec.ofNat 32 t)) := rfl
  have ha : ∀ b : BitVec 1, IntOp.ori (BitVec.ofBool (decide False)) (IntOp.andi (BitVec.ofBool (decide False)) b) = BitVec.ofBool (decide False) := by decide
  rw [e, h4, h5, ha, WordCmp.select_decide, WordCmp.select_decide, if_neg not_false, if_neg not_false]

/-! ## The whole search -/

theorem search_from (p : ℕ → EReal) : ∀ (l : List ℕ), (∀ t ∈ l, t < 8192) → ∀ (A : ℕ → Prop) (u : ℕ), u < 8192 → FirstMax A p u →
    ∃ t, FirstMax (fun j => A j ∨ j ∈ l) p t
      ∧ (l.map fun t => ((p t, BitVec.ofNat 32 t) : Ideal .f32 × BitVec 32)).foldl (reducer_argmax_f32_i32 (F := Ideal)) (p u, BitVec.ofNat 32 u)
        = (p t, BitVec.ofNat 32 t) := by
  intro l
  induction l with
  | nil => exact fun _ A u _ h => ⟨u, h.congr fun j => by simp, rfl⟩
  | cons t l ih =>
    intro hl A u hu h
    have ht : t < 8192 := hl t (by simp)
    have h' := (show FirstMax (fun j => j = t) p t from ⟨rfl, fun j hj => hj ▸ ⟨le_refl _, fun q => absurd q (lt_irrefl _)⟩⟩).union h
    obtain ⟨v, hv, e⟩ := ih (fun t' h => hl t' (by simp [h])) _ _ (by split <;> assumption) h'
    refine ⟨v, hv.congr fun j => by simp only [List.mem_cons]; tauto, ?_⟩
    rw [List.map_cons, List.foldl_cons, reducer_eq u t hu ht p]
    exact e

theorem search (p : ℕ → EReal) (hp : ∀ t, ⊥ < p t) (l : List ℕ) (hl : ∀ t ∈ l, t < 8192) (h0 : l ≠ []) :
    ∃ t, FirstMax (· ∈ l) p t
      ∧ (l.map fun t => ((p t, BitVec.ofNat 32 t) : Ideal .f32 × BitVec 32)).foldl (reducer_argmax_f32_i32 (F := Ideal)) (⊥, 0#32)
        = (p t, BitVec.ofNat 32 t) := by
  match l, h0 with
  | t :: l, _ =>
    obtain ⟨v, hv, e⟩ := search_from p l (fun t' h => hl t' (by simp [h])) (fun j => j = t) t (hl t (by simp))
      ⟨rfl, fun j hj => hj ▸ ⟨le_refl _, fun q => absurd q (lt_irrefl _)⟩⟩
    refine ⟨v, hv.congr fun j => by simp only [List.mem_cons], ?_⟩
    rw [List.map_cons, List.foldl_cons, reducer_bot t p (hp t)]
    exact e

/-! ## The rows of the sparks -/

theorem drop_row (i : S1024x8192.Idx) : reducesTo_S1024x8192_S1024_d1.drop i = ix1 (i 0) := by
  funext a
  match a with
  | 0 => rfl

theorem row_eq (i : S1024x8192.Idx) (q : Fin 1024) (h : i 0 = q) : i = ix2 q (i 1) := by
  subst h
  funext a
  match a with
  | 0 => rfl
  | 1 => rfl

/-- A place of a row, the column a number. -/
abbrev place (q : Fin 1024) (j : ℕ) : S1024x8192.Idx := ix2 q ⟨j % 8192, Nat.mod_lt _ (by decide)⟩

/-- The search over a part of a list of indices, each standing for a number below 8192. -/
theorem fiber_search {I : Type} {N : ℕ} (g : Fin N → I) (hg : Function.Surjective g) (P : Fin N → Prop) [DecidablePred P] (Q : I → Prop)
    (hPQ : ∀ n, P n ↔ Q (g n)) (p : ℕ → EReal) (hp : ∀ t, ⊥ < p t) (x : I → EReal) (y : I → BitVec 32) (col : I → ℕ)
    (hcol : ∀ i, Q i → col i < 8192 ∧ x i = p (col i) ∧ y i = BitVec.ofNat 32 (col i)) (hs : ∀ j < 8192, ∃ i, Q i ∧ col i = j) :
    ∃ t, FirstMax (fun j => j < 8192) p t
      ∧ (((List.finRange N).filter fun n => P n).map fun n => ((x (g n), y (g n)) : Ideal .f32 × BitVec 32)).foldl
          (reducer_argmax_f32_i32 (F := Ideal)) (⊥, 0#32) = (p t, BitVec.ofNat 32 t) := by
  have hmem : ∀ j, j ∈ (((List.finRange N).filter fun n => P n).map fun n => col (g n)) ↔ j < 8192 := by
    intro j
    constructor
    · intro h
      obtain ⟨n, hn, rfl⟩ := List.mem_map.1 h
      exact (hcol _ ((hPQ n).1 (of_decide_eq_true (List.mem_filter.1 hn).2))).1
    · intro h
      obtain ⟨i, hi, rfl⟩ := hs j h
      obtain ⟨n, rfl⟩ := hg i
      exact List.mem_map.2 ⟨n, List.mem_filter.2 ⟨List.mem_finRange _, decide_eq_true ((hPQ n).2 hi)⟩, rfl⟩
  obtain ⟨t, ht, e⟩ := search p hp _ (fun t h => (hmem t).1 h) (List.ne_nil_of_mem ((hmem 0).2 (by decide)))
  refine ⟨t, ht.congr hmem, ?_⟩
  rw [← e, List.map_map]
  refine congrArg (fun l => List.foldl (reducer_argmax_f32_i32 (F := Ideal)) (⊥, 0#32) l) (List.map_congr_left fun n hn => ?_)
  obtain ⟨-, h1, h2⟩ := hcol _ ((hPQ n).1 (of_decide_eq_true (List.mem_filter.1 hn).2))
  exact congrArg₂ Prod.mk h1 h2

theorem reduce_best {s t u : Shape} {axes : List (Fin s.rank)} (h : s.ReducesTo axes t) (hu : 0 < u.numel) (j : t.Idx) (Q : s.Idx → Prop)
    (hQ : ∀ i, h.drop i = j ↔ Q i) (p : ℕ → EReal) (hp : ∀ t, ⊥ < p t) (x : FVec Ideal s .f32) (y : s.Idx → BitVec 32) (z : FVec Ideal u .f32)
    (w : u.Idx → BitVec 32) (hz : z (Shape.Idx.first hu) = (⊥ : EReal)) (hw : w (Shape.Idx.first hu) = 0#32) (col : s.Idx → ℕ)
    (hcol : ∀ i, Q i → col i < 8192 ∧ x i = p (col i) ∧ y i = BitVec.ofNat 32 (col i)) (hs : ∀ j < 8192, ∃ i, Q i ∧ col i = j) :
    ∃ t, FirstMax (fun j => j < 8192) p t ∧ (Host.argReduce reducer_argmax_f32_i32 x y z w h hu j).2 = BitVec.ofNat 32 t := by
  obtain ⟨v, hv, e⟩ := fiber_search s.rowMajor.symm (Equiv.surjective _) _ Q (fun n => hQ _) p hp x y col hcol hs
  refine ⟨v, hv, ?_⟩
  rw [Ideal.argReduce_eq_reduce2, Host.reduce2_eq_foldl_fiber, hz, hw]
  exact congrArg Prod.snd e

theorem drop_iff (q : Fin 1024) (i : S1024x8192.Idx) : reducesTo_S1024x8192_S1024_d1.drop i = ix1 q ↔ i 0 = q := by
  rw [drop_row]
  exact ⟨fun h => congrFun h 0, fun h => congrArg ix1 h⟩

theorem place_eq (i : S1024x8192.Idx) (q : Fin 1024) (h : i 0 = q) : i = place q (i 1).val :=
  (row_eq i q h).trans (congrArg (ix2 q) (Fin.ext (Nat.mod_eq_of_lt (i 1).isLt).symm))

theorem bot_const : Ideal.ofBits .f32 0xFF800000#32 = ⊥ := by
  simp [Ideal.ofBits, Ideal.ieee]

theorem bot_first : (constant (F := Ideal) S_ .f32 0xFF800000#32) (Shape.Idx.first h_S_) = (⊥ : EReal) := bot_const
theorem zero_first : (constantI S_ 32 0#32) (Shape.Idx.first h_S_) = 0#32 := rfl

theorem reduce_search (x : FVec Ideal S1024x8192 .f32) (hx : ∀ i, (⊥ : EReal) < x i) (q : Fin 1024) :
    ∃ t, FirstMax (fun j => j < 8192) (fun j => x (place q j)) t
      ∧ (Host.argReduce reducer_argmax_f32_i32 x (iotaInDim S1024x8192 32 1) (constant S_ .f32 0xFF800000#32) (constantI S_ 32 0#32)
          reducesTo_S1024x8192_S1024_d1 h_S_ (ix1 q)).2 = BitVec.ofNat 32 t :=
  reduce_best reducesTo_S1024x8192_S1024_d1 h_S_ (ix1 q) (fun i => i 0 = q) (drop_iff q) (fun j => x (place q j)) (fun t => hx _) x
    (iotaInDim S1024x8192 32 1) (constant S_ .f32 0xFF800000#32) (constantI S_ 32 0#32) bot_first zero_first (fun i => (i 1).val)
    (fun i h => ⟨(i 1).isLt, congrArg x (place_eq i q h), rfl⟩) (fun j h => ⟨place q j, rfl, Nat.mod_eq_of_lt h⟩)

theorem first_search (x : FVec Ideal S1024x8192 .f32) (hx : ∀ i, (⊥ : EReal) < x i) (q : Fin 1024) :
    ∃ t, FirstMax (fun j => j < 8192) (fun j => x (place q j)) t ∧ first x (ix1 q) = BitVec.ofNat 32 t := by
  obtain ⟨t, ht, e⟩ := reduce_search x hx q
  refine ⟨t, ht, ?_⟩
  unfold first
  rw [second_at, e]

/-! ## Dividing a row by its sum keeps its order -/

theorem sum_at {s t u : Shape} {axes : List (Fin s.rank)} (h : s.ReducesTo axes t) (hu : 0 < u.numel) (x : FVec Ideal s .f32) (z : FVec Ideal u .f32) (j : t.Idx) :
    Host.reduceAdd x z h hu j = (z (Shape.Idx.first hu) : EReal) + ∑ i ∈ Finset.univ.filter (fun i => h.drop i = j), (x i : EReal) := rfl

theorem zero_const : (constant (F := Ideal) S_ .f32 0x00000000#32 (Shape.Idx.first h_S_) : EReal) = 0 := Ideal.ofBits_zero_f32

theorem div_row (x : FVec Ideal S1024x8192 .f32) (z : FVec Ideal S1024 .f32) (q : Fin 1024) (y : Fin 8192) :
    Host.divf x (broadcastInDim S1024x8192 ![0, 1] bcast_S1024x1_S1024x8192_0_1 (broadcastInDim S1024x1 ![0] bcast_S1024_S1024x1_0 z)) (ix2 q y)
      = Ideal.div (x (ix2 q y)) (z (ix1 q)) := by
  refine congrArg (Ideal.div (x (ix2 q y))) (congrArg z ?_)
  funext a
  match a with
  | 0 => rfl

/-- A sum of reals above zero is one. -/
theorem sum_real {s t u : Shape} {axes : List (Fin s.rank)} (h : s.ReducesTo axes t) (hu : 0 < u.numel) (x : FVec Ideal s .f32) (z : FVec Ideal u .f32)
    (f : s.Idx → ℝ) (hf : ∀ i, 0 < f i) (hx : ∀ i, x i = (f i : EReal)) (hz : (z (Shape.Idx.first hu) : EReal) = 0) (j : t.Idx) (i : s.Idx)
    (hi : h.drop i = j) : ∃ r : ℝ, 0 < r ∧ Host.reduceAdd x z h hu j = (r : EReal) := by
  have hsum : ∀ a : Finset s.Idx, ∑ i ∈ a, (x i : EReal) = ((∑ i ∈ a, f i : ℝ) : EReal) := by
    intro a
    induction a using Finset.cons_induction with
    | empty => simp
    | cons b a ha ih => rw [Finset.sum_cons, Finset.sum_cons, ih, hx, EReal.coe_add]
  refine ⟨∑ i ∈ Finset.univ.filter (fun i => h.drop i = j), f i, Finset.sum_pos (fun i _ => hf i) ⟨i, Finset.mem_filter.2 ⟨Finset.mem_univ _, hi⟩⟩, ?_⟩
  rw [sum_at, hz, zero_add]
  exact hsum _

theorem shares_eq (x : FVec Ideal S1024x8192 .f32) (f : S1024x8192.Idx → ℝ) (hf : ∀ i, 0 < f i) (hx : ∀ i, x i = (f i : EReal)) (q : Fin 1024) :
    ∃ c : ℝ, 0 < c ∧ ∀ y, shares x (ix2 q y) = ((f (ix2 q y) * c : ℝ) : EReal) := by
  obtain ⟨r, hr, hd⟩ := sum_real reducesTo_S1024x8192_S1024_d1 h_S_ x (constant S_ .f32 0x00000000#32) f hf hx zero_const (ix1 q) (ix2 q 0)
    (drop_row _)
  refine ⟨1 / r, by positivity, fun y => ?_⟩
  unfold shares
  exact (div_row x _ q y).trans (by rw [hd, Ideal.div_coe hr.ne', hx, EReal.coe_mul])

/-- The best column of a spark whose row is real and above zero. -/
theorem first_best (x : FVec Ideal S1024x8192 .f32) (f : S1024x8192.Idx → ℝ) (hf : ∀ i, 0 < f i) (hx : ∀ i, x i = (f i : EReal)) (q : Fin 1024) :
    ∃ t, FirstMax (fun j => j < 8192) (fun j => x (place q j)) t ∧ first (shares x) (ix1 q) = BitVec.ofNat 32 t := by
  have hb : ∀ i, (⊥ : EReal) < shares x i := fun i => by
    obtain ⟨c, -, h⟩ := shares_eq x f hf hx (i 0)
    exact lt_of_lt_of_eq (EReal.bot_lt_coe _) ((congrArg (shares x) (row_eq i _ rfl)).trans (h (i 1))).symm
  obtain ⟨t, ht, e⟩ := first_search (shares x) hb q
  refine ⟨t, ⟨ht.1, fun j hj => ?_⟩, e⟩
  obtain ⟨c, hc, h⟩ := shares_eq x f hf hx q
  have := ht.2 j hj
  dsimp only at this ⊢
  rw [h, h, EReal.coe_le_coe_iff, EReal.coe_lt_coe_iff, mul_le_mul_iff_left₀ hc, mul_lt_mul_iff_left₀ hc] at this
  rw [hx, hx, EReal.coe_le_coe_iff, EReal.coe_lt_coe_iff]
  exact this

end Cert.Proof.Ref

end
-- ==== Proof.RefRows.lean ====
/-
  The reference's new table, entry by entry: a sum over the sparks of the entry's row.
-/
module

public import proofs.«01_k».proof.Proof.Landing
public import proofs.«01_k».proof.Proof.RefBest

@[expose] public section

noncomputable section

namespace Cert.Proof.Ref

open Cert.ReferenceIdeal Cert.ReferenceIdeal.Gen

open Idealize.ShloMosaic Idealize.ShloMosaic.StableHlo Idealize.ShloMosaic.Routing Idealize.ShloMosaic.ValueIdx

/-! ## Index columns -/

theorem column_at (n : BitVec 32) (x : IVec S1024 32) (q : Fin 1024) (k : ℕ) (hk : k < 2 ^ 31) (hx : x (ix1 q) = BitVec.ofNat 32 k) :
    column n x (ix2 q (0 : Fin 1)) = BitVec.ofNat 32 k := by
  unfold column
  refine (bcCol _ _ _).trans ?_
  show Scalar.select (IntOp.cmpi .slt (x (ix1 q)) (splat 0#32 (ix1 q))) (IntOp.addi (x (ix1 q)) (splat n (ix1 q))) (x (ix1 q)) = _
  rw [show splat 0#32 (ix1 q) = 0#32 from bc0 _ _ _, wrap_of_lt _ _ (by rw [hx, BitVec.toNat_ofNat]; omega), hx]

theorem beside_left (a b : IVec S1024x1 32) (q : Fin 1024) : beside a b (ix2 q (0 : Fin 2)) = a (ix2 q (0 : Fin 1)) :=
  concatenate_pair_apply_left (s₁ := S1024x1) (s₂ := S1024x1) (t := S1024x2) 1 a b _ (ix2 q (0 : Fin 2)) rfl (ix2 q (0 : Fin 1))
    (fun c => by match c with | 0 => rfl | 1 => rfl)

theorem beside_right (a b : IVec S1024x1 32) (q : Fin 1024) : beside a b (ix2 q (1 : Fin 2)) = b (ix2 q (0 : Fin 1)) :=
  concatenate_pair_apply_right (s₁ := S1024x1) (s₂ := S1024x1) (t := S1024x2) 1 a b _ (ix2 q (1 : Fin 2)) rfl rfl (ix2 q (0 : Fin 1))
    (fun c hc => by match c with | 0 => rfl | 1 => exact absurd rfl hc) rfl

variable (p : IVec S1024 32) (hp : ∀ q : Fin 1024, (p (ix1 q)).toNat < 8192)

/-- The row a spark stands on. -/
abbrev rowOf (q : Fin 1024) : Fin 8192 := ⟨(p (ix1 q)).toNat, hp q⟩

theorem pos_eq (q : Fin 1024) : p (ix1 q) = BitVec.ofNat 32 (p (ix1 q)).toNat := by simp

include hp in
theorem pos_column (q : Fin 1024) : column 8192#32 p (ix2 q (0 : Fin 1)) = BitVec.ofNat 32 (p (ix1 q)).toNat :=
  column_at _ p q _ (by have := hp q; omega) (by simp)

include hp in
theorem pos_int (q : Fin 1024) : (column 8192#32 p (ix2 q (0 : Fin 1))).toInt = ((p (ix1 q)).toNat : ℤ) := by
  rw [pos_column p hp q]
  exact StableHlo.Predicate.toInt_ofNat_small _ (by have := hp q; omega)

/-! ## Every position is inside -/

theorem reduce_one {s t u : Shape} {axes : List (Fin s.rank)} (h : s.ReducesTo axes t) (hu : 0 < u.numel) (x : s.Idx → BitVec 1) (z : u.Idx → BitVec 1)
    (hz : z (Shape.Idx.first hu) = 1#1) (hx : ∀ i, x i = 1#1) (j : t.Idx) : Host.reduce IntOp.andi x z h hu j = 1#1 := by
  rw [Host.reduce_eq_foldl, hz]
  generalize ((List.finRange s.numel).map s.rowMajor.symm).filter (fun i => h.drop i = j) = l
  induction l with
  | nil => rfl
  | cons i l ih =>
    rw [List.foldl_cons, hx, show IntOp.andi 1#1 1#1 = 1#1 from by decide]
    exact ih

include hp in
theorem inside_at (j : S1024.Idx) : inside p j = 1#1 := by
  unfold inside
  refine reduce_one _ _ _ _ rfl (fun i => ?_) j
  have hi : i = ix2 (i 0) (0 : Fin 1) := by
    funext a
    match a with
    | 0 => rfl
    | 1 => exact Subsingleton.elim (α := Fin 1) _ _
  rw [hi]
  show IntOp.andi (IntOp.cmpi .sge (column 8192#32 p (ix2 (i 0) (0 : Fin 1))) 0#32) (IntOp.cmpi .sle (column 8192#32 p (ix2 (i 0) (0 : Fin 1))) 8191#32) = 1#1
  have hq := hp (i 0)
  rw [pos_column p hp (i 0), WordCmp.cmpi_sge_ofNat (w := 32) (b := 0) (by omega) (by omega), WordCmp.cmpi_sle_ofNat (w := 32) (b := 8191) (by omega) (by omega),
    decide_eq_true (Nat.zero_le _), decide_eq_true (by omega)]
  rfl

/-! ## The sparks' rows -/

theorem raised_at (W : FVec Ideal S8192x8192 .f32) (q : Fin 1024) (y : Fin 8192) :
    raised W p (ix2 q y) = Run.pElt (F := Ideal) (W (ix2 (rowOf p hp q) y)) := by
  have hg : Host.gather gather_S8192x8192_S1024x1_S1024x8192_1_0_n_n_0_1_18192 W (column 8192#32 p) (ix2 q y) = W (ix2 (rowOf p hp q) y) :=
    gather_row gather_S8192x8192_S1024x1_S1024x8192_1_0_n_n_0_1_18192 rfl rfl rfl rfl rfl W _ q y (rowOf p hp q) (pos_column p hp q) (by decide)
  have hi : (broadcastInDim S1024x8192 ![0] bcast_S1024_S1024x8192_0 (inside p)) (ix2 q y) = 1#1 := inside_at p hp _
  unfold raised Run.pElt
  show FloatOps.addf (FloatOps.maximumf (Scalar.select ((broadcastInDim S1024x8192 ![0] bcast_S1024_S1024x8192_0 (inside p)) (ix2 q y))
    (Host.gather gather_S8192x8192_S1024x1_S1024x8192_1_0_n_n_0_1_18192 W (column 8192#32 p) (ix2 q y)) _) _) _ = _
  rw [hi, hg]
  rfl

/-! ## The scatters -/

variable (b : IVec S1024 32) (bn : Fin 1024 → ℕ) (hb : ∀ q, b (ix1 q) = BitVec.ofNat 32 (bn q)) (hn : ∀ q, bn q < 8192)

include hb hn in
theorem spots_iff (k r : Fin 1024) (c : Fin 8192) :
    scatter_S1024x8192_S1024x2_S1024_n_01_01_1.resultIdx? (ix1 k) (spots b) = some (ix2 r c) ↔ k = r ∧ bn k = c.val := by
  have h0 : spots b (ix2 k (0 : Fin 2)) = BitVec.ofNat 32 k.val := (beside_left _ _ _).trans (column_at _ _ k k.val (by omega) rfl)
  have h1 : spots b (ix2 k (1 : Fin 2)) = BitVec.ofNat 32 (bn k) := (beside_right _ _ _).trans (column_at _ _ k (bn k) (by have := hn k; omega) (hb k))
  rw [spots_lands, h0, h1, StableHlo.Predicate.toInt_ofNat_small _ (by omega), StableHlo.Predicate.toInt_ofNat_small _ (by have := hn k; omega)]
  rw [Fin.ext_iff]
  omega

include hp in
theorem rows_iff (q : Fin 1024) (y r c : Fin 8192) :
    scatter_S8192x8192_S1024x1_S1024x8192_1_0_0_1.resultIdx? (ix2 q y) (column 8192#32 p) = some (ix2 r c) ↔ rowOf p hp q = r ∧ y = c := by
  rw [rows_lands, pos_int p hp q, Nat.cast_inj]
  exact and_congr_left fun _ => (Fin.ext_iff (a := rowOf p hp q) (b := r)).symm

theorem scatterAdd_at {s si u : Shape} (d : ScatterDims s si u) (x : FVec Ideal s .f32) (idx : IVec si 32) (upd : FVec Ideal u .f32) (i : s.Idx) :
    Host.scatterAdd d x idx upd i = (x i : EReal) + ∑ j ∈ Finset.univ.filter (fun j => d.resultIdx? j idx = some i), (upd j : EReal) := rfl

/-- A sum over the indices that a map from `R` reaches. -/
theorem sum_reached {K Q : Type} [Fintype K] (P : K → Prop) [DecidablePred P] (R : Finset Q) (g : Q → K) (hg : ∀ q q', g q = g q' → q = q')
    (hP : ∀ k, P k ↔ ∃ q ∈ R, g q = k) (u : K → EReal) : ∑ k ∈ Finset.univ.filter P, u k = ∑ q ∈ R, u (g q) := by
  refine (Finset.sum_nbij g ?_ ?_ ?_ ?_).symm
  · exact fun q hq => Finset.mem_filter.2 ⟨Finset.mem_univ _, (hP _).2 ⟨q, hq, rfl⟩⟩
  · exact fun q _ q' _ h => hg q q' h
  · intro k hk
    obtain ⟨q, hq, h⟩ := (hP k).1 (Finset.mem_filter.1 hk).2
    exact ⟨q, hq, h⟩
  · exact fun _ _ => rfl

/-- A sum over one index or none. -/
theorem sum_single {Q : Type} [Fintype Q] [DecidableEq Q] (q : Q) (t : Q → Prop) [DecidablePred t] (u : Q → EReal) :
    ∑ k ∈ Finset.univ.filter (fun k => k = q ∧ t k), u k = if t q then u q else 0 := by
  split
  · next h =>
    rw [show Finset.univ.filter (fun k => k = q ∧ t k) = {q} from by ext k; simp; rintro rfl; exact h, Finset.sum_singleton]
  · next h =>
    rw [show Finset.univ.filter (fun k => k = q ∧ t k) = ∅ from by ext k; simp; rintro rfl; exact h, Finset.sum_empty]

theorem ix1_inj (q q' : Fin 1024) (h : (ix1 q : S1024.Idx) = ix1 q') : q = q' := congrFun h 0
theorem ix2_inj (c : Fin 8192) (q q' : Fin 1024) (h : (ix2 q c : S1024x8192.Idx) = ix2 q' c) : q = q' := congrFun h 0

theorem rows_mem (r c : Fin 8192) (k : S1024x8192.Idx) :
    scatter_S8192x8192_S1024x1_S1024x8192_1_0_0_1.resultIdx? k (column 8192#32 p) = some (ix2 r c)
      ↔ ∃ q ∈ Finset.univ.filter (fun q => rowOf p hp q = r), (ix2 q c : S1024x8192.Idx) = k := by
  obtain ⟨q, y, rfl⟩ : ∃ (q : Fin 1024) (y : Fin 8192), k = ix2 q y := ⟨k 0, k 1, eq_ix2 k⟩
  rw [rows_iff p hp q y r c]
  constructor
  · rintro ⟨h, rfl⟩
    exact ⟨q, Finset.mem_filter.2 ⟨Finset.mem_univ _, h⟩, rfl⟩
  · rintro ⟨q', hq', h⟩
    obtain rfl : q' = q := congrFun h 0
    exact ⟨(Finset.mem_filter.1 hq').2, (congrFun h 1).symm⟩

include hb hn in
theorem spots_mem (q : Fin 1024) (c : Fin 8192) (k : S1024.Idx) :
    scatter_S1024x8192_S1024x2_S1024_n_01_01_1.resultIdx? k (spots b) = some (ix2 q c)
      ↔ ∃ j ∈ Finset.univ.filter (fun j : Fin 1024 => j = q ∧ bn j = c.val), (ix1 j : S1024.Idx) = k := by
  obtain ⟨j, rfl⟩ : ∃ j : Fin 1024, k = ix1 j := ⟨k 0, eq_ix1 k⟩
  rw [spots_iff b bn hb hn j q c]
  constructor
  · intro h
    exact ⟨j, Finset.mem_filter.2 ⟨Finset.mem_univ _, h⟩, rfl⟩
  · rintro ⟨j', hj', h⟩
    obtain rfl : j' = j := congrFun h 0
    exact (Finset.mem_filter.1 hj').2

theorem rows_sum (W : FVec Ideal S8192x8192 .f32) (u : FVec Ideal S1024x8192 .f32) (r c : Fin 8192) :
    Host.scatterAdd scatter_S8192x8192_S1024x1_S1024x8192_1_0_0_1 W (column 8192#32 p) u (ix2 r c)
      = (W (ix2 r c) : EReal) + ∑ q ∈ Finset.univ.filter (fun q => rowOf p hp q = r), (u (ix2 q c) : EReal) := by
  rw [scatterAdd_at]
  exact congrArg _ (sum_reached _ _ _ (ix2_inj c) (rows_mem p hp r c) _)

include hb hn in
theorem spots_sum (x : FVec Ideal S1024x8192 .f32) (u : FVec Ideal S1024 .f32) (q : Fin 1024) (c : Fin 8192) :
    Host.scatterAdd scatter_S1024x8192_S1024x2_S1024_n_01_01_1 x (spots b) u (ix2 q c)
      = (x (ix2 q c) : EReal) + if bn q = c.val then (u (ix1 q) : EReal) else 0 := by
  rw [scatterAdd_at, sum_reached _ _ _ ix1_inj (spots_mem b bn hb hn q c), sum_single q (fun j => bn j = c.val) (fun j => (u (ix1 j) : EReal))]

/-- A bit times an amount. -/
theorem bit_mul (x : BitVec 1) (l : EReal) : ((x.toNat : ℝ) : EReal) * l = if x = 1#1 then l else 0 := by
  rcases (show ∀ x : BitVec 1, x = 0#1 ∨ x = 1#1 by decide) x with rfl | rfl
  · rw [if_neg (by decide)]
    simp
  · rw [if_pos rfl]
    simp

include hb hn in
theorem added_at (st : IVec S1024x8192 1) (e : FVec Ideal S1024 .f32) (q : Fin 1024) (c : Fin 8192) :
    added st b e (ix2 q c) = (if st (ix2 q c) = 1#1 then (learn e (ix1 q) : EReal) else 0) + (if bn q = c.val then (learn e (ix1 q) : EReal) else 0) := by
  have h1 : (broadcastInDim S1024x8192 ![0, 1] bcast_S1024x1_S1024x8192_0_1 (broadcastInDim S1024x1 ![0] bcast_S1024_S1024x1_0 (learn e))) (ix2 q c)
      = learn e (ix1 q) := congrArg (learn e) (by
    funext a
    match a with
    | 0 => rfl)
  have h2 : mulf (uitofp .f32 st) (broadcastInDim S1024x8192 ![0, 1] bcast_S1024x1_S1024x8192_0_1 (broadcastInDim S1024x1 ![0] bcast_S1024_S1024x1_0 (learn e))) (ix2 q c)
      = if st (ix2 q c) = 1#1 then (learn e (ix1 q) : EReal) else 0 := (congrArg (fun z : EReal => (((st (ix2 q c)).toNat : ℝ) : EReal) * z) h1).trans (bit_mul _ _)
  unfold added
  rw [spots_sum b bn hb hn, h2]

include hb hn in
theorem seen_at (st : IVec S1024x8192 1) (q : Fin 1024) (c : Fin 8192) : seen st b (ix2 q c) = 1#1 ↔ st (ix2 q c) = 1#1 ∨ bn q = c.val := by
  unfold seen
  refine (ones_at scatter_S1024x8192_S1024x2_S1024_n_01_01_1 (spots b) st (broadcastInDim S1024 ![] bcast_S_S1024 (constantI S_ 1 1#1))
    (fun _ => rfl) (ix2 q c)).trans ?_
  refine or_congr_right ⟨fun ⟨k, hk⟩ => ?_, fun h => ⟨ix1 q, (spots_iff b bn hb hn q q c).2 ⟨rfl, h⟩⟩⟩
  rw [eq_ix1 k] at hk
  obtain ⟨h1, h2⟩ := (spots_iff b bn hb hn _ q c).1 hk
  rw [← h1]
  exact h2

theorem touched_at (x : IVec S1024x8192 1) (r c : Fin 8192) :
    touched p x (ix2 r c) = 1#1 ↔ ∃ q, rowOf p hp q = r ∧ x (ix2 q c) = 1#1 := by
  unfold touched
  refine (maxui_at _ _ _ _).trans ⟨fun ⟨k, hk, hx⟩ => ?_, fun ⟨q, h, hx⟩ => ⟨ix2 q c, (rows_iff p hp q c r c).2 ⟨h, rfl⟩, hx⟩⟩
  rw [eq_ix2 k] at hk hx
  obtain ⟨h1, h2⟩ := (rows_iff p hp _ _ r c).1 hk
  rw [h2] at hx
  exact ⟨k 0, h1, hx⟩

theorem clip_form {s : Shape} (hi lo g x y : FVec Ideal s .f32) (h : IVec s 1) (i : s.Idx) :
    minimumf hi (maximumf lo (mulf g (select h x y))) i
      = min (hi i : EReal) (max (lo i : EReal) ((g i : EReal) * Scalar.select (h i) (x i : EReal) (y i : EReal))) := rfl

theorem bc_at {s : Shape} (h : S_.BroadcastsInDim s ![]) (w : BitVec 32) (i : s.Idx) :
    (broadcastInDim s ![] h (constant (F := Ideal) S_ .f32 w)) i = Ideal.ofBits .f32 w := rfl

include hb hn in
/-- The new table at an entry. -/
theorem table_at (W : FVec Ideal S8192x8192 .f32) (e : FVec Ideal S1024 .f32) (st : IVec S1024x8192 1) (r c : Fin 8192) (t : Prop) [Decidable t]
    (ht : t ↔ ∃ q, rowOf p hp q = r ∧ (st (ix2 q c) = 1#1 ∨ bn q = c.val)) :
    table W p e st b (ix2 r c) = min (Ideal.ofBits .f32 0x40000000#32) (max (Ideal.ofBits .f32 0xC0000000#32)
      (((W (ix2 r c) : EReal) + ∑ q ∈ Finset.univ.filter (fun q => rowOf p hp q = r),
          ((if st (ix2 q c) = 1#1 then (learn e (ix1 q) : EReal) else 0) + (if bn q = c.val then (learn e (ix1 q) : EReal) else 0)))
        * (if t then Ideal.ofBits .f32 0x3F7FFEB0#32 else Ideal.ofBits .f32 0x3F7FBE77#32))) := by
  have h1 : touched p (seen st b) (ix2 r c) = BitVec.ofBool (decide t) := by
    have h : touched p (seen st b) (ix2 r c) = 1#1 ↔ t :=
      (touched_at p hp _ r c).trans ((exists_congr fun q => and_congr_right fun _ => seen_at b bn hb hn st q c).trans ht.symm)
    by_cases h' : t
    · rw [h.2 h', decide_eq_true h']; rfl
    · rw [decide_eq_false h']
      exact ((show ∀ x : BitVec 1, x = 0#1 ∨ x = 1#1 by decide) _).resolve_right fun q => h' (h.1 q)
  unfold table
  rw [clip_form]
  rw [h1, WordCmp.select_decide, rows_sum p hp]
  have k : ∀ w, broadcastInDim S8192x8192 ![] bcast_S_S8192x8192 (constant (F := Ideal) S_ .f32 w) (ix2 r c) = Ideal.ofBits .f32 w := fun w => bc_at _ w _
  simp only [added_at b bn hb hn, k]

end Cert.Proof.Ref

end
-- ==== Proof.Weights.lean ====
/-
  The new weights: the kernel's and the reference's are the same table.
-/
module

public import proofs.«01_k».proof.Proof.Sums
public import proofs.«01_k».proof.Proof.RefRows

@[expose] public section

noncomputable section

namespace Cert.Proof.Run

open Cert.KernelIdeal Cert.KernelIdeal.Gen

open Idealize.ShloMosaic Idealize.ShloMosaic.Routing Idealize.ShloMosaic.ValueIdx

abbrev strength : EReal := Ideal.ofBits .f32 0x3F19999A#32

theorem amounts_at (p : IVec S1024 32) (e : FVec Ideal S1024 .f32) (j : Fin 1024) :
    amounts p e (at1040 j.val) = Ref.learn e (ix1 (perm p j)) := by
  unfold amounts behindF
  refine (concatenate_pair_apply_left (t := S1040) (s₁ := S1024) (s₂ := S16) 0 _ _ _ _ rfl (ix1 j) fun b => by
    match b with
    | ⟨0, _⟩ => exact (Nat.mod_eq_of_lt (show j.val < 1040 by omega)).symm).trans ?_
  exact (learned_at p e j).trans rfl

theorem ofBool_one (P : Prop) [Decidable P] : BitVec.ofBool (decide P) = 1#1 ↔ P := by
  by_cases h : P <;> simp [h]

theorem strong_one (x n : FVec Ideal S1024x8192 .f32) (k : S1024x8192.Idx) :
    Ref.strong x n k = 1#1 ↔ strength < (x k : EReal) ∧ (n k : EReal) < reach := by
  have h : Ref.strong x n k = IntOp.andi (Ideal.cmp .ogt (x k) strength) (Ideal.cmp .olt (n k) reach) := rfl
  rw [h]
  unfold Ideal.cmp
  rw [WordCmp.andi_ofBool, ← Bool.decide_and, ofBool_one]

/-- A score of a real entry is real. -/
theorem pElt_real (w : ℝ) (ε : ℝ) (h : Ideal.ofBits .f32 0x358637BD#32 = (ε : EReal)) : pElt (F := Ideal) (w : EReal) = ((max w 0 + ε : ℝ) : EReal) := by
  show max (w : EReal) (Ideal.ofBits .f32 0x00000000#32) + Ideal.ofBits .f32 0x358637BD#32 = _
  rw [Ideal.ofBits_zero_f32, h, EReal.coe_add, EReal.coe_strictMono.monotone.map_max, EReal.coe_zero]

section Same
variable (W : FVec Ideal S8192x8192 .f32) (br : FVec Ideal S1024x8192 .f32) (p : IVec S1024 32) (e : FVec Ideal S1024 .f32)
  (hp : InRange p) (hW : ∀ i, ∃ a : ℝ, W i = (a : EReal))

/-- The best columns of the sparks: of a spark, the first greatest score on its row. -/
theorem best_columns (hq : ∀ q : Fin 1024, (p (ix1 q)).toNat < 8192) (hW : ∀ i, ∃ a : ℝ, W i = (a : EReal)) (q : Fin 1024) :
    ∃ t, FirstMax (fun j => j < 8192) (score fun y => W (rowAt (Ref.rowOf p hq q).val y)) t
      ∧ Ref.first (Ref.shares (Ref.raised W p)) (ix1 q) = BitVec.ofNat 32 t := by
  choose w hw using hW
  obtain ⟨ε, hε, he⟩ := eps_real
  have hx : ∀ k : S1024x8192.Idx, Ref.raised W p k = ((max (w (ix2 (Ref.rowOf p hq (k 0)) (k 1))) 0 + ε : ℝ) : EReal) := fun k => by
    obtain ⟨a, y, rfl⟩ : ∃ (a : Fin 1024) (y : Fin 8192), k = ix2 a y := ⟨k 0, k 1, eq_ix2 k⟩
    refine (Ref.raised_at p hq W a y).trans ?_
    rw [hw]
    exact pElt_real _ ε he
  obtain ⟨t, ht, hb⟩ := Ref.first_best (Ref.raised W p) _ (fun k => add_pos_of_nonneg_of_pos (le_max_right _ _) hε) hx q
  refine ⟨t, ?_, hb⟩
  have : (fun j => (Ref.raised W p (Ref.place q j) : EReal)) = score fun y => W (rowAt (Ref.rowOf p hq q).val y) := funext fun j => by
    refine (Ref.raised_at p hq W q _).trans ?_
    refine congrArg (fun k => pElt (F := Ideal) (W k)) ?_
    funext a
    match a with
    | 0 => exact Fin.ext (Nat.mod_eq_of_lt (Ref.rowOf p hq q).isLt).symm
    | 1 => rfl
  exact this ▸ ht

/-- The clip of both sides, whichever way its operands stand. -/
theorem clip_comm (x : EReal) : min (max x (Ideal.ofBits .f32 0xC0000000#32)) (Ideal.ofBits .f32 0x40000000#32)
    = min (Ideal.ofBits .f32 0x40000000#32) (max (Ideal.ofBits .f32 0xC0000000#32) x) := by
  rw [min_comm, max_comm]

/-- The sum of what the sparks of a row add: the sum over the drawn ones if the entry is strong, the sum over all if it is the best. -/
theorem added_sum {Q : Type} (G : Finset Q) (S B : Prop) [Decidable S] [Decidable B] (D s b : Q → Prop) [DecidablePred D] [DecidablePred s] [DecidablePred b]
    (hs : ∀ q ∈ G, s q ↔ S ∧ D q) (hb : ∀ q ∈ G, b q ↔ B) (l : Q → EReal) :
    ∑ q ∈ G, ((if s q then l q else 0) + (if b q then l q else 0))
      = (if S then ∑ q ∈ G, (if D q then l q else 0) else 0) + (if B then ∑ q ∈ G, l q else 0) := by
  rw [Finset.sum_add_distrib]
  congr 1
  · by_cases h : S
    · rw [if_pos h]
      exact Finset.sum_congr rfl fun q hq => if_congr ((hs q hq).trans (by simp [h])) rfl rfl
    · rw [if_neg h]
      exact Finset.sum_eq_zero fun q hq => if_neg fun h' => h ((hs q hq).1 h').1
  · by_cases h : B
    · rw [if_pos h]
      exact Finset.sum_congr rfl fun q hq => if_pos ((hb q hq).2 h)
    · rw [if_neg h]
      exact Finset.sum_eq_zero fun q hq => if_neg fun h' => h ((hb q hq).1 h')

variable (X : Tab Ideal) (hf : X.f = W) (hbr : X.fbr = br) (hgp : X.gp = padI (groupPos p)) (hgs : X.gs = padI (groupStart p))
  (hgc : X.gc = padI (groupSize p)) (hsp : X.sp = padI (order p)) (hsl : X.sl = amounts p e)

include hp hf hbr hgp hgs hgc hsp hsl in
open Classical in
/-- The new entry of a row that has sparks. -/
theorem newRow_eq (hq : ∀ q : Fin 1024, (p (ix1 q)).toNat < 8192) (n : Fin 1024) (r c : Fin 8192) (hr : (groupPos p (ix1 n)).toNat = r.val)
    (hsc : (groupStart p (ix1 n)).toNat + (groupSize p (ix1 n)).toNat ≤ 1024)
    (hP : ∀ j : Fin 1024, Ref.rowOf p hq (perm p j) = r
      ↔ (groupStart p (ix1 n)).toNat ≤ j.val ∧ j.val < (groupStart p (ix1 n)).toNat + (groupSize p (ix1 n)).toNat)
    (t : ℕ) (ht : t < 8192) (hb : bestCol (F := Ideal) (fun y => W (rowAt r.val y)) = BitVec.ofNat 32 t) :
    (X.newRow n.val (ix2 r c) : EReal) = min (Ideal.ofBits .f32 0x40000000#32) (max (Ideal.ofBits .f32 0xC0000000#32)
      (((W (ix2 r c) : EReal) + ((if strength < pElt (F := Ideal) (W (ix2 r c)) then
            ∑ q ∈ Finset.univ.filter (fun q => Ref.rowOf p hq q = r), (if (br (ix2 q c) : EReal) < reach then (Ref.learn e (ix1 q) : EReal) else 0) else 0)
          + (if c.val = t then ∑ q ∈ Finset.univ.filter (fun q => Ref.rowOf p hq q = r), (Ref.learn e (ix1 q) : EReal) else 0)))
        * (if (strength < pElt (F := Ideal) (W (ix2 r c)) ∧ ∃ q, Ref.rowOf p hq q = r ∧ (br (ix2 q c) : EReal) < reach) ∨ c.val = t
            then Ideal.ofBits .f32 0x3F7FFEB0#32 else Ideal.ofBits .f32 0x3F7FBE77#32))) := by
  have hpos : (X.gp (at1040 n.val)).toNat = r.val := by rw [hgp, at1040_pad _ n.isLt]; exact hr
  have hst : (X.gs (at1040 n.val)).toNat = (groupStart p (ix1 n)).toNat := by rw [hgs, at1040_pad _ n.isLt]
  have hsz : (X.gc (at1040 n.val)).toNat = (groupSize p (ix1 n)).toNat := by rw [hgc, at1040_pad _ n.isLt]
  have hle : ∀ j : Fin 1024, X.sl (at1040 j.val) = Ref.learn e (ix1 (perm p j)) := fun j => by rw [hsl]; exact amounts_at p e j
  have hdr : ∀ (j : Fin 1024) (y : S8192.Idx), X.fbr (drawAt (X.sp (at1040 j.val)).toNat y) = br (ix2 (perm p j) (y 0)) := fun j y => by
    rw [hbr, hsp, at1040_pad _ j.isLt]
    refine congrArg br ?_
    have hn : (order p (ix1 j)).toNat = (perm p j).val := by rw [order_at, BitVec.toNat_ofNat]; omega
    funext a
    match a with
    | 0 => exact Fin.ext ((congrArg (· % 1024) hn).trans (Nat.mod_eq_of_lt (perm p j).isLt))
    | 1 => rfl
  have hrow : rowAt r.val (colOf (ix2 r c : S8192x8192.Idx)) = ix2 r c := by
    funext a
    match a with
    | 0 => exact Fin.ext (Nat.mod_eq_of_lt r.isLt)
    | 1 => rfl
  unfold Tab.newRow rowElt
  rw [hpos, hst, hsz, hf, hb, hrow]
  rw [show (Scalar.cmpi .eq (BitVec.ofNat 32 ((colOf (ix2 r c : S8192x8192.Idx)) 0).val) (BitVec.ofNat 32 t)) = BitVec.ofBool (decide (c.val = t)) from
    WordCmp.cmpi_eq_ofNat (by have := c.isLt; show c.val < 2 ^ 32; omega) (by omega)]
  rw [finElt_eq, clip_comm]
  have hs := sumLe_group X (fun q => Ref.learn e (ix1 q)) (perm p) (perm_bijective p) _ _ hsc hle (fun q => Ref.rowOf p hq q = r) hP
  have ha := accRow_group X (fun q => Ref.learn e (ix1 q)) (fun q y => br (ix2 q y)) (perm p) (perm_bijective p) _ _ hsc hle hdr
    (fun q => Ref.rowOf p hq q = r) hP (colOf (ix2 r c))
  have hn := anyRow_group X (fun q y => br (ix2 q y)) (perm p) (perm_bijective p) _ _ hsc hdr (fun q => Ref.rowOf p hq q = r) hP (colOf (ix2 r c))
  have hn' := if_congr (or_congr_left (c := c.val = t) (and_congr_right fun _ : strength < pElt (F := Ideal) (W (ix2 r c)) => hn))
    (rfl : Ideal.ofBits .f32 0x3F7FFEB0#32 = _) (rfl : Ideal.ofBits .f32 0x3F7FBE77#32 = _)
  rw [hn', hs, ha]

include hp hf hbr hgp hgs hgc hsp hsl hW in
open Classical in
/-- The sparse pass over the decayed table leaves the reference's weights. -/
theorem newW_eq (g : S8192x8192.Idx → EReal) (hg : ∀ i, g i = min (Ideal.ofBits .f32 0x40000000#32) (max (Ideal.ofBits .f32 0xC0000000#32)
      ((W i : EReal) * Ideal.ofBits .f32 0x3F7FBE77#32))) (i : S8192x8192.Idx) : (X.newW g i : EReal) = Ref.weights W p e br i := by
  obtain ⟨r, c, rfl⟩ : ∃ r c : Fin 8192, i = ix2 r c := ⟨i 0, i 1, eq_ix2 i⟩
  have hq : ∀ q : Fin 1024, (p (ix1 q)).toNat < 8192 := fun q => hp _
  choose bn hbn hb using best_columns W p hq hW
  have hn : ∀ q, bn q < 8192 := fun q => (hbn q).1
  obtain ⟨t, ht, hbt⟩ := bestCol_best fun y => (W (rowAt r.val y) : EReal)
  have hbq : ∀ q, Ref.rowOf p hq q = r → bn q = t := fun q h => by
    have := hbn q
    rw [h] at this
    exact this.unique ht
  have hst : ∀ q, Ref.rowOf p hq q = r → (Ref.strong (Ref.raised W p) br (ix2 q c) = 1#1
      ↔ strength < pElt (F := Ideal) (W (ix2 r c)) ∧ (br (ix2 q c) : EReal) < reach) := fun q h => by
    rw [strong_one, Ref.raised_at p hq W q c, h]
  unfold Ref.weights
  by_cases h : ∃ q, Ref.rowOf p hq q = r
  · obtain ⟨q₀, h₀⟩ := h
    obtain ⟨j₀, rfl⟩ := (perm_bijective p).2 q₀
    have hrow : ∀ j : Fin 1024, Ref.rowOf p hq (perm p j) = r ↔ qAt p j.val = r.val := fun j => by
      rw [qAt_fin, Fin.ext_iff]
    obtain ⟨n, hg₀⟩ : ∃ n : Fin 1024, gid (qAt p) j₀.val = n.val := ⟨⟨_, (gid_le _ _).trans_lt j₀.isLt⟩, rfl⟩
    rcases groups p hp n with ⟨-, h1⟩ | ⟨h1, h2, h3, h4, h5⟩
    · exact absurd hg₀ (h1 j₀.val j₀.isLt)
    have hpos : (groupPos p (ix1 n)).toNat = r.val := ((h5 j₀.val j₀.isLt).1 hg₀).symm.trans ((hrow j₀).1 h₀)
    have hP : ∀ j : Fin 1024, Ref.rowOf p hq (perm p j) = r
        ↔ (groupStart p (ix1 n)).toNat ≤ j.val ∧ j.val < (groupStart p (ix1 n)).toNat + (groupSize p (ix1 n)).toNat := fun j => by
      rw [hrow j, ← hpos, ← h5 j.val j.isLt, h4 j.val j.isLt]
    have hgc' : (X.gc (at1040 n.val)).toNat = (groupSize p (ix1 n)).toNat := by rw [hgc, at1040_pad _ n.isLt]
    have hgp' : (X.gp (at1040 n.val)).toNat = (groupPos p (ix1 n)).toNat := by rw [hgp, at1040_pad _ n.isLt]
    rw [X.newW_hit (tab_distinct X p hp hgp hgc) g n (by rw [hgc']; exact h1) (ix2 r c) (by rw [hgp']; exact hpos),
      newRow_eq W br p e hp X hf hbr hgp hgs hgc hsp hsl hq n r c hpos h2 hP t ht.1 hbt]
    rw [Ref.table_at p hq _ bn hb hn W e _ r c ((strength < pElt (F := Ideal) (W (ix2 r c)) ∧ ∃ q, Ref.rowOf p hq q = r ∧ (br (ix2 q c) : EReal) < reach) ∨ c.val = t) ?_]
    · rw [added_sum (Finset.univ.filter fun q => Ref.rowOf p hq q = r) (strength < pElt (F := Ideal) (W (ix2 r c))) (c.val = t)
        (fun q => (br (ix2 q c) : EReal) < reach) _ _ (fun q h => hst q (Finset.mem_filter.1 h).2)
        (fun q h => by rw [hbq q (Finset.mem_filter.1 h).2, eq_comm])]
    · constructor
      · rintro (⟨hS, q, hqr, hd⟩ | hB)
        · exact ⟨q, hqr, Or.inl ((hst q hqr).2 ⟨hS, hd⟩)⟩
        · exact ⟨_, h₀, Or.inr ((hbq _ h₀).trans hB.symm)⟩
      · rintro ⟨q, hqr, hs | hB⟩
        · exact Or.inl ⟨((hst q hqr).1 hs).1, q, hqr, ((hst q hqr).1 hs).2⟩
        · exact Or.inr (hB.symm.trans (hbq q hqr))
  · have hmiss : ∀ n : Fin 1024, 0 < (X.gc (at1040 n.val)).toNat → (X.gp (at1040 n.val)).toNat ≠ ((ix2 r c : S8192x8192.Idx) 0).val := by
      intro n hn' hr
      rw [hgc, at1040_pad _ n.isLt] at hn'
      rw [hgp, at1040_pad _ n.isLt] at hr
      rcases groups p hp n with ⟨h0, -⟩ | ⟨-, h2, -, h4, h5⟩
      · exact absurd hn' (by show ¬ 0 < (groupSize p (ix1 n)).toNat; omega)
      have hn' : 0 < (groupSize p (ix1 n)).toNat := hn'
      have hj : (groupStart p (ix1 n)).toNat < 1024 := by omega
      have hqa : qAt p (groupStart p (ix1 n)).toNat = r.val := ((h5 _ hj).1 ((h4 _ hj).2 ⟨Nat.le_refl _, by omega⟩)).trans hr
      generalize (groupStart p (ix1 n)).toNat = s at hj hqa
      exact h ⟨perm p ⟨s, hj⟩, Fin.ext ((qAt_fin p ⟨s, hj⟩).symm.trans hqa)⟩
    rw [X.newW_miss g (ix2 r c) hmiss, hg, Ref.table_at p hq _ bn hb hn W e _ r c False (iff_of_false not_false fun ⟨q, hqr, _⟩ => h ⟨q, hqr⟩),
      Finset.filter_false_of_mem (fun q _ hqr => h ⟨q, hqr⟩), Finset.sum_empty, add_zero, if_neg not_false]

end Same

end Cert.Proof.Run

end
-- ==== Proof.Dense.lean ====
/-
  What the dense pass leaves in its two results, entry by entry.
-/
module

public import proofs.«01_k».proof.Proof.Region
public import Idealize.ShloMosaic.Lib.Pipeline.ValueKit.Point
public import Idealize.ShloMosaic.Lib.Pipeline.ValueKit.Acc
public import Idealize.ShloMosaic.Lib.Pointwise
public import Idealize.ShloMosaic.Lib.Routing.OpsSet

@[expose] public section

noncomputable section

namespace Cert.Proof.Run

open Cert.KernelIdeal Cert.KernelIdeal.Gen

open Idealize.ShloMosaic Idealize.ShloMosaic.Routing
open Idealize.ShloMosaic.Pipeline (Dat Window cellOf BodyObligation)
open Idealize.SL.Sem

variable (v : Dev nD → Valuation τ sig (Elt Ideal)) (c : Dev nD)

theorem index0 : ∀ t : Fin cfg0.N, win0_0.index t = ![0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0, 0] := (by decide +kernel : ∀ t : Fin grid0.N, _)

/-- A decayed entry. -/
def decayed (w : EReal) : EReal :=
  min (Ideal.ofBits .f32 0x40000000#32) (max (Ideal.ofBits .f32 0xC0000000#32) (w * Ideal.ofBits .f32 0x3F7FBE77#32))

theorem pay2_at (w : Vec Ideal S256x8192 .f32) (y : S256x8192.Idx) : k0_pay2 (F := Ideal) w y = decayed (w y) := rfl

theorem denseW_eq : denseW v c = fun i : S8192x8192.Idx => decayed (arrOf v c main_arg0 i) := by
  unfold denseW
  refine (dat v c).arrAt_eq_of_covers 4 _ (by decide +kernel) fun t hf y => ?_
  blk_simp
  rw [dat_after4]
  unfold outW
  frame_out
  rw [pay2_at]
  refine congrArg decayed ?_
  blk_ext! [blk3, index3, index4]

/-- An entry of the new state, from the old state, the entry's weights, its noise and its forced flag. -/
def stateElt (s w : Fin 8192 → EReal) (z f : EReal) : EReal :=
  if 0 < f then 1 else Ideal.logistic ((∑ k, s k * w k) + Ideal.ofBits .f32 0x3D4CCCCD#32 * z)

theorem pay1_at (w : Vec Ideal S256x8192 .f32) (s : Vec Ideal S1x8192 .f32) (z f : Vec Ideal S1x1x256 .f32) (y : S1x1x256.Idx) :
    k0_pay1 (F := Ideal) w s z f y = stateElt (fun k => s (ix2 (0 : Fin 1) k)) (fun k => w (ix2 (⟨(y 2).val, (y 2).isLt⟩ : Fin 256) k)) (z y) (f y) := by
  unfold k0_pay1
  dsimp only
  pointwise
  rfl

theorem stateElt_congr {s s' w w' : Fin 8192 → EReal} {z z' f f' : EReal} (hs : ∀ k, s k = s' k) (hw : ∀ k, w k = w' k) (hz : z = z') (hf : f = f') :
    stateElt s w z f = stateElt s' w' z' f' := by
  rw [funext hs, funext hw, hz, hf]

theorem blk0_at (t : Fin cfg0.N) (k : Fin 8192) :
    blk0 v c t (ix2 (0 : Fin 1) k) = (arrOf v c main_v75 : S1x8192.Idx → EReal) (ix2 (0 : Fin 1) k) := by
  blk_ext! [blk0, index0]

theorem blk3_at (t : Fin cfg0.N) (a : Fin 256) (k : Fin 8192) (r : Fin 8192) (hr : r.val = 256 * t.val + a.val) :
    blk3 v c t (ix2 a k) = (arrOf v c main_arg0 : S8192x8192.Idx → EReal) (ix2 r k) := by
  blk_ext! [blk3, index3]

theorem blk1_at (t : Fin cfg0.N) (y : S1x1x256.Idx) :
    blk1 v c t y = (arrOf v c main_v76 : S32x1x256.Idx → EReal) (ix3 (⟨t.val, t.isLt⟩ : Fin 32) (0 : Fin 1) (⟨(y 2).val, (y 2).isLt⟩ : Fin 256)) := by
  blk_ext! [blk1, index1]

theorem blk2_at (t : Fin cfg0.N) (y : S1x1x256.Idx) :
    blk2 v c t y = (arrOf v c main_v77 : S32x1x256.Idx → EReal) (ix3 (⟨t.val, t.isLt⟩ : Fin 32) (0 : Fin 1) (⟨(y 2).val, (y 2).isLt⟩ : Fin 256)) := by
  blk_ext! [blk2, index2]

theorem emb5_at (t : Fin cfg0.N) (y : S1x1x256.Idx) :
    (win0_5.blk t).view.emb y = (ix3 (⟨t.val, t.isLt⟩ : Fin 32) (0 : Fin 1) (⟨(y 2).val, (y 2).isLt⟩ : Fin 256) : S32x1x256.Idx) := by
  blk_ext! [index5]

/-- The new state by blocks of 256. -/
def stateArr (i : S32x1x256.Idx) : EReal :=
  stateElt (fun k => (arrOf v c main_v75 : S1x8192.Idx → EReal) (ix2 (0 : Fin 1) k))
    (fun k => (arrOf v c main_arg0 : S8192x8192.Idx → EReal) (ix2 (⟨256 * (i 0).val + (i 2).val, by idx_bounds i; omega⟩ : Fin 8192) k))
    ((arrOf v c main_v76 : S32x1x256.Idx → EReal) i) ((arrOf v c main_v77 : S32x1x256.Idx → EReal) i)

theorem denseS_eq : denseS v c = stateArr v c := by
  unfold denseS
  refine (dat v c).arrAt_eq_of_covers 5 _ (by decide +kernel) fun t hf y => ?_
  refine Eq.trans ?_ (congrArg (stateArr v c) (emb5_at t y)).symm
  blk_simp
  rw [dat_after5]
  unfold outS
  frame_out
  rw [pay1_at]
  unfold stateArr
  exact stateElt_congr (fun k => blk0_at v c t k) (fun k => blk3_at v c t _ k _ rfl) (blk1_at v c t y) (blk2_at v c t y)

/-- A reshape read at an index, through any index at the same place. -/
theorem cast_at {s t : Shape} {α : Type} (x : s.Idx → α) (h : s.ShapeCasts t) (j : t.Idx) (i : s.Idx) (e : (s.rowMajor i : ℕ) = t.rowMajor j) :
    shapeCast t x h j = x i := congrArg x (Shape.reshapeEquiv_eq_of_rowMajor _ e)

/-- The new state, flat. -/
theorem state_flat (s : FVec Ideal S8192 .f32) (W : FVec Ideal S8192x8192 .f32) (z f : FVec Ideal S8192 .f32)
    (h75 : arrOf v c main_v75 = shapeCast S1x8192 s shapeCasts_S8192_S1x8192) (h0 : arrOf v c main_arg0 = W)
    (h76 : arrOf v c main_v76 = shapeCast S32x1x256 z shapeCasts_S8192_S32x1x256)
    (h77 : arrOf v c main_v77 = shapeCast S32x1x256 f shapeCasts_S8192_S32x1x256) (r : Fin 8192) :
    shapeCast S8192 (denseS v c : S32x1x256.Idx → EReal) shapeCasts_S32x1x256_S8192 (ix1 r)
      = stateElt (fun k => s (ix1 k)) (fun k => W (ix2 r k)) (z (ix1 r)) (f (ix1 r)) := by
  have hr := r.isLt
  refine (cast_at _ _ _ (ix3 (⟨r.val / 256, by omega⟩ : Fin 32) (0 : Fin 1) (⟨r.val % 256, by omega⟩ : Fin 256)) ?_).trans ?_
  · rw [Shape.rowMajor_val_one, Shape.rowMajor_val_three]
    show (r.val / 256 * 1 + 0) * 256 + r.val % 256 = r.val
    omega
  have hflat : ∀ (x : FVec Ideal S8192 .f32), shapeCast S32x1x256 x shapeCasts_S8192_S32x1x256 (ix3 (⟨r.val / 256, by omega⟩ : Fin 32) (0 : Fin 1) (⟨r.val % 256, by omega⟩ : Fin 256)) = x (ix1 r) := fun x => by
    refine cast_at _ _ _ _ ?_
    rw [Shape.rowMajor_val_one, Shape.rowMajor_val_three]
    show r.val = (r.val / 256 * 1 + 0) * 256 + r.val % 256
    omega
  rw [denseS_eq]
  unfold stateArr
  rw [h75, h0, h76, h77]
  refine stateElt_congr (fun k => ?_) (fun k => ?_) (hflat z) (hflat f)
  · refine cast_at _ _ _ _ ?_
    rw [Shape.rowMajor_val_one, Shape.rowMajor_val_two]
    show k.val = 0 * 8192 + k.val
    omega
  · refine congrArg (fun a => W (ix2 a k)) (Fin.ext ?_)
    show 256 * (r.val / 256) + r.val % 256 = r.val
    omega

end Cert.Proof.Run

end
-- ==== Proof.NewState.lean ====
/-
  The new state: the kernel's and the reference's are the same row.
-/
module

public import proofs.«01_k».proof.Proof.Dense
public import proofs.«01_k».proof.Proof.Tables
public import proofs.«01_k».proof.Proof.RefRows

@[expose] public section

noncomputable section

namespace Cert.Proof.Run

open Cert.KernelIdeal Cert.KernelIdeal.Gen

open Idealize.ShloMosaic Idealize.ShloMosaic.Routing

/-- Two tables written at the same places in the same order: at an entry both are as they were, or both hold the same update. -/
theorem scatter_two {α β : Type} {s si u : Shape} {w : ℕ} (d : ScatterDims s si u) (x : s.Idx → α) (y : s.Idx → β) (idx : IVec si w)
    (f : u.Idx → α) (g : u.Idx → β) (i : s.Idx) :
    (Host.scatter d (fun _ b => b) x idx f i = x i ∧ Host.scatter d (fun _ b => b) y idx g i = y i)
      ∨ ∃ k, d.resultIdx? k idx = some i ∧ Host.scatter d (fun _ b => b) x idx f i = f k ∧ Host.scatter d (fun _ b => b) y idx g i = g k := by
  rw [scatter_at, scatter_at]
  generalize x i = a
  generalize y i = b
  generalize List.finRange u.numel = l
  induction l generalizing a b with
  | nil => exact Or.inl ⟨rfl, rfl⟩
  | cons n l ih =>
    rw [List.foldl_cons, List.foldl_cons]
    by_cases h : d.resultIdx? (u.rowMajor.symm n) idx = some i
    · rw [if_pos h, if_pos h]
      rcases ih (f (u.rowMajor.symm n)) (g (u.rowMajor.symm n)) with ⟨h1, h2⟩ | h'
      · exact Or.inr ⟨_, h, h1, h2⟩
      · exact Or.inr h'
    · rw [if_neg h, if_neg h]
      exact ih a b

variable (W : FVec Ideal S8192x8192 .f32) (s z : FVec Ideal S8192 .f32) (p a : IVec S1024 32)

/-- A firing rate is the logistic function of the row's product, noise added. -/
theorem rates_at (i : S8192.Idx) : Ref.rates W s z i
    = Ideal.logistic ((∑ k : Fin 8192, (leaked s (ix1 k) : EReal) * (W (ix2 (⟨(i 0).val, (i 0).isLt⟩ : Fin 8192) k) : EReal)) + Ideal.ofBits .f32 0x3D4CCCCD#32 * (z i : EReal)) := by
  have hd : Ref.drive W s z i = (∑ k : Fin 8192, (leaked s (ix1 k) : EReal) * (W (ix2 (⟨(i 0).val, (i 0).isLt⟩ : Fin 8192) k) : EReal)) + Ideal.ofBits .f32 0x3D4CCCCD#32 * (z i : EReal) := by
    unfold Ref.drive leaked
    pointwise
    exact congrArg₂ (· + ·) (Finset.sum_congr rfl fun k _ => mul_comm _ _) rfl
  rw [← hd]
  unfold Ref.rates Ideal.logistic
  generalize Ref.drive W s z = x
  pointwise

/-- A flag is above zero exactly where its bit is set. -/
theorem flag_pos (b : BitVec 1) : (0 : EReal) < ((b.toNat : ℝ) : EReal) ↔ b = 1#1 := by
  rcases (show ∀ x : BitVec 1, x = 0#1 ∨ x = 1#1 by decide) b with rfl | rfl <;> simp

/-- The value the reference writes for a spark: one if it is young, its row's rate otherwise. -/
theorem forced_at (hq : ∀ q : Fin 1024, (p (ValueIdx.ix1 q)).toNat < 8192) (x : FVec Ideal S8192 .f32) (q : Fin 1024) :
    Ref.forcedAt x p a (ValueIdx.ix1 q)
      = if cmpi .slt a (splat 5#32) (ValueIdx.ix1 q) = 1#1 then (1 : EReal) else x (ValueIdx.ix1 (Ref.rowOf p hq q)) := by
  have hg : Host.gather Cert.ReferenceIdeal.gather_S8192_S1024x1_S1024_n_0_n_n_0_1_1 x (Ref.column 8192#32 p) (ValueIdx.ix1 q)
      = x (ValueIdx.ix1 (Ref.rowOf p hq q)) :=
    gather_take1 _ rfl rfl rfl rfl x _ q (Ref.rowOf p hq q) (Ref.pos_column p hq q) (by decide)
  unfold Ref.forcedAt
  show (if cmpi .slt a (splat 5#32) (ValueIdx.ix1 q) = 1#1 then Ideal.ofBits .f32 0x3F800000#32
    else if Ref.inside p (ValueIdx.ix1 q) = 1#1 then Host.gather Cert.ReferenceIdeal.gather_S8192_S1024x1_S1024_n_0_n_n_0_1_1 x (Ref.column 8192#32 p) (ValueIdx.ix1 q) else _) = _
  rw [if_pos (Ref.inside_at p hq (ValueIdx.ix1 q)), hg, Ideal.ofBits_one_f32]

/-- The reference's new state is the kernel's: one where the forced flag is set, the row's rate elsewhere. -/
theorem state_eq (hq : ∀ q : Fin 1024, (p (ValueIdx.ix1 q)).toNat < 8192) (i : S8192.Idx) :
    (Ref.state W s z p a i : EReal)
      = stateElt (fun k => leaked s (ix1 k)) (fun k => W (ix2 (⟨(i 0).val, (i 0).isLt⟩ : Fin 8192) k)) (z i) (forced (F := Ideal) p a i) := by
  unfold stateElt Ref.state forced
  rw [← rates_at]
  rcases scatter_two Cert.ReferenceIdeal.scatter_S8192_S1024x1_S1024_n_0_0_1 (Ref.rates W s z)
    (broadcastInDim S8192 ![] bcast_S_S8192 (constant (F := Ideal) S_ .f32 0x00000000#32)) (Ref.column 8192#32 p)
    (Ref.forcedAt (Ref.rates W s z) p a) (uitofp .f32 (cmpi .slt a (splat 5#32)))  i with ⟨h1, h2⟩ | ⟨k, hk, h1, h2⟩
  · refine h1.trans (if_neg fun h => ?_).symm
    have h0 : broadcastInDim S8192 ![] bcast_S_S8192 (constant (F := Ideal) S_ .f32 0x00000000#32) i = (0 : EReal) := Ideal.ofBits_zero_f32
    exact absurd (lt_of_lt_of_eq h (h2.trans h0)) (lt_irrefl _)
  · obtain ⟨q, rfl⟩ : ∃ q : Fin 1024, k = ValueIdx.ix1 q := ⟨k 0, ValueIdx.eq_ix1 k⟩
    obtain ⟨r, rfl⟩ : ∃ r : Fin 8192, i = ValueIdx.ix1 r := ⟨i 0, ValueIdx.eq_ix1 i⟩
    have hr : Ref.rowOf p hq q = r := by
      have h := (Ref.state_lands _ q r).1 hk
      rw [Ref.pos_int p hq q] at h
      exact Fin.ext (by exact_mod_cast h)
    refine h1.trans ((forced_at p a hq _ q).trans ?_)
    rw [hr]
    have h3 := (flag_pos (cmpi .slt a (splat 5#32) (ValueIdx.ix1 q)))
    refine if_congr (Iff.trans h3.symm ?_) rfl rfl
    exact iff_of_eq (congrArg (fun t : EReal => 0 < t) h2.symm)

end Cert.Proof.Run

end
-- ==== Proof.RefTables.lean ====
/-
  The reference's line of operations leaves, in its results, the functions of its arguments that the stages name.
-/
module

public import proofs.«01_k».proof.Proof.RefHost
public import proofs.«01_k».proof.Proof.Stages

@[expose] public section

noncomputable section

namespace Cert.Proof.Ref

open Cert.ReferenceIdeal Cert.ReferenceIdeal.Gen

open Idealize.ShloMosaic Idealize.ShloMosaic.StableHlo Idealize.SL.Sem

variable {F : FTy → Type} [FloatOps F]

/-! ## The line in seven pieces -/

abbrev Ops (F : FTy → Type) [FloatOps F] : Type _ := List (HloOp τ sig (Elt F))

def s0 : Ops F := part0.1.take 54
def s1 : Ops F := (part0.1.drop 54).take 29
def s2 : Ops F := ((part0.1.drop 54).drop 29).take 10
def s3 : Ops F := ((part0.1.drop 54).drop 29).drop 10
def s4 : Ops F := part1.1.take 27
def s5 : Ops F := (part1.1.drop 27).take 21
def s6 : Ops F := (part1.1.drop 27).drop 21 ++ part2.1

theorem refOps_split : (refOps : Ops F) = s0 ++ (s1 ++ (s2 ++ (s3 ++ (s4 ++ (s5 ++ s6))))) := by
  have h : ∀ p0 p1 p2 : Ops F, p0 ++ (p1 ++ p2)
      = p0.take 54 ++ ((p0.drop 54).take 29 ++ (((p0.drop 54).drop 29).take 10 ++ (((p0.drop 54).drop 29).drop 10
        ++ (p1.take 27 ++ ((p1.drop 27).take 21 ++ ((p1.drop 27).drop 21 ++ p2)))))) := by
    intro p0 p1 p2
    rw [← List.append_assoc ((p1.drop 27).take 21), List.take_append_drop, ← List.append_assoc (p1.take 27), List.take_append_drop,
      ← List.append_assoc (((p0.drop 54).drop 29).take 10), List.take_append_drop, ← List.append_assoc ((p0.drop 54).take 29), List.take_append_drop,
      ← List.append_assoc (p0.take 54), List.take_append_drop]
  exact h _ _ _

theorem after_app (a b : Ops F) (v : Valuation τ sig (Elt F)) : StableHlo.after (a ++ b) v = StableHlo.after b (StableHlo.after a v) := by
  induction a generalizing v with
  | nil => rfl
  | cons op a ih => exact ih _

/-! ## What each piece leaves -/

theorem beside_eq : (fun a b => concatenate S1024x2 1 [⟨S1024x1, a⟩, ⟨S1024x1, b⟩] concatenates_S1024x1_S1024x1_S1024x2_d1 : IVec S1024x1 32 → IVec S1024x1 32 → IVec S1024x2 32) = beside := rfl

theorem second_eq {ι α β : Type} (f : ι → α × β) : (fun j => (f j).2) = second f := rfl

variable (v : Valuation τ sig (Elt F))

theorem s0_at : StableHlo.after s0 v (Proc.devRef .tc main_v22) = state (v (Proc.devRef .tc main_arg0)) (v (Proc.devRef .tc main_arg1))
      (v (Proc.devRef .tc main_arg2)) (v (Proc.devRef .tc main_arg3)) (v (Proc.devRef .tc main_arg5))
    ∧ ∀ b ∈ [main_arg0, main_arg3, main_arg4, main_arg6], StableHlo.after s0 v (Proc.devRef .tc b) = v (Proc.devRef .tc b) := by
  unfold s0 part0
  simp only [take_list, forced_list, List.cons_append, List.nil_append, List.take_succ_cons, List.take_zero]
  simp only [List.mem_cons, List.not_mem_nil, or_false]
  refine ⟨?_, ?_⟩
  · after_reads_simp
    simp only [state, rates, drive, forcedAt, inside, column, splat, id_eq]
  · rintro b (rfl | rfl | rfl | rfl) <;> after_reads_simp

theorem s1_at : StableHlo.after s1 v (Proc.devRef .tc main_v26) = raised (v (Proc.devRef .tc main_arg0)) (v (Proc.devRef .tc main_arg3))
    ∧ ∀ b ∈ [main_arg0, main_arg3, main_arg4, main_arg6, main_v22], StableHlo.after s1 v (Proc.devRef .tc b) = v (Proc.devRef .tc b) := by
  unfold s1 part0
  simp only [take_list, forced_list, rows_list, relu_list, List.cons_append, List.nil_append, List.drop_succ_cons, List.drop_zero, List.take_succ_cons, List.take_zero]
  simp only [List.mem_cons, List.not_mem_nil, or_false]
  refine ⟨?_, ?_⟩
  · after_reads_simp
    simp only [raised, inside, column, splat]
  · rintro b (rfl | rfl | rfl | rfl | rfl) <;> after_reads_simp

theorem s2_at : StableHlo.after s2 v (Proc.devRef .tc main_v31) = first (shares (v (Proc.devRef .tc main_v26)))
    ∧ ∀ b ∈ [main_arg0, main_arg3, main_arg4, main_arg6, main_v22, main_v26], StableHlo.after s2 v (Proc.devRef .tc b) = v (Proc.devRef .tc b) := by
  unfold s2 part0
  simp only [take_list, forced_list, rows_list, relu_list, argmax_list, List.cons_append, List.nil_append, List.drop_succ_cons, List.drop_zero, List.take_succ_cons, List.take_zero]
  simp only [List.mem_cons, List.not_mem_nil, or_false]
  refine ⟨?_, ?_⟩
  · after_reads_simp
    simp only [first, shares]
    exact second_eq _
  · rintro b (rfl | rfl | rfl | rfl | rfl | rfl) <;> after_reads_simp

theorem s3_at : StableHlo.after s3 v (Proc.devRef .tc main_v36) = strong (v (Proc.devRef .tc main_v26)) (v (Proc.devRef .tc main_arg6))
    ∧ StableHlo.after s3 v (Proc.devRef .tc main_v42) = mulf (uitofp .f32 (strong (v (Proc.devRef .tc main_v26)) (v (Proc.devRef .tc main_arg6))))
        (broadcastInDim S1024x8192 ![0, 1] bcast_S1024x1_S1024x8192_0_1 (broadcastInDim S1024x1 ![0] bcast_S1024_S1024x1_0 (learn (v (Proc.devRef .tc main_arg4)))))
    ∧ StableHlo.after s3 v (Proc.devRef .tc main_v43) = iotaInDim S1024 32 0
    ∧ StableHlo.after s3 v (Proc.devRef .tc main_v45) = learn (v (Proc.devRef .tc main_arg4))
    ∧ ∀ b ∈ [main_arg0, main_arg3, main_arg4, main_v22, main_v31], StableHlo.after s3 v (Proc.devRef .tc b) = v (Proc.devRef .tc b) := by
  unfold s3 part0
  simp only [take_list, forced_list, rows_list, relu_list, argmax_list, List.cons_append, List.nil_append, List.drop_succ_cons, List.drop_zero]
  simp only [List.mem_cons, List.not_mem_nil, or_false]
  refine ⟨?_, ?_, ?_, ?_, ?_⟩
  · after_reads_simp
    simp only [strong]
  · after_reads_simp
    simp only [strong, learn]
  · after_reads_simp
  · after_reads_simp
    simp only [learn]
  · rintro b (rfl | rfl | rfl | rfl | rfl) <;> after_reads_simp

theorem s4_at : StableHlo.after s4 v (Proc.devRef .tc main_v66) = Host.scatterAdd scatter_S8192x8192_S1024x1_S1024x8192_1_0_0_1 (v (Proc.devRef .tc main_arg0))
      (column 8192#32 (v (Proc.devRef .tc main_arg3))) (Host.scatterAdd scatter_S1024x8192_S1024x2_S1024_n_01_01_1 (v (Proc.devRef .tc main_v42))
        (beside (column 1024#32 (v (Proc.devRef .tc main_v43))) (column 8192#32 (v (Proc.devRef .tc main_v31)))) (v (Proc.devRef .tc main_v45)))
    ∧ ∀ b ∈ [main_arg3, main_arg4, main_v22, main_v31, main_v36], StableHlo.after s4 v (Proc.devRef .tc b) = v (Proc.devRef .tc b) := by
  unfold s4 part1
  simp only [List.cons_append, List.nil_append, List.take_succ_cons, List.take_zero, beside_eq]
  simp only [List.mem_cons, List.not_mem_nil, or_false]
  refine ⟨?_, ?_⟩
  · after_reads_simp
    simp only [column, splat]
  · rintro b (rfl | rfl | rfl | rfl | rfl) <;> after_reads_simp

theorem s5_at : StableHlo.after s5 v (Proc.devRef .tc main_v82) = seen (v (Proc.devRef .tc main_v36)) (v (Proc.devRef .tc main_v31))
    ∧ ∀ b ∈ [main_arg3, main_arg4, main_v22, main_v66], StableHlo.after s5 v (Proc.devRef .tc b) = v (Proc.devRef .tc b) := by
  unfold s5 part1
  simp only [List.cons_append, List.nil_append, List.drop_succ_cons, List.drop_zero, List.take_succ_cons, List.take_zero, beside_eq]
  simp only [List.mem_cons, List.not_mem_nil, or_false]
  refine ⟨?_, ?_⟩
  · after_reads_simp
    simp only [seen, spots, column, splat]
  · rintro b (rfl | rfl | rfl | rfl) <;> after_reads_simp

theorem s6_at : StableHlo.after s6 v (Proc.devRef .tc main_v94)
      = minimumf (broadcastInDim S8192x8192 ![] bcast_S_S8192x8192 (constant S_ .f32 0x40000000#32))
        (maximumf (broadcastInDim S8192x8192 ![] bcast_S_S8192x8192 (constant S_ .f32 0xC0000000#32))
          (mulf (v (Proc.devRef .tc main_v66)) (select (touched (v (Proc.devRef .tc main_arg3)) (v (Proc.devRef .tc main_v82)))
            (broadcastInDim S8192x8192 ![] bcast_S_S8192x8192 (constant S_ .f32 0x3F7FFEB0#32))
            (broadcastInDim S8192x8192 ![] bcast_S_S8192x8192 (constant S_ .f32 0x3F7FBE77#32)))))
    ∧ StableHlo.after s6 v (Proc.devRef .tc main_v96) = energy (v (Proc.devRef .tc main_arg4))
    ∧ StableHlo.after s6 v (Proc.devRef .tc main_v22) = v (Proc.devRef .tc main_v22) := by
  unfold s6 part1 part2
  simp only [decay_list, clip_list, List.cons_append, List.nil_append, List.drop_succ_cons, List.drop_zero]
  refine ⟨?_, ?_, ?_⟩
  · after_reads_simp
    simp only [touched, column, splat, id_eq]
  · after_reads_simp
    simp only [energy]
  · after_reads_simp

/-! ## The results of the whole line -/

theorem ref_results : StableHlo.after refOps v (Proc.devRef .tc main_v94) = weights (v (Proc.devRef .tc main_arg0)) (v (Proc.devRef .tc main_arg3))
      (v (Proc.devRef .tc main_arg4)) (v (Proc.devRef .tc main_arg6))
    ∧ StableHlo.after refOps v (Proc.devRef .tc main_v22) = state (v (Proc.devRef .tc main_arg0)) (v (Proc.devRef .tc main_arg1))
      (v (Proc.devRef .tc main_arg2)) (v (Proc.devRef .tc main_arg3)) (v (Proc.devRef .tc main_arg5))
    ∧ StableHlo.after refOps v (Proc.devRef .tc main_v96) = energy (v (Proc.devRef .tc main_arg4)) := by
  rw [refOps_split]
  simp only [after_app]
  obtain ⟨a0, k0⟩ := s0_at v
  generalize StableHlo.after s0 v = v0 at *
  obtain ⟨a1, k1⟩ := s1_at v0
  generalize StableHlo.after s1 v0 = v1 at *
  obtain ⟨a2, k2⟩ := s2_at v1
  generalize StableHlo.after s2 v1 = v2 at *
  obtain ⟨a3, b3, c3, d3, k3⟩ := s3_at v2
  generalize StableHlo.after s3 v2 = v3 at *
  obtain ⟨a4, k4⟩ := s4_at v3
  generalize StableHlo.after s4 v3 = v4 at *
  obtain ⟨a5, k5⟩ := s5_at v4
  generalize StableHlo.after s5 v4 = v5 at *
  obtain ⟨a6, b6, c6⟩ := s6_at v5
  have e26 : v1 (Proc.devRef .tc main_v26) = raised (v (Proc.devRef .tc main_arg0)) (v (Proc.devRef .tc main_arg3)) := by
    rw [a1, k0 main_arg0 (by simp), k0 main_arg3 (by simp)]
  have e31 : v2 (Proc.devRef .tc main_v31) = first (shares (raised (v (Proc.devRef .tc main_arg0)) (v (Proc.devRef .tc main_arg3)))) := by
    rw [a2, e26]
  have e36 : v3 (Proc.devRef .tc main_v36) = strong (raised (v (Proc.devRef .tc main_arg0)) (v (Proc.devRef .tc main_arg3))) (v (Proc.devRef .tc main_arg6)) := by
    rw [a3, k2 main_v26 (by simp), e26, k2 main_arg6 (by simp), k1 main_arg6 (by simp), k0 main_arg6 (by simp)]
  have p4 : v2 (Proc.devRef .tc main_arg4) = v (Proc.devRef .tc main_arg4) := by
    rw [k2 main_arg4 (by simp), k1 main_arg4 (by simp), k0 main_arg4 (by simp)]
  have e3 : v3 (Proc.devRef .tc main_arg3) = v (Proc.devRef .tc main_arg3) := by
    rw [k3 main_arg3 (by simp), k2 main_arg3 (by simp), k1 main_arg3 (by simp), k0 main_arg3 (by simp)]
  have e0 : v3 (Proc.devRef .tc main_arg0) = v (Proc.devRef .tc main_arg0) := by
    rw [k3 main_arg0 (by simp), k2 main_arg0 (by simp), k1 main_arg0 (by simp), k0 main_arg0 (by simp)]
  have e42 := b3.trans (congrArg₂ (fun a b => mulf (uitofp .f32 a)
    (broadcastInDim S1024x8192 ![0, 1] bcast_S1024x1_S1024x8192_0_1 (broadcastInDim S1024x1 ![0] bcast_S1024_S1024x1_0 (learn b)))) (a3.symm.trans e36) p4)
  refine ⟨?_, ?_, ?_⟩
  · rw [a6, k5 main_v66 (by simp), a4, k5 main_arg3 (by simp), k4 main_arg3 (by simp), e3, a5, k4 main_v36 (by simp), e36, k4 main_v31 (by simp),
      k3 main_v31 (by simp), e31, e0, e42, c3, d3, p4]
    rfl
  · rw [c6, k5 main_v22 (by simp), k4 main_v22 (by simp), k3 main_v22 (by simp), k2 main_v22 (by simp), k1 main_v22 (by simp), a0]
  · rw [b6, k5 main_arg4 (by simp), k4 main_arg4 (by simp), k3 main_arg4 (by simp), p4]

end Cert.Proof.Ref

end
-- ==== Proof.Equation.lean ====
/-
  The kernel's three results are the reference's.
-/
module

public import proofs.«01_k».proof.Proof.Frames
public import proofs.«01_k».proof.Proof.Weights
public import proofs.«01_k».proof.Proof.NewState
public import proofs.«01_k».proof.Proof.RefTables

@[expose] public section

noncomputable section

namespace Cert.Proof.Run

open Cert.KernelIdeal Cert.KernelIdeal.Gen

open Idealize.ShloMosaic Idealize.ShloMosaic.Routing Idealize.SL.Sem

/-! ## The last contents of the three results -/

section Last
variable {F : FTy → Type} [FloatOps F] (m : (ℓ : Loc nD τ sig) → Buf (Elt F) ℓ) (d : Dev nD)

theorem V5_v79 : V5 m d (Proc.devRef .tc main_v79) = (tab m d).newW (V3 m d tO) := by
  have h : V5 m d (Proc.devRef .tc main_v79) = V4 m d (Proc.devRef .tc main_v79) := by
    unfold V5 tailOps
    after_reads_simp
  exact h.trans (Function.update_self _ _ _)

theorem V5_v80 : V5 m d (Proc.devRef .tc main_v80) = shapeCast S8192 (denseS (V1 m) d) shapeCasts_S32x1x256_S8192 := by
  have h : V5 m d (Proc.devRef .tc main_v80) = shapeCast S8192 (V4 m d (Proc.devRef .tc main_v78_1)) shapeCasts_S32x1x256_S8192 := by
    unfold V5 tailOps
    after_reads_simp
    rfl
  rw [h, V4_ne m d _ (devRef_ne (by decide)), V3_ne m d main_v78_1 (by decide), V2_S]

theorem V5_v82 : V5 m d (Proc.devRef .tc main_v82) = Ref.energy (m (d, Proc.devRef .tc main_arg4)) := by
  have h : V5 m d (Proc.devRef .tc main_v82) = Ref.energy (V4 m d (Proc.devRef .tc main_arg4)) := by
    unfold V5 tailOps
    after_reads_simp
    rfl
  rw [h, V4_ne m d _ (devRef_ne (by decide)), V3_V1 m d main_arg4 (by decide)]
  exact congrArg Ref.energy (host_other _ main_arg4 (by simp))

end Last

/-! ## They are the reference's -/

section Equal
variable (m : (ℓ : Loc nD τ sig) → Buf (Elt Ideal) ℓ) (d : Dev nD)

theorem weights_last (hp : InRange (m (d, Proc.devRef .tc main_arg3))) (hW : ∀ i, ∃ a : ℝ, (m (d, Proc.devRef .tc main_arg0) : S8192x8192.Idx → EReal) i = (a : EReal)) :
    V5 m d (Proc.devRef .tc main_v79) = Ref.weights (F := Ideal) (m (d, Proc.devRef .tc main_arg0)) (m (d, Proc.devRef .tc main_arg3))
      (m (d, Proc.devRef .tc main_arg4)) (m (d, Proc.devRef .tc main_arg6)) := by
  rw [V5_v79]
  have h0 : arrOf (V1 m) d main_arg0 = m (d, Proc.devRef .tc main_arg0) := host_other _ main_arg0 (by simp)
  refine funext fun i => ?_
  refine newW_eq (m (d, Proc.devRef .tc main_arg0)) (m (d, Proc.devRef .tc main_arg6)) (m (d, Proc.devRef .tc main_arg3)) (m (d, Proc.devRef .tc main_arg4))
    hp hW (tab m d) (tab_f m d) (tab_fbr m d) (tab_gp m d) (tab_gs m d) (tab_gc m d) (tab_sp m d) (tab_sl m d) (V3 m d tO) (fun i => ?_) i
  have h1 : (V3 m d tO : S8192x8192.Idx → EReal) = fun i => decayed (arrOf (V1 m) d main_arg0 i) := (V3_O m d).trans (denseW_eq (V1 m) d)
  rw [h1, h0]
  rfl

theorem state_last (hp : InRange (m (d, Proc.devRef .tc main_arg3))) :
    V5 m d (Proc.devRef .tc main_v80) = Ref.state (F := Ideal) (m (d, Proc.devRef .tc main_arg0)) (m (d, Proc.devRef .tc main_arg1))
      (m (d, Proc.devRef .tc main_arg2)) (m (d, Proc.devRef .tc main_arg3)) (m (d, Proc.devRef .tc main_arg5)) := by
  rw [V5_v80]
  refine funext fun i => ?_
  obtain ⟨r, rfl⟩ : ∃ r : Fin 8192, i = ix1 r := ⟨i 0, funext fun a => match a with | ⟨0, _⟩ => rfl⟩
  refine (state_flat (V1 m) d (leaked (m (d, Proc.devRef .tc main_arg1))) (m (d, Proc.devRef .tc main_arg0)) (m (d, Proc.devRef .tc main_arg2))
    (forced (m (d, Proc.devRef .tc main_arg3)) (m (d, Proc.devRef .tc main_arg5))) (host_v75 _) (host_other _ main_arg0 (by simp)) (host_v76 _) (host_v77 _) r).trans ?_
  exact (state_eq (m (d, Proc.devRef .tc main_arg0)) (m (d, Proc.devRef .tc main_arg1)) (m (d, Proc.devRef .tc main_arg2)) (m (d, Proc.devRef .tc main_arg3))
    (m (d, Proc.devRef .tc main_arg5)) (fun q => hp _) (ix1 r)).symm

end Equal

/-! ## The claim -/

theorem algebraic [Cert.Pre_pos_in_range_w_finite.Facts] : Cert.algebraic_KernelIdeal_ReferenceIdeal_pre_pos_in_range_w_finite := by
  intro m g m' g' hpre hargs
  have hp : ∀ d, InRange (m (d, Proc.devRef .tc main_arg3)) := fun d => inRange_of_fin _ _ _ _ _ _ _ (hpre d)
  refine ⟨fun c => V5 m c (Proc.devRef .tc main_v79), fun c => V5 m c (Proc.devRef .tc main_v80), fun c => V5 m c (Proc.devRef .tc main_v82), ?_, ?_⟩
  · refine (θ_run _ _ _).mono (fun r hr c => ⟨hr.1 c _ (show Proc.devRef .tc main_v79 ∈ ucRefs by decide), hr.1 c _ (show Proc.devRef .tc main_v80 ∈ ucRefs by decide), hr.1 c _ (show Proc.devRef .tc main_v82 ∈ ucRefs by decide), ?_⟩) (run_main m g hp)
    and_intros <;> exact (hr.1 c _ (arg_uc _ (by simp))).trans (V5_arg m c _ (by simp))
  · refine (θ_run _ _ _).mono (fun r hr c => ?_) (Ref.run_ref (F := Ideal) m' g')
    obtain ⟨a0, a1, a2, a3, a4, a5, a6⟩ := hargs c
    obtain ⟨r0, r1, r2⟩ := Ref.ref_results (F := Ideal) (StableHlo.launchContents m' c)
    refine ⟨(hr.1 c _).trans (r0.trans ?_), (hr.1 c _).trans (r1.trans ?_), (hr.1 c _).trans (r2.trans ?_), ?_⟩
    · refine Eq.trans ?_ (weights_last m c (hp c) (finite_of_fin _ _ _ _ _ _ _ (hpre c))).symm
      exact congr (congr (congr (congrArg (Ref.weights (F := Ideal)) a0) a3) a4) a6
    · refine Eq.trans ?_ (state_last m c (hp c)).symm
      exact congr (congr (congr (congr (congrArg (Ref.state (F := Ideal)) a0) a1) a2) a3) a5
    · exact (congrArg (Ref.energy (F := Ideal)) a4).trans (V5_v82 m c).symm
    · and_intros <;> exact (hr.1 c _).trans (Ref.ops_other _ _ (by simp))

end Cert.Proof.Run

end
-- ==== Proof.lean ====
/-
  The proof of `Cert.Claim`: the frames of the kernel, of its idealization and of the reference, the idealization's steps, of which there
  are none, and the equality of the idealization's three results and the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.Same
public import proofs.«01_k».proof.Proof.RefHost
public import proofs.«01_k».proof.Proof.Equation
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m g h =>
  Run.frame_all Ideal m g fun d => Run.inRange_of_pos _ _ _ _ _ _ _ (h d)

theorem frame_reference : Cert.quiescent_ReferenceIdeal := fun m g _ =>
  (θ_run _ _ _).mono (fun _ hq => ⟨fun c => by and_intros <;> exact hq.1 c _ (by simp), hq.2⟩) (Ref.frame_of (F := Ideal) m g)

theorem frame_ideal_fin : Cert.quiescent_KernelIdeal_pre_pos_in_range_w_finite := fun m g h =>
  Run.frame_all Ideal m g fun d => Run.inRange_of_fin _ _ _ _ _ _ _ (h d)

theorem frame_reference_fin : Cert.quiescent_ReferenceIdeal_pre_pos_in_range_w_finite := fun m g _ =>
  (θ_run _ _ _).mono (fun _ hq => ⟨fun c => by and_intros <;> exact hq.1 c _ (by simp), hq.2⟩) (Ref.frame_of (F := Ideal) m g)

theorem claim : Cert.Claim := ⟨Cert.Kernel.Gen.facts, Cert.KernelIdeal.Gen.facts, Cert.ReferenceIdeal.Gen.facts, Run.facts_pos, Run.facts_fin,
  Run.frame_bits, frame_ideal, frame_ideal_fin, frame_reference, frame_reference_fin, trivial, Run.algebraic⟩

end Cert.Proof

end
